-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Ffs (m : (ℓ : Loc Cert.Ffs.nD Cert.Ffs.τ Cert.Ffs.sig) → Buf (Elt Bits) ℓ) : Prop :=
  True

def Pre_FfsIdeal (m : (ℓ : Loc Cert.FfsIdeal.nD Cert.FfsIdeal.τ Cert.FfsIdeal.sig) → Buf (Elt Ideal) ℓ) : Prop :=
  True

def Pre_FfsRefIdeal (m : (ℓ : Loc Cert.FfsRefIdeal.nD Cert.FfsRefIdeal.τ Cert.FfsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_Ffs [hFfs : Cert.Ffs.Facts] : Prop :=
  ∀ (m : (ℓ : Loc Cert.Ffs.nD Cert.Ffs.τ Cert.Ffs.sig) → Buf (Elt Bits) ℓ) (g : Dev Cert.Ffs.nD → PrngReg), Pre_Ffs m →
    θ_run (Cert.Ffs.defs (F := Bits)) (onTc (τ := Cert.Ffs.τ) (Cert.Ffs.main (F := Bits))) ⟨m, fun _ => 0, g⟩ (fun r => (∀ c : Dev Cert.Ffs.nD,
      r.2.mem ((c.tc : Thread Cert.Ffs.nD Cert.Ffs.τ).loc Cert.Ffs.main_arg0) = m ((c.tc : Thread Cert.Ffs.nD Cert.Ffs.τ).loc Cert.Ffs.main_arg0)
      ∧ r.2.mem ((c.tc : Thread Cert.Ffs.nD Cert.Ffs.τ).loc Cert.Ffs.main_arg1) = m ((c.tc : Thread Cert.Ffs.nD Cert.Ffs.τ).loc Cert.Ffs.main_arg1)
      ∧ r.2.mem ((c.tc : Thread Cert.Ffs.nD Cert.Ffs.τ).loc Cert.Ffs.main_arg2) = m ((c.tc : Thread Cert.Ffs.nD Cert.Ffs.τ).loc Cert.Ffs.main_arg2)
      ∧ r.2.mem ((c.tc : Thread Cert.Ffs.nD Cert.Ffs.τ).loc Cert.Ffs.main_arg3) = m ((c.tc : Thread Cert.Ffs.nD Cert.Ffs.τ).loc Cert.Ffs.main_arg3)
      ∧ r.2.mem ((c.tc : Thread Cert.Ffs.nD Cert.Ffs.τ).loc Cert.Ffs.main_arg4) = m ((c.tc : Thread Cert.Ffs.nD Cert.Ffs.τ).loc Cert.Ffs.main_arg4)
      ∧ r.2.mem ((c.tc : Thread Cert.Ffs.nD Cert.Ffs.τ).loc Cert.Ffs.main_arg5) = m ((c.tc : Thread Cert.Ffs.nD Cert.Ffs.τ).loc Cert.Ffs.main_arg5))
      ∧ r.2.sem = fun _ => 0)

def quiescent_FfsIdeal [hFfsIdeal : Cert.FfsIdeal.Facts] : Prop :=
  ∀ (m : (ℓ : Loc Cert.FfsIdeal.nD Cert.FfsIdeal.τ Cert.FfsIdeal.sig) → Buf (Elt Ideal) ℓ) (g : Dev Cert.FfsIdeal.nD → PrngReg), Pre_FfsIdeal m →
    θ_run (Cert.FfsIdeal.defs (F := Ideal)) (onTc (τ := Cert.FfsIdeal.τ) (Cert.FfsIdeal.main (F := Ideal))) ⟨m, fun _ => 0, g⟩ (fun r => (∀ c : Dev Cert.FfsIdeal.nD,
      r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
      ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
      ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
      ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
      ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
      ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5))
      ∧ r.2.sem = fun _ => 0)

def quiescent_FfsRefIdeal [hFfsRefIdeal : Cert.FfsRefIdeal.Facts] : Prop :=
  ∀ (m : (ℓ : Loc Cert.FfsRefIdeal.nD Cert.FfsRefIdeal.τ Cert.FfsRefIdeal.sig) → Buf (Elt Ideal) ℓ) (g : Dev Cert.FfsRefIdeal.nD → PrngReg), Pre_FfsRefIdeal m →
    θ_run (Cert.FfsRefIdeal.defs (F := Ideal)) (onTc (τ := Cert.FfsRefIdeal.τ) (Cert.FfsRefIdeal.main (F := Ideal))) ⟨m, fun _ => 0, g⟩ (fun r => (∀ c : Dev Cert.FfsRefIdeal.nD,
      r.2.mem ((c.tc : Thread Cert.FfsRefIdeal.nD Cert.FfsRefIdeal.τ).loc Cert.FfsRefIdeal.main_arg0) = m ((c.tc : Thread Cert.FfsRefIdeal.nD Cert.FfsRefIdeal.τ).loc Cert.FfsRefIdeal.main_arg0)
      ∧ r.2.mem ((c.tc : Thread Cert.FfsRefIdeal.nD Cert.FfsRefIdeal.τ).loc Cert.FfsRefIdeal.main_arg1) = m ((c.tc : Thread Cert.FfsRefIdeal.nD Cert.FfsRefIdeal.τ).loc Cert.FfsRefIdeal.main_arg1)
      ∧ r.2.mem ((c.tc : Thread Cert.FfsRefIdeal.nD Cert.FfsRefIdeal.τ).loc Cert.FfsRefIdeal.main_arg2) = m ((c.tc : Thread Cert.FfsRefIdeal.nD Cert.FfsRefIdeal.τ).loc Cert.FfsRefIdeal.main_arg2)
      ∧ r.2.mem ((c.tc : Thread Cert.FfsRefIdeal.nD Cert.FfsRefIdeal.τ).loc Cert.FfsRefIdeal.main_arg3) = m ((c.tc : Thread Cert.FfsRefIdeal.nD Cert.FfsRefIdeal.τ).loc Cert.FfsRefIdeal.main_arg3)
      ∧ r.2.mem ((c.tc : Thread Cert.FfsRefIdeal.nD Cert.FfsRefIdeal.τ).loc Cert.FfsRefIdeal.main_arg4) = m ((c.tc : Thread Cert.FfsRefIdeal.nD Cert.FfsRefIdeal.τ).loc Cert.FfsRefIdeal.main_arg4)
      ∧ r.2.mem ((c.tc : Thread Cert.FfsRefIdeal.nD Cert.FfsRefIdeal.τ).loc Cert.FfsRefIdeal.main_arg5) = m ((c.tc : Thread Cert.FfsRefIdeal.nD Cert.FfsRefIdeal.τ).loc Cert.FfsRefIdeal.main_arg5))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v176) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_v178) = v3 c
          ∧ r.2.mem ((c.tc : Thread Cert.ReferenceIdeal.nD Cert.ReferenceIdeal.τ).loc Cert.ReferenceIdeal.main_v69_7) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v16) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_Ffs_FfsIdeal : Prop :=
  True

def algebraic_FfsIdeal_FfsRefIdeal [hFfsIdeal : Cert.FfsIdeal.Facts] [hFfsRefIdeal : Cert.FfsRefIdeal.Facts] : Prop :=
  ∀ (m : (ℓ : Loc Cert.FfsIdeal.nD Cert.FfsIdeal.τ Cert.FfsIdeal.sig) → Buf (Elt Ideal) ℓ) (g : Dev Cert.FfsIdeal.nD → PrngReg)
    (m' : (ℓ : Loc Cert.FfsRefIdeal.nD Cert.FfsRefIdeal.τ Cert.FfsRefIdeal.sig) → Buf (Elt Ideal) ℓ) (g' : Dev Cert.FfsRefIdeal.nD → PrngReg), Pre_FfsIdeal m →
    (∀ c : Dev Cert.FfsIdeal.nD,
      m' ((c.tc : Thread Cert.FfsRefIdeal.nD Cert.FfsRefIdeal.τ).loc Cert.FfsRefIdeal.main_arg0) = m ((c.tc : Thread Cert.FfsIdeal.nD Cert.FfsIdeal.τ).loc Cert.FfsIdeal.main_arg0)
      ∧ m' ((c.tc : Thread Cert.FfsRefIdeal.nD Cert.FfsRefIdeal.τ).loc Cert.FfsRefIdeal.main_arg1) = m ((c.tc : Thread Cert.FfsIdeal.nD Cert.FfsIdeal.τ).loc Cert.FfsIdeal.main_arg1)
      ∧ m' ((c.tc : Thread Cert.FfsRefIdeal.nD Cert.FfsRefIdeal.τ).loc Cert.FfsRefIdeal.main_arg2) = m ((c.tc : Thread Cert.FfsIdeal.nD Cert.FfsIdeal.τ).loc Cert.FfsIdeal.main_arg2)
      ∧ m' ((c.tc : Thread Cert.FfsRefIdeal.nD Cert.FfsRefIdeal.τ).loc Cert.FfsRefIdeal.main_arg3) = m ((c.tc : Thread Cert.FfsIdeal.nD Cert.FfsIdeal.τ).loc Cert.FfsIdeal.main_arg3)
      ∧ m' ((c.tc : Thread Cert.FfsRefIdeal.nD Cert.FfsRefIdeal.τ).loc Cert.FfsRefIdeal.main_arg4) = m ((c.tc : Thread Cert.FfsIdeal.nD Cert.FfsIdeal.τ).loc Cert.FfsIdeal.main_arg4)
      ∧ m' ((c.tc : Thread Cert.FfsRefIdeal.nD Cert.FfsRefIdeal.τ).loc Cert.FfsRefIdeal.main_arg5) = m ((c.tc : Thread Cert.FfsIdeal.nD Cert.FfsIdeal.τ).loc Cert.FfsIdeal.main_arg5)) →
    ∃ (v0 : (c : Dev Cert.FfsIdeal.nD) → Buf (Elt Ideal) ((c.tc : Thread Cert.FfsIdeal.nD Cert.FfsIdeal.τ).loc Cert.FfsIdeal.main_v8)),
      θ_run (Cert.FfsIdeal.defs (F := Ideal)) (onTc (τ := Cert.FfsIdeal.τ) (Cert.FfsIdeal.main (F := Ideal))) ⟨m, fun _ => 0, g⟩ (fun r => ∀ c : Dev Cert.FfsIdeal.nD,
          r.2.mem ((c.tc : Thread Cert.FfsIdeal.nD Cert.FfsIdeal.τ).loc Cert.FfsIdeal.main_v8) = v0 c
          ∧ r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
          ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
          ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
          ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
          ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
          ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5))
      ∧ θ_run (Cert.FfsRefIdeal.defs (F := Ideal)) (onTc (τ := Cert.FfsRefIdeal.τ) (Cert.FfsRefIdeal.main (F := Ideal))) ⟨m', fun _ => 0, g'⟩ (fun r => ∀ c : Dev Cert.FfsRefIdeal.nD,
          r.2.mem ((c.tc : Thread Cert.FfsRefIdeal.nD Cert.FfsRefIdeal.τ).loc Cert.FfsRefIdeal.main_v33) = v0 c
          ∧ r.2.mem ((c.tc : Thread Cert.FfsRefIdeal.nD Cert.FfsRefIdeal.τ).loc Cert.FfsRefIdeal.main_arg0) = m' ((c.tc : Thread Cert.FfsRefIdeal.nD Cert.FfsRefIdeal.τ).loc Cert.FfsRefIdeal.main_arg0)
          ∧ r.2.mem ((c.tc : Thread Cert.FfsRefIdeal.nD Cert.FfsRefIdeal.τ).loc Cert.FfsRefIdeal.main_arg1) = m' ((c.tc : Thread Cert.FfsRefIdeal.nD Cert.FfsRefIdeal.τ).loc Cert.FfsRefIdeal.main_arg1)
          ∧ r.2.mem ((c.tc : Thread Cert.FfsRefIdeal.nD Cert.FfsRefIdeal.τ).loc Cert.FfsRefIdeal.main_arg2) = m' ((c.tc : Thread Cert.FfsRefIdeal.nD Cert.FfsRefIdeal.τ).loc Cert.FfsRefIdeal.main_arg2)
          ∧ r.2.mem ((c.tc : Thread Cert.FfsRefIdeal.nD Cert.FfsRefIdeal.τ).loc Cert.FfsRefIdeal.main_arg3) = m' ((c.tc : Thread Cert.FfsRefIdeal.nD Cert.FfsRefIdeal.τ).loc Cert.FfsRefIdeal.main_arg3)
          ∧ r.2.mem ((c.tc : Thread Cert.FfsRefIdeal.nD Cert.FfsRefIdeal.τ).loc Cert.FfsRefIdeal.main_arg4) = m' ((c.tc : Thread Cert.FfsRefIdeal.nD Cert.FfsRefIdeal.τ).loc Cert.FfsRefIdeal.main_arg4)
          ∧ r.2.mem ((c.tc : Thread Cert.FfsRefIdeal.nD Cert.FfsRefIdeal.τ).loc Cert.FfsRefIdeal.main_arg5) = m' ((c.tc : Thread Cert.FfsRefIdeal.nD Cert.FfsRefIdeal.τ).loc Cert.FfsRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hFfs : Cert.Ffs.Facts) (hFfsIdeal : Cert.FfsIdeal.Facts) (hFfsRefIdeal : Cert.FfsRefIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Ffs (hFfs := hFfs)
    ∧ quiescent_FfsIdeal (hFfsIdeal := hFfsIdeal)
    ∧ quiescent_FfsRefIdeal (hFfsRefIdeal := hFfsRefIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Ffs_FfsIdeal
    ∧ algebraic_FfsIdeal_FfsRefIdeal (hFfsIdeal := hFfsIdeal) (hFfsRefIdeal := hFfsRefIdeal)
-- ==== Pre_finite_args.lean ====
abbrev S16x64x6656 : Shape := ⟨3, ![16, 64, 6656]⟩
abbrev S16x2x1024 : Shape := ⟨3, ![16, 2, 1024]⟩
abbrev S16x1x3360 : Shape := ⟨3, ![16, 1, 3360]⟩
abbrev S16x16x64x64 : Shape := ⟨4, ![16, 16, 64, 64]⟩
abbrev S3x1024 : Shape := ⟨2, ![3, 1024]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S16x64x3200 : Shape := ⟨3, ![16, 64, 3200]⟩
abbrev S_ : Shape := ⟨0, ![]⟩
abbrev S16x1x3200 : Shape := ⟨3, ![16, 1, 3200]⟩
abbrev S3200 : Shape := ⟨1, ![3200]⟩

class Facts : Prop where
  slices_S16x64x6656_S16x64x3200_0_0_3072 : S16x64x6656.Slices ![0, 0, 3072] S16x64x3200
  bcast_S_S16x64x3200 : S_.BroadcastsInDim S16x64x3200 (![] : Fin 0 → Fin S16x64x3200.rank)
  slices_S16x1x3360_S16x1x3200_0_0_0 : S16x1x3360.Slices ![0, 0, 0] S16x1x3200
  bcast_S_S16x1x3200 : S_.BroadcastsInDim S16x1x3200 (![] : Fin 0 → Fin S16x1x3200.rank)
  bcast_S_S16x16x64x64 : S_.BroadcastsInDim S16x16x64x64 (![] : Fin 0 → Fin S16x16x64x64.rank)
  slices_S3360_S3200_0 : S3360.Slices ![0] S3200
  bcast_S_S3200 : S_.BroadcastsInDim S3200 (![] : Fin 0 → Fin S3200.rank)
  bcast_S_S1024 : S_.BroadcastsInDim S1024 (![] : Fin 0 → Fin S1024.rank)
  bcast_S_S64x1024 : S_.BroadcastsInDim S64x1024 (![] : Fin 0 → Fin S64x1024.rank)

variable [Facts]

def fn_part1 {F : FTy → Type} [FloatOps F] (main_arg8 : FVec F S1024 .f32) (main_arg9 : FVec F S64x1024 .f32) (main_arg11 : FVec F S1024 .f32) (main_arg12 : FVec F S1024 .f32) (main_v3 : IVec S16x64x3200 1) (main_v7 : IVec S16x1x3200 1) (main_v10 : IVec S16x16x64x64 1) (main_v14 : IVec S3200 1) (main_v17 : IVec S1024 1) (main_v18 : FVec F S64x1024 .f32) : IVec S16x64x3200 1 × IVec S16x1x3200 1 × IVec S16x16x64x64 1 × IVec S3200 1 × IVec S1024 1 × IVec S64x1024 1 × IVec S1024 1 × IVec S64x1024 1 × IVec S1024 1 × IVec S1024 1 :=
  let main_cst_4 : FVec F S_ .f32 := constant S_ .f32 0x7F800000#32
  let main_v19 : FVec F S64x1024 .f32 := broadcastInDim S64x1024 ![] bcast_S_S64x1024 main_cst_4
  let main_v20 : IVec S64x1024 1 := cmpf .olt main_v18 main_v19
  let main_v21 : FVec F S1024 .f32 := Host.absf main_arg8
  let main_cst_5 : FVec F S_ .f32 := constant S_ .f32 0x7F800000#32
  let main_v22 : FVec F S1024 .f32 := broadcastInDim S1024 ![] bcast_S_S1024 main_cst_5
  let main_v23 : IVec S1024 1 := cmpf .olt main_v21 main_v22
  let main_v24 : FVec F S64x1024 .f32 := Host.absf main_arg9
  let main_cst_6 : FVec F S_ .f32 := constant S_ .f32 0x7F800000#32
  let main_v25 : FVec F S64x1024 .f32 := broadcastInDim S64x1024 ![] bcast_S_S64x1024 main_cst_6
  let main_v26 : IVec S64x1024 1 := cmpf .olt main_v24 main_v25
  let main_v27 : FVec F S1024 .f32 := Host.absf main_arg11
  let main_cst_7 : FVec F S_ .f32 := constant S_ .f32 0x7F800000#32
  let main_v28 : FVec F S1024 .f32 := broadcastInDim S1024 ![] bcast_S_S1024 main_cst_7
  let main_v29 : IVec S1024 1 := cmpf .olt main_v27 main_v28
  let main_v30 : FVec F S1024 .f32 := Host.absf main_arg12
  let main_cst_8 : FVec F S_ .f32 := constant S_ .f32 0x7F800000#32
  let main_v31 : FVec F S1024 .f32 := broadcastInDim S1024 ![] bcast_S_S1024 main_cst_8
  let main_v32 : IVec S1024 1 := cmpf .olt main_v30 main_v31
  (main_v3, main_v7, main_v10, main_v14, main_v17, main_v20, main_v23, main_v26, main_v29, main_v32)

def fn {F : FTy → Type} [FloatOps F] (main_arg0 : FVec F S16x64x6656 .f32) (main_arg1 : FVec F S16x2x1024 .f32) (main_arg2 : FVec F S16x1x3360 .f32) (main_arg3 : FVec F S16x16x64x64 .f32) (main_arg4 : FVec F S3x1024 .f32) (main_arg5 : FVec F S3360 .f32) (main_arg6 : FVec F S1024 .f32) (main_arg7 : FVec F S64x1024 .f32) (main_arg8 : FVec F S1024 .f32) (main_arg9 : FVec F S64x1024 .f32) (main_arg10 : FVec F S160x1024 .f32) (main_arg11 : FVec F S1024 .f32) (main_arg12 : FVec F S1024 .f32) (main_arg13 : FVec F S16x64 .f32) (main_arg14 : FVec F S1024 .f32) (main_arg15 : FVec F S1024 .f32) : IVec S16x64x3200 1 × IVec S16x1x3200 1 × IVec S16x16x64x64 1 × IVec S3200 1 × IVec S1024 1 × IVec S64x1024 1 × IVec S1024 1 × IVec S64x1024 1 × IVec S1024 1 × IVec S1024 1 :=
  let main_v0 : FVec F S16x64x3200 .f32 := (extractStridedSlice S16x64x3200 ![0, 0, 3072] · slices_S16x64x6656_S16x64x3200_0_0_3072) main_arg0
  let main_v1 : FVec F S16x64x3200 .f32 := Host.absf main_v0
  let main_cst : FVec F S_ .f32 := constant S_ .f32 0x7F800000#32
  let main_v2 : FVec F S16x64x3200 .f32 := broadcastInDim S16x64x3200 ![] bcast_S_S16x64x3200 main_cst
  let main_v3 : IVec S16x64x3200 1 := cmpf .olt main_v1 main_v2
  let main_v4 : FVec F S16x1x3200 .f32 := (extractStridedSlice S16x1x3200 ![0, 0, 0] · slices_S16x1x3360_S16x1x3200_0_0_0) main_arg2
  let main_v5 : FVec F S16x1x3200 .f32 := Host.absf main_v4
  let main_cst_0 : FVec F S_ .f32 := constant S_ .f32 0x7F800000#32
  let main_v6 : FVec F S16x1x3200 .f32 := broadcastInDim S16x1x3200 ![] bcast_S_S16x1x3200 main_cst_0
  let main_v7 : IVec S16x1x3200 1 := cmpf .olt main_v5 main_v6
  let main_v8 : FVec F S16x16x64x64 .f32 := Host.absf main_arg3
  let main_cst_1 : FVec F S_ .f32 := constant S_ .f32 0x7F800000#32
  let main_v9 : FVec F S16x16x64x64 .f32 := broadcastInDim S16x16x64x64 ![] bcast_S_S16x16x64x64 main_cst_1
  let main_v10 : IVec S16x16x64x64 1 := cmpf .olt main_v8 main_v9
  let main_v11 : FVec F S3200 .f32 := (extractStridedSlice S3200 ![0] · slices_S3360_S3200_0) main_arg5
  let main_v12 : FVec F S3200 .f32 := Host.absf main_v11
  let main_cst_2 : FVec F S_ .f32 := constant S_ .f32 0x7F800000#32
  let main_v13 : FVec F S3200 .f32 := broadcastInDim S3200 ![] bcast_S_S3200 main_cst_2
  let main_v14 : IVec S3200 1 := cmpf .olt main_v12 main_v13
  let main_v15 : FVec F S1024 .f32 := Host.absf main_arg6
  let main_cst_3 : FVec F S_ .f32 := constant S_ .f32 0x7F800000#32
  let main_v16 : FVec F S1024 .f32 := broadcastInDim S1024 ![] bcast_S_S1024 main_cst_3
  let main_v17 : IVec S1024 1 := cmpf .olt main_v15 main_v16
  let main_v18 : FVec F S64x1024 .f32 := Host.absf main_arg7
  fn_part1 (F := F) main_arg8 main_arg9 main_arg11 main_arg12 main_v3 main_v7 main_v10 main_v14 main_v17 main_v18
-- ==== Kernel.lean ====
abbrev S16x64x6656 : Shape := ⟨3, ![16, 64, 6656]⟩
abbrev S16x2x1024 : Shape := ⟨3, ![16, 2, 1024]⟩
abbrev S16x1x3360 : Shape := ⟨3, ![16, 1, 3360]⟩
abbrev S16x16x64x64 : Shape := ⟨4, ![16, 16, 64, 64]⟩
abbrev S3x1024 : Shape := ⟨2, ![3, 1024]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S256 : Shape := ⟨1, ![256]⟩
abbrev S_ : Shape := ⟨0, ![]⟩
abbrev S1x3360 : Shape := ⟨2, ![1, 3360]⟩
abbrev S1x3584 : Shape := ⟨2, ![1, 3584]⟩
abbrev S1x1024 : Shape := ⟨2, ![1, 1024]⟩
abbrev S128x1024 : Shape := ⟨2, ![128, 1024]⟩
abbrev S256x1024 : Shape := ⟨2, ![256, 1024]⟩
abbrev S256x1 : Shape := ⟨2, ![256, 1]⟩
abbrev S1x256 : Shape := ⟨2, ![1, 256]⟩
abbrev S256x256 : Shape := ⟨2, ![256, 256]⟩
abbrev S16x1x3584 : Shape := ⟨3, ![16, 1, 3584]⟩
abbrev S16x64x1024 : Shape := ⟨3, ![16, 64, 1024]⟩
abbrev S1x64x1024 : Shape := ⟨3, ![1, 64, 1024]⟩
abbrev S1x64x512 : Shape := ⟨3, ![1, 64, 512]⟩
abbrev S1x2x1024 : Shape := ⟨3, ![1, 2, 1024]⟩
abbrev S1x1x3584 : Shape := ⟨3, ![1, 1, 3584]⟩
abbrev S1x16x64x64 : Shape := ⟨4, ![1, 16, 64, 64]⟩
abbrev S2x1024 : Shape := ⟨2, ![2, 1024]⟩
abbrev S1x1x64x64 : Shape := ⟨4, ![1, 1, 64, 64]⟩
abbrev S64x64 : Shape := ⟨2, ![64, 64]⟩
abbrev S64x256 : Shape := ⟨2, ![64, 256]⟩
abbrev S64x512 : Shape := ⟨2, ![64, 512]⟩
abbrev S1x512 : Shape := ⟨2, ![1, 512]⟩
abbrev S64x128 : Shape := ⟨2, ![64, 128]⟩
abbrev S128x256 : Shape := ⟨2, ![128, 256]⟩

abbrev nBuf : Space → Nat
  | .hbm => 72
  | .vmem => 55
  | .smem => 0
  | _ => 0

abbrev bufTy : (tb : Table) → Fin (tcTables nBuf tb) → BufTy
  | .hbm, ⟨0, _⟩ => ⟨S16x64x6656, .f32⟩
  | .hbm, ⟨1, _⟩ => ⟨S16x2x1024, .f32⟩
  | .hbm, ⟨2, _⟩ => ⟨S16x1x3360, .f32⟩
  | .hbm, ⟨3, _⟩ => ⟨S16x16x64x64, .f32⟩
  | .hbm, ⟨4, _⟩ => ⟨S3x1024, .f32⟩
  | .hbm, ⟨5, _⟩ => ⟨S3360, .f32⟩
  | .hbm, ⟨6, _⟩ => ⟨S1024, .f32⟩
  | .hbm, ⟨7, _⟩ => ⟨S64x1024, .f32⟩
  | .hbm, ⟨8, _⟩ => ⟨S1024, .f32⟩
  | .hbm, ⟨9, _⟩ => ⟨S64x1024, .f32⟩
  | .hbm, ⟨10, _⟩ => ⟨S160x1024, .f32⟩
  | .hbm, ⟨11, _⟩ => ⟨S1024, .f32⟩
  | .hbm, ⟨12, _⟩ => ⟨S1024, .f32⟩
  | .hbm, ⟨13, _⟩ => ⟨S16x64, .f32⟩
  | .hbm, ⟨14, _⟩ => ⟨S1024, .f32⟩
  | .hbm, ⟨15, _⟩ => ⟨S1024, .f32⟩
  | .hbm, ⟨16, _⟩ => ⟨S256, .i32⟩
  | .hbm, ⟨17, _⟩ => ⟨S_, .i32⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S256, .i32⟩
  | .hbm, ⟨26, _⟩ => ⟨S256, .i32⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S256, .i1⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S1x3360, .f32⟩
  | .hbm, ⟨36, _⟩ => ⟨S_, .i32⟩
  | .hbm, ⟨37, _⟩ => ⟨S_, .f32⟩
  | .hbm, ⟨38, _⟩ => ⟨S1x3584, .f32⟩
  | .hbm, ⟨39, _⟩ => ⟨S1x1024, .f32⟩
  | .hbm, ⟨40, _⟩ => ⟨S64x1024, .bf16⟩
  | .hbm, ⟨41, _⟩ => ⟨S_, .i32⟩
  | .hbm, ⟨42, _⟩ => ⟨S_, .bf16⟩
  | .hbm, ⟨43, _⟩ => ⟨S128x1024, .bf16⟩
  | .hbm, ⟨44, _⟩ => ⟨S1x1024, .f32⟩
  | .hbm, ⟨45, _⟩ => ⟨S64x1024, .bf16⟩
  | .hbm, ⟨46, _⟩ => ⟨S_, .i32⟩
  | .hbm, ⟨47, _⟩ => ⟨S_, .bf16⟩
  | .hbm, ⟨48, _⟩ => ⟨S128x1024, .bf16⟩
  | .hbm, ⟨49, _⟩ => ⟨S160x1024, .bf16⟩
  | .hbm, ⟨50, _⟩ => ⟨S_, .i32⟩
  | .hbm, ⟨51, _⟩ => ⟨S_, .bf16⟩
  | .hbm, ⟨52, _⟩ => ⟨S256x1024, .bf16⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S256x1, .i32⟩
  | .hbm, ⟨57, _⟩ => ⟨S1x256, .i32⟩
  | .hbm, ⟨58, _⟩ => ⟨S256x256, .i32⟩
  | .hbm, ⟨59, _⟩ => ⟨S256x256, .i32⟩
  | .hbm, ⟨60, _⟩ => ⟨S256x256, .i1⟩
  | .hbm, ⟨61, _⟩ => ⟨S256x256, .bf16⟩
  | .hbm, ⟨62, _⟩ => ⟨S1x1024, .f32⟩
  | .hbm, ⟨63, _⟩ => ⟨S1x1024, .f32⟩
  | .hbm, ⟨64, _⟩ => ⟨S_, .i32⟩
  | .hbm, ⟨65, _⟩ => ⟨S_, .f32⟩
  | .hbm, ⟨66, _⟩ => ⟨S16x1x3584, .f32⟩
  | .hbm, ⟨67, _⟩ => ⟨S16x64x1024, .bf16⟩
  | .hbm, ⟨68, _⟩ => ⟨S16x64x1024, .bf16⟩
  | .hbm, ⟨69, _⟩ => ⟨S16x2x1024, .f32⟩
  | .hbm, ⟨70, _⟩ => ⟨S16x1x3584, .f32⟩
  | .hbm, ⟨71, _⟩ => ⟨S16x16x64x64, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x512, .f32⟩
  | .local _ .vmem, ⟨13, _⟩ => ⟨S1x64x512, .f32⟩
  | .local _ .vmem, ⟨14, _⟩ => ⟨S1x2x1024, .f32⟩
  | .local _ .vmem, ⟨15, _⟩ => ⟨S1x2x1024, .f32⟩
  | .local _ .vmem, ⟨16, _⟩ => ⟨S1x1x3584, .f32⟩
  | .local _ .vmem, ⟨17, _⟩ => ⟨S1x1x3584, .f32⟩
  | .local _ .vmem, ⟨18, _⟩ => ⟨S1x16x64x64, .f32⟩
  | .local _ .vmem, ⟨19, _⟩ => ⟨S1x16x64x64, .f32⟩
  | .local _ .vmem, ⟨20, _⟩ => ⟨S3x1024, .f32⟩
  | .local _ .vmem, ⟨21, _⟩ => ⟨S1x3584, .f32⟩
  | .local _ .vmem, ⟨22, _⟩ => ⟨S1x1024, .f32⟩
  | .local _ .vmem, ⟨23, _⟩ => ⟨S128x1024, .bf16⟩
  | .local _ .vmem, ⟨24, _⟩ => ⟨S1x1024, .f32⟩
  | .local _ .vmem, ⟨25, _⟩ => ⟨S128x1024, .bf16⟩
  | .local _ .vmem, ⟨26, _⟩ => ⟨S256x1024, .bf16⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S256x256, .bf16⟩
  | .local _ .vmem, ⟨33, _⟩ => ⟨S1x64x1024, .bf16⟩
  | .local _ .vmem, ⟨34, _⟩ => ⟨S1x64x1024, .bf16⟩
  | .local _ .vmem, ⟨35, _⟩ => ⟨S1x64x1024, .bf16⟩
  | .local _ .vmem, ⟨36, _⟩ => ⟨S1x64x1024, .bf16⟩
  | .local _ .vmem, ⟨37, _⟩ => ⟨S1x2x1024, .f32⟩
  | .local _ .vmem, ⟨38, _⟩ => ⟨S1x2x1024, .f32⟩
  | .local _ .vmem, ⟨39, _⟩ => ⟨S1x1x3584, .f32⟩
  | .local _ .vmem, ⟨40, _⟩ => ⟨S1x1x3584, .f32⟩
  | .local _ .vmem, ⟨41, _⟩ => ⟨S1x16x64x64, .f32⟩
  | .local _ .vmem, ⟨42, _⟩ => ⟨S1x16x64x64, .f32⟩
  | .local _ .vmem, ⟨43, _⟩ => ⟨S2x1024, .f32⟩
  | .local _ .vmem, ⟨44, _⟩ => ⟨S1x3584, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | .local _ .vmem, ⟨48, _⟩ => ⟨S64x1024, .f32⟩
  | .local _ .vmem, ⟨49, _⟩ => ⟨S64x1024, .f32⟩
  | .local _ .vmem, ⟨50, _⟩ => ⟨S64x1024, .f32⟩
  | .local _ .vmem, ⟨51, _⟩ => ⟨S64x1024, .f32⟩
  | .local _ .vmem, ⟨52, _⟩ => ⟨S64x1024, .f32⟩
  | .local _ .vmem, ⟨53, _⟩ => ⟨S64x1024, .f32⟩
  | .local _ .vmem, ⟨54, _⟩ => ⟨S64x1024, .f32⟩
  | _, _ => ⟨S16x64x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v1 : Ref sig .tc := ⟨.hbm, 34, rfl⟩
abbrev main_v2 : Ref sig .tc := ⟨.hbm, 35, rfl⟩
abbrev main_c_0 : Ref sig .tc := ⟨.hbm, 36, rfl⟩
abbrev main_call1_v0 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_c_1 : Ref sig .tc := ⟨.hbm, 41, rfl⟩
abbrev main_call2_v0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_c_2 : Ref sig .tc := ⟨.hbm, 46, rfl⟩
abbrev main_call3_v0 : Ref sig .tc := ⟨.hbm, 47, rfl⟩
abbrev main_v9 : Ref sig .tc := ⟨.hbm, 48, rfl⟩
abbrev main_v10 : Ref sig .tc := ⟨.hbm, 49, rfl⟩
abbrev main_c_3 : Ref sig .tc := ⟨.hbm, 50, rfl⟩
abbrev main_call4_v0 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_c_4 : Ref sig .tc := ⟨.hbm, 64, rfl⟩
abbrev main_call5_v0 : Ref sig .tc := ⟨.hbm, 65, rfl⟩
abbrev main_v23 : Ref sig .tc := ⟨.hbm, 66, rfl⟩
abbrev main_v24_0 : Ref sig .tc := ⟨.hbm, 67, rfl⟩
abbrev main_v24_1 : Ref sig .tc := ⟨.hbm, 68, rfl⟩
abbrev main_v24_2 : Ref sig .tc := ⟨.hbm, 69, rfl⟩
abbrev main_v24_3 : Ref sig .tc := ⟨.hbm, 70, rfl⟩
abbrev main_v24_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_scratch3 : Ref sig .tc := ⟨.vmem, 46, rfl⟩
abbrev cc0_scratch4 : Ref sig .tc := ⟨.vmem, 47, rfl⟩
abbrev cc0_scratch5 : Ref sig .tc := ⟨.vmem, 48, rfl⟩
abbrev cc0_scratch6 : Ref sig .tc := ⟨.vmem, 49, rfl⟩
abbrev cc0_scratch7 : Ref sig .tc := ⟨.vmem, 50, rfl⟩
abbrev cc0_scratch8 : Ref sig .tc := ⟨.vmem, 51, rfl⟩
abbrev cc0_scratch9 : Ref sig .tc := ⟨.vmem, 52, rfl⟩
abbrev cc0_scratch10 : Ref sig .tc := ⟨.vmem, 53, rfl⟩
abbrev cc0_scratch11 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40
abbrev cc0_sem27_0 : DmaSem sig := 41
abbrev cc0_sem27_1 : DmaSem sig := 42

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_358 : BitVec 32 := 0#32
  let v1075 : BitVec 1 := Scalar.cmpi .eq arg1 c0_i32_358
  let v1076 : BitVec 32 := Scalar.extui v1075
  let c0_i32_359 : BitVec 32 := 0#32
  let v1077 : BitVec 1 := Scalar.cmpi .ne v1076 c0_i32_359
  v1077

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x3584 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x3584 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S256x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x64x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x64x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x2x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]

abbrev stage0_26 : Fin 2 → Memref sig .tc .vmem S1x1x3584 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]

abbrev stage0_27 : Fin 2 → Memref sig .tc .vmem S1x16x64x64 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false]
-- ==== ReferenceIdeal.lean ====
abbrev S16x64x6656 : Shape := ⟨3, ![16, 64, 6656]⟩
abbrev S16x2x1024 : Shape := ⟨3, ![16, 2, 1024]⟩
abbrev S16x1x3360 : Shape := ⟨3, ![16, 1, 3360]⟩
abbrev S16x16x64x64 : Shape := ⟨4, ![16, 16, 64, 64]⟩
abbrev S3x1024 : Shape := ⟨2, ![3, 1024]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S16x64x3360 : Shape := ⟨3, ![16, 64, 3360]⟩
abbrev S16x65x3360 : Shape := ⟨3, ![16, 65, 3360]⟩
abbrev S1x1x3360 : Shape := ⟨3, ![1, 1, 3360]⟩
abbrev S16x64x1024 : Shape := ⟨3, ![16, 64, 1024]⟩
abbrev S16x64x64 : Shape := ⟨3, ![16, 64, 64]⟩
abbrev S16x64x160 : Shape := ⟨3, ![16, 64, 160]⟩
abbrev S1x1x1024 : Shape := ⟨3, ![1, 1, 1024]⟩
abbrev S_ : Shape := ⟨0, ![]⟩
abbrev S16x64x16x64 : Shape := ⟨4, ![16, 64, 16, 64]⟩
abbrev S16x64x16 : Shape := ⟨3, ![16, 64, 16]⟩
abbrev S16x64x16x1 : Shape := ⟨4, ![16, 64, 16, 1]⟩
abbrev S64x16x16x64 : Shape := ⟨4, ![64, 16, 16, 64]⟩
abbrev S1x16x16x64 : Shape := ⟨4, ![1, 16, 16, 64]⟩
abbrev S16x16x64 : Shape := ⟨3, ![16, 16, 64]⟩
abbrev S16x16x1x64 : Shape := ⟨4, ![16, 16, 1, 64]⟩
abbrev S16x16x64x1 : Shape := ⟨4, ![16, 16, 64, 1]⟩
abbrev S1x1x16x64 : Shape := ⟨4, ![1, 1, 16, 64]⟩
abbrev S16x66x1024 : Shape := ⟨3, ![16, 66, 1024]⟩
abbrev S1x1024 : Shape := ⟨2, ![1, 1024]⟩
abbrev S16x1x3584 : Shape := ⟨3, ![16, 1, 3584]⟩

abbrev nBuf : Space → Nat
  | .hbm => 294
  | .vmem => 0
  | .smem => 0
  | _ => 0

abbrev hbmTy0_0 (i : Nat) : BufTy := match i % 128 with
  | 0 => ⟨S16x64x6656, .f32⟩
  | 1 => ⟨S16x2x1024, .f32⟩
  | 2 => ⟨S16x1x3360, .f32⟩
  | 3 => ⟨S16x16x64x64, .f32⟩
  | 4 => ⟨S3x1024, .f32⟩
  | 5 => ⟨S3360, .f32⟩
  | 6 => ⟨S1024, .f32⟩
  | 7 => ⟨S64x1024, .f32⟩
  | 8 => ⟨S1024, .f32⟩
  | 9 => ⟨S64x1024, .f32⟩
  | 10 => ⟨S160x1024, .f32⟩
  | 11 => ⟨S1024, .f32⟩
  | 12 => ⟨S1024, .f32⟩
  | 13 => ⟨S16x64, .f32⟩
  | 14 => ⟨S1024, .f32⟩
  | 15 => ⟨S1024, .f32⟩
  | 16 => ⟨S16x64x3360, .f32⟩
  | 17 => ⟨S16x65x3360, .f32⟩
  | 18 => ⟨S16x64x3360, .f32⟩
  | 19 => ⟨S16x64x3360, .f32⟩
  | 20 => ⟨S1x1x3360, .f32⟩
  | 21 => ⟨S16x64x3360, .f32⟩
  | 22 => ⟨S16x64x3360, .f32⟩
  | 23 => ⟨S16x64x3360, .f32⟩
  | 24 => ⟨S16x64x1024, .f32⟩
  | 25 => ⟨S16x64x1024, .f32⟩
  | 26 => ⟨S16x64x1024, .f32⟩
  | 27 => ⟨S16x64x64, .f32⟩
  | 28 => ⟨S16x64x64, .f32⟩
  | 29 => ⟨S16x64x160, .f32⟩
  | 30 => ⟨S16x64x1024, .f32⟩
  | 31 => ⟨S1x1x1024, .f32⟩
  | 32 => ⟨S16x64x1024, .f32⟩
  | 33 => ⟨S16x64x1024, .f32⟩
  | 34 => ⟨S16x64x1024, .f32⟩
  | 35 => ⟨S16x64x1024, .f32⟩
  | 36 => ⟨S_, .f32⟩
  | 37 => ⟨S16x64x1024, .f32⟩
  | 38 => ⟨S16x64x1024, .f32⟩
  | 39 => ⟨S_, .f32⟩
  | 40 => ⟨S16x64x1024, .f32⟩
  | 41 => ⟨S16x64x1024, .f32⟩
  | 42 => ⟨S16x64x64, .f32⟩
  | 43 => ⟨S16x64x1024, .f32⟩
  | 44 => ⟨S1x1x1024, .f32⟩
  | 45 => ⟨S16x64x1024, .f32⟩
  | 46 => ⟨S16x64x1024, .f32⟩
  | 47 => ⟨S16x64x1024, .f32⟩
  | 48 => ⟨S_, .f32⟩
  | 49 => ⟨S16x64x1024, .f32⟩
  | 50 => ⟨S16x64x1024, .f32⟩
  | 51 => ⟨S16x64x1024, .f32⟩
  | 52 => ⟨S16x64x1024, .f32⟩
  | 53 => ⟨S16x64x1024, .i1⟩
  | 54 => ⟨S16x64x1024, .f32⟩
  | 55 => ⟨S16x64x1024, .f32⟩
  | 56 => ⟨S16x64x1024, .f32⟩
  | 57 => ⟨S16x64x1024, .f32⟩
  | 58 => ⟨S16x64x1024, .f32⟩
  | 59 => ⟨S16x64x1024, .f32⟩
  | 60 => ⟨S16x64x1024, .f32⟩
  | 61 => ⟨S16x64x1024, .f32⟩
  | 62 => ⟨S16x64x1024, .f32⟩
  | 63 => ⟨S_, .f32⟩
  | 64 => ⟨S16x64x1024, .f32⟩
  | 65 => ⟨S16x64x1024, .f32⟩
  | 66 => ⟨S16x64x1024, .f32⟩
  | 67 => ⟨S16x64x1024, .f32⟩
  | 68 => ⟨S16x64x1024, .f32⟩
  | 69 => ⟨S1x1x1024, .f32⟩
  | 70 => ⟨S16x64x1024, .f32⟩
  | 71 => ⟨S16x64x1024, .f32⟩
  | 72 => ⟨S16x64x16x64, .f32⟩
  | 73 => ⟨S16x64x16x64, .f32⟩
  | 74 => ⟨S_, .f32⟩
  | 75 => ⟨S16x64x16, .f32⟩
  | 76 => ⟨S16x64x16x1, .f32⟩
  | 77 => ⟨S16x64x16x1, .f32⟩
  | 78 => ⟨S_, .f32⟩
  | 79 => ⟨S16x64x16x1, .f32⟩
  | 80 => ⟨S16x64x16x1, .f32⟩
  | 81 => ⟨S16x64x16x64, .f32⟩
  | 82 => ⟨S16x64x16x64, .f32⟩
  | 83 => ⟨S_, .f32⟩
  | 84 => ⟨S16x64x1024, .f32⟩
  | 85 => ⟨S16x64x1024, .f32⟩
  | 86 => ⟨S1x1x1024, .f32⟩
  | 87 => ⟨S16x64x1024, .f32⟩
  | 88 => ⟨S16x64x1024, .f32⟩
  | 89 => ⟨S_, .f32⟩
  | 90 => ⟨S16x64x1024, .f32⟩
  | 91 => ⟨S16x64x1024, .f32⟩
  | 92 => ⟨S16x64x1024, .f32⟩
  | 93 => ⟨S16x64x16x64, .f32⟩
  | 94 => ⟨S16x64x16x64, .f32⟩
  | 95 => ⟨S16x64x16x64, .f32⟩
  | 96 => ⟨S16x64x16x64, .f32⟩
  | 97 => ⟨S16x64x16x64, .f32⟩
  | 98 => ⟨S64x16x16x64, .f32⟩
  | 99 => ⟨S64x16x16x64, .f32⟩
  | 100 => ⟨S64x16x16x64, .f32⟩
  | 101 => ⟨S64x16x16x64, .f32⟩
  | 102 => ⟨S64x16x16x64, .f32⟩
  | 103 => ⟨S64x16x16x64, .f32⟩
  | 104 => ⟨S_, .f32⟩
  | 105 => ⟨S64x16x16x64, .f32⟩
  | 106 => ⟨S_, .i32⟩
  | 107 => ⟨S64x16x16x64, .f32⟩
  | 108 => ⟨S64x16x16x64, .f32⟩
  | 109 => ⟨S64x16x16x64, .f32⟩
  | 110 => ⟨S64x16x16x64, .f32⟩
  | 111 => ⟨S64x16x16x64, .f32⟩
  | 112 => ⟨S64x16x16x64, .f32⟩
  | 113 => ⟨S_, .i32⟩
  | 114 => ⟨S16x16x64x64, .f32⟩
  | 115 => ⟨S64x16x16x64, .f32⟩
  | 116 => ⟨S_, .i32⟩
  | 117 => ⟨S_, .i1⟩
  | 118 => ⟨S_, .i32⟩
  | 119 => ⟨S_, .i32⟩
  | 120 => ⟨S_, .i32⟩
  | 121 => ⟨S1x16x16x64, .f32⟩
  | 122 => ⟨S16x16x64, .f32⟩
  | 123 => ⟨S_, .i32⟩
  | 124 => ⟨S_, .i32⟩
  | 125 => ⟨S_, .i32⟩
  | 126 => ⟨S1x16x16x64, .f32⟩
  | 127 => ⟨S16x16x64, .f32⟩
  | _ => ⟨S16x64x6656, .f32⟩

abbrev hbmTy0_1 (i : Nat) : BufTy := match i % 128 with
  | 0 => ⟨S_, .i32⟩
  | 1 => ⟨S_, .i32⟩
  | 2 => ⟨S_, .i32⟩
  | 3 => ⟨S1x16x16x64, .f32⟩
  | 4 => ⟨S16x16x64, .f32⟩
  | 5 => ⟨S_, .i32⟩
  | 6 => ⟨S_, .i32⟩
  | 7 => ⟨S_, .i32⟩
  | 8 => ⟨S1x16x16x64, .f32⟩
  | 9 => ⟨S16x16x64, .f32⟩
  | 10 => ⟨S_, .i32⟩
  | 11 => ⟨S_, .i32⟩
  | 12 => ⟨S_, .i32⟩
  | 13 => ⟨S1x16x16x64, .f32⟩
  | 14 => ⟨S16x16x64, .f32⟩
  | 15 => ⟨S_, .i32⟩
  | 16 => ⟨S_, .i32⟩
  | 17 => ⟨S_, .i32⟩
  | 18 => ⟨S1x16x16x64, .f32⟩
  | 19 => ⟨S16x16x64, .f32⟩
  | 20 => ⟨S16x16x64, .f32⟩
  | 21 => ⟨S16x16x1x64, .f32⟩
  | 22 => ⟨S16x16x64x64, .f32⟩
  | 23 => ⟨S16x16x64x64, .f32⟩
  | 24 => ⟨S16x16x64x1, .f32⟩
  | 25 => ⟨S16x16x64, .f32⟩
  | 26 => ⟨S16x16x1x64, .f32⟩
  | 27 => ⟨S16x16x64x64, .f32⟩
  | 28 => ⟨S16x16x64x64, .f32⟩
  | 29 => ⟨S16x16x64x64, .f32⟩
  | 30 => ⟨S16x16x64x64, .f32⟩
  | 31 => ⟨S16x16x64x1, .f32⟩
  | 32 => ⟨S16x16x1x64, .f32⟩
  | 33 => ⟨S16x16x64x64, .f32⟩
  | 34 => ⟨S16x16x64x64, .f32⟩
  | 35 => ⟨S16x16x64x64, .f32⟩
  | 36 => ⟨S16x16x64x64, .f32⟩
  | 37 => ⟨S16x16x64, .f32⟩
  | 38 => ⟨S1x16x16x64, .f32⟩
  | 39 => ⟨S_, .i32⟩
  | 40 => ⟨S_, .i32⟩
  | 41 => ⟨S_, .i32⟩
  | 42 => ⟨S64x16x16x64, .f32⟩
  | 43 => ⟨S_, .i32⟩
  | 44 => ⟨S_, .i32⟩
  | 45 => ⟨S16x64x16x64, .f32⟩
  | 46 => ⟨S_, .f32⟩
  | 47 => ⟨S16x64x16, .f32⟩
  | 48 => ⟨S16x64x16x1, .f32⟩
  | 49 => ⟨S_, .f32⟩
  | 50 => ⟨S16x64x16x1, .f32⟩
  | 51 => ⟨S16x64x16x1, .f32⟩
  | 52 => ⟨S16x64x16x64, .f32⟩
  | 53 => ⟨S16x64x16x64, .f32⟩
  | 54 => ⟨S16x64x16x64, .f32⟩
  | 55 => ⟨S_, .f32⟩
  | 56 => ⟨S16x64x16, .f32⟩
  | 57 => ⟨S16x64x16x1, .f32⟩
  | 58 => ⟨S_, .f32⟩
  | 59 => ⟨S16x64x16x1, .f32⟩
  | 60 => ⟨S16x64x16x1, .f32⟩
  | 61 => ⟨S16x64x16x64, .f32⟩
  | 62 => ⟨S16x64x16x64, .f32⟩
  | 63 => ⟨S_, .f32⟩
  | 64 => ⟨S16x64x16x1, .f32⟩
  | 65 => ⟨S16x64x16x1, .f32⟩
  | 66 => ⟨S16x64x16x1, .f32⟩
  | 67 => ⟨S16x64x16x64, .f32⟩
  | 68 => ⟨S16x64x16x64, .f32⟩
  | 69 => ⟨S16x64x1024, .f32⟩
  | 70 => ⟨S1x1x1024, .f32⟩
  | 71 => ⟨S16x64x1024, .f32⟩
  | 72 => ⟨S16x64x1024, .f32⟩
  | 73 => ⟨S1x1x1024, .f32⟩
  | 74 => ⟨S16x64x1024, .f32⟩
  | 75 => ⟨S16x64x1024, .f32⟩
  | 76 => ⟨S16x64x3360, .f32⟩
  | 77 => ⟨S16x65x3360, .f32⟩
  | 78 => ⟨S16x64x3360, .f32⟩
  | 79 => ⟨S16x64x3360, .f32⟩
  | 80 => ⟨S1x1x3360, .f32⟩
  | 81 => ⟨S16x64x3360, .f32⟩
  | 82 => ⟨S16x64x3360, .f32⟩
  | 83 => ⟨S16x64x3360, .f32⟩
  | 84 => ⟨S16x64x1024, .f32⟩
  | 85 => ⟨S16x64x1024, .f32⟩
  | 86 => ⟨S16x64x1024, .f32⟩
  | 87 => ⟨S16x64x64, .f32⟩
  | 88 => ⟨S16x64x64, .f32⟩
  | 89 => ⟨S16x64x160, .f32⟩
  | 90 => ⟨S16x64x1024, .f32⟩
  | 91 => ⟨S1x1x1024, .f32⟩
  | 92 => ⟨S16x64x1024, .f32⟩
  | 93 => ⟨S16x64x1024, .f32⟩
  | 94 => ⟨S16x64x1024, .f32⟩
  | 95 => ⟨S16x64x1024, .f32⟩
  | 96 => ⟨S_, .f32⟩
  | 97 => ⟨S16x64x1024, .f32⟩
  | 98 => ⟨S16x64x1024, .f32⟩
  | 99 => ⟨S_, .f32⟩
  | 100 => ⟨S16x64x1024, .f32⟩
  | 101 => ⟨S16x64x1024, .f32⟩
  | 102 => ⟨S_, .f32⟩
  | 103 => ⟨S16x64x1024, .f32⟩
  | 104 => ⟨S16x64x1024, .f32⟩
  | 105 => ⟨S1x1x1024, .f32⟩
  | 106 => ⟨S16x64x1024, .f32⟩
  | 107 => ⟨S16x64x1024, .f32⟩
  | 108 => ⟨S_, .f32⟩
  | 109 => ⟨S16x64x1024, .f32⟩
  | 110 => ⟨S16x64x1024, .f32⟩
  | 111 => ⟨S16x64x1024, .f32⟩
  | 112 => ⟨S16x64x16x64, .f32⟩
  | 113 => ⟨S16x64x16x64, .f32⟩
  | 114 => ⟨S16x64x16x64, .f32⟩
  | 115 => ⟨S1x1x16x64, .f32⟩
  | 116 => ⟨S16x64x16x64, .f32⟩
  | 117 => ⟨S16x64x16x64, .f32⟩
  | 118 => ⟨S_, .f32⟩
  | 119 => ⟨S16x64x16, .f32⟩
  | 120 => ⟨S16x64x16x1, .f32⟩
  | 121 => ⟨S16x64x16x64, .f32⟩
  | 122 => ⟨S16x64x16x64, .f32⟩
  | 123 => ⟨S16x64x16x64, .f32⟩
  | 124 => ⟨S16x64x1024, .f32⟩
  | 125 => ⟨S16x64x1024, .f32⟩
  | 126 => ⟨S16x64x160, .f32⟩
  | 127 => ⟨S16x64x160, .f32⟩
  | _ => ⟨S16x64x6656, .f32⟩

abbrev hbmTy0_2 (i : Nat) : BufTy := match i % 128 with
  | 0 => ⟨S_, .f32⟩
  | 1 => ⟨S16x64x160, .f32⟩
  | 2 => ⟨S16x64x160, .f32⟩
  | 3 => ⟨S_, .f32⟩
  | 4 => ⟨S16x64x160, .f32⟩
  | 5 => ⟨S16x64x160, .f32⟩
  | 6 => ⟨S16x64x1024, .f32⟩
  | 7 => ⟨S16x64x1024, .f32⟩
  | 8 => ⟨S16x64x1024, .f32⟩
  | 9 => ⟨S16x64x1024, .f32⟩
  | 10 => ⟨S16x64x1024, .f32⟩
  | 11 => ⟨S16x64x1024, .f32⟩
  | 12 => ⟨S16x66x1024, .f32⟩
  | 13 => ⟨S16x64x1024, .f32⟩
  | 14 => ⟨S1x1024, .f32⟩
  | 15 => ⟨S1024, .f32⟩
  | 16 => ⟨S1x1x1024, .f32⟩
  | 17 => ⟨S16x64x1024, .f32⟩
  | 18 => ⟨S16x64x1024, .f32⟩
  | 19 => ⟨S16x64x1024, .f32⟩
  | 20 => ⟨S1x1024, .f32⟩
  | 21 => ⟨S1024, .f32⟩
  | 22 => ⟨S1x1x1024, .f32⟩
  | 23 => ⟨S16x64x1024, .f32⟩
  | 24 => ⟨S16x64x1024, .f32⟩
  | 25 => ⟨S16x64x1024, .f32⟩
  | 26 => ⟨S16x64x1024, .f32⟩
  | 27 => ⟨S1x1024, .f32⟩
  | 28 => ⟨S1024, .f32⟩
  | 29 => ⟨S1x1x1024, .f32⟩
  | 30 => ⟨S16x64x1024, .f32⟩
  | 31 => ⟨S16x64x1024, .f32⟩
  | 32 => ⟨S16x64x1024, .f32⟩
  | 33 => ⟨S16x64x1024, .f32⟩
  | 34 => ⟨S16x64x1024, .bf16⟩
  | 35 => ⟨S16x64x1024, .bf16⟩
  | 36 => ⟨S16x2x1024, .f32⟩
  | 37 => ⟨S16x1x3584, .f32⟩
  | _ => ⟨S16x64x6656, .f32⟩

abbrev hbmTy (i : Nat) : BufTy := match i / 128 with
  | 0 => hbmTy0_0 i
  | 1 => hbmTy0_1 i
  | 2 => hbmTy0_2 i
  | _ => ⟨S16x64x6656, .f32⟩

abbrev bufTy : (tb : Table) → Fin (tcTables nBuf tb) → BufTy
  | .hbm, ⟨i, _⟩ => hbmTy i
  | _, _ => ⟨S16x64x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v30 : Ref sig .tc := ⟨.hbm, 61, rfl⟩
abbrev main_v31 : Ref sig .tc := ⟨.hbm, 62, rfl⟩
abbrev main_cst_1 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_2 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_3 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_4 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_5 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_6 : Ref sig .tc := ⟨.hbm, 104, rfl⟩
abbrev main_v68 : Ref sig .tc := ⟨.hbm, 105, rfl⟩
abbrev main_c : Ref sig .tc := ⟨.hbm, 106, rfl⟩
abbrev main_v69_0 : Ref sig .tc := ⟨.hbm, 107, rfl⟩
abbrev main_v69_1 : Ref sig .tc := ⟨.hbm, 108, rfl⟩
abbrev main_v69_2 : Ref sig .tc := ⟨.hbm, 109, rfl⟩
abbrev main_v69_3 : Ref sig .tc := ⟨.hbm, 110, rfl⟩
abbrev main_v69_4 : Ref sig .tc := ⟨.hbm, 111, rfl⟩
abbrev main_v69_5 : Ref sig .tc := ⟨.hbm, 112, rfl⟩
abbrev main_v69_6 : Ref sig .tc := ⟨.hbm, 113, rfl⟩
abbrev main_v69_7 : Ref sig .tc := ⟨.hbm, 114, rfl⟩
abbrev main_v69_8 : Ref sig .tc := ⟨.hbm, 115, rfl⟩
abbrev main_while0c_c_27 : Ref sig .tc := ⟨.hbm, 116, rfl⟩
abbrev main_while0c_v179 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_c_1 : Ref sig .tc := ⟨.hbm, 120, rfl⟩
abbrev main_while0b_call1_v0 : Ref sig .tc := ⟨.hbm, 121, rfl⟩
abbrev main_while0b_v179 : Ref sig .tc := ⟨.hbm, 122, rfl⟩
abbrev main_while0b_call2_c : Ref sig .tc := ⟨.hbm, 123, rfl⟩
abbrev main_while0b_call2_c_0 : Ref sig .tc := ⟨.hbm, 124, rfl⟩
abbrev main_while0b_call2_c_1 : Ref sig .tc := ⟨.hbm, 125, rfl⟩
abbrev main_while0b_call2_v0 : Ref sig .tc := ⟨.hbm, 126, rfl⟩
abbrev main_while0b_v180 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_c_1 : Ref sig .tc := ⟨.hbm, 130, rfl⟩
abbrev main_while0b_call3_v0 : Ref sig .tc := ⟨.hbm, 131, rfl⟩
abbrev main_while0b_v181 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_call4_c_1 : Ref sig .tc := ⟨.hbm, 135, rfl⟩
abbrev main_while0b_call4_v0 : Ref sig .tc := ⟨.hbm, 136, rfl⟩
abbrev main_while0b_v182 : Ref sig .tc := ⟨.hbm, 137, rfl⟩
abbrev main_while0b_call5_c : Ref sig .tc := ⟨.hbm, 138, rfl⟩
abbrev main_while0b_call5_c_0 : Ref sig .tc := ⟨.hbm, 139, rfl⟩
abbrev main_while0b_call5_c_1 : Ref sig .tc := ⟨.hbm, 140, rfl⟩
abbrev main_while0b_call5_v0 : Ref sig .tc := ⟨.hbm, 141, rfl⟩
abbrev main_while0b_v183 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_v0 : Ref sig .tc := ⟨.hbm, 146, rfl⟩
abbrev main_while0b_v184 : Ref sig .tc := ⟨.hbm, 147, rfl⟩
abbrev main_while0b_v185 : Ref sig .tc := ⟨.hbm, 148, rfl⟩
abbrev main_while0b_v186 : Ref sig .tc := ⟨.hbm, 149, rfl⟩
abbrev main_while0b_v187 : Ref sig .tc := ⟨.hbm, 150, rfl⟩
abbrev main_while0b_v188 : Ref sig .tc := ⟨.hbm, 151, rfl⟩
abbrev main_while0b_v189 : Ref sig .tc := ⟨.hbm, 152, rfl⟩
abbrev main_while0b_v190 : Ref sig .tc := ⟨.hbm, 153, rfl⟩
abbrev main_while0b_v191 : Ref sig .tc := ⟨.hbm, 154, rfl⟩
abbrev main_while0b_v192 : Ref sig .tc := ⟨.hbm, 155, rfl⟩
abbrev main_while0b_v193 : Ref sig .tc := ⟨.hbm, 156, rfl⟩
abbrev main_while0b_v194 : Ref sig .tc := ⟨.hbm, 157, rfl⟩
abbrev main_while0b_v195 : Ref sig .tc := ⟨.hbm, 158, rfl⟩
abbrev main_while0b_v196 : Ref sig .tc := ⟨.hbm, 159, rfl⟩
abbrev main_while0b_v197 : Ref sig .tc := ⟨.hbm, 160, rfl⟩
abbrev main_while0b_v198 : Ref sig .tc := ⟨.hbm, 161, rfl⟩
abbrev main_while0b_v199 : Ref sig .tc := ⟨.hbm, 162, rfl⟩
abbrev main_while0b_v200 : Ref sig .tc := ⟨.hbm, 163, rfl⟩
abbrev main_while0b_v201 : Ref sig .tc := ⟨.hbm, 164, rfl⟩
abbrev main_while0b_v202 : Ref sig .tc := ⟨.hbm, 165, rfl⟩
abbrev main_while0b_call7_v0 : Ref sig .tc := ⟨.hbm, 166, rfl⟩
abbrev main_while0b_call7_c : Ref sig .tc := ⟨.hbm, 167, rfl⟩
abbrev main_while0b_call7_c_0 : Ref sig .tc := ⟨.hbm, 168, rfl⟩
abbrev main_while0b_call7_c_1 : Ref sig .tc := ⟨.hbm, 169, rfl⟩
abbrev main_while0b_v203 : Ref sig .tc := ⟨.hbm, 170, rfl⟩
abbrev main_while0b_c_27 : Ref sig .tc := ⟨.hbm, 171, rfl⟩
abbrev main_while0b_v204 : Ref sig .tc := ⟨.hbm, 172, rfl⟩
abbrev main_v70 : Ref sig .tc := ⟨.hbm, 173, rfl⟩
abbrev main_cst_7 : Ref sig .tc := ⟨.hbm, 174, rfl⟩
abbrev main_v71 : Ref sig .tc := ⟨.hbm, 175, rfl⟩
abbrev main_v72 : Ref sig .tc := ⟨.hbm, 176, rfl⟩
abbrev main_cst_8 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩
abbrev main_v76 : Ref sig .tc := ⟨.hbm, 181, rfl⟩
abbrev main_v77 : Ref sig .tc := ⟨.hbm, 182, rfl⟩
abbrev main_cst_9 : Ref sig .tc := ⟨.hbm, 183, rfl⟩
abbrev main_v78 : Ref sig .tc := ⟨.hbm, 184, rfl⟩
abbrev main_v79 : Ref sig .tc := ⟨.hbm, 185, rfl⟩
abbrev main_cst_10 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_cst_11 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_cst_12 : Ref sig .tc := ⟨.hbm, 224, rfl⟩
abbrev main_v116 : Ref sig .tc := ⟨.hbm, 225, rfl⟩
abbrev main_v117 : Ref sig .tc := ⟨.hbm, 226, rfl⟩
abbrev main_cst_13 : Ref sig .tc := ⟨.hbm, 227, rfl⟩
abbrev main_v118 : Ref sig .tc := ⟨.hbm, 228, rfl⟩
abbrev main_v119 : Ref sig .tc := ⟨.hbm, 229, rfl⟩
abbrev main_cst_14 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_cst_15 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_cst_16 : Ref sig .tc := ⟨.hbm, 246, rfl⟩
abbrev main_v134 : Ref sig .tc := ⟨.hbm, 247, rfl⟩
abbrev main_v135 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_cst_17 : Ref sig .tc := ⟨.hbm, 256, rfl⟩
abbrev main_v143 : Ref sig .tc := ⟨.hbm, 257, rfl⟩
abbrev main_v144 : Ref sig .tc := ⟨.hbm, 258, rfl⟩
abbrev main_cst_18 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S2048x384 : Shape := ⟨2, ![2048, 384]⟩
abbrev S384x2048 : Shape := ⟨2, ![384, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 15
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S1x2048, .f32⟩
  | .hbm, ⟨7, _⟩ => ⟨S2048x5504, .bf16⟩
  | .hbm, ⟨8, _⟩ => ⟨S2048x5504, .bf16⟩
  | .hbm, ⟨9, _⟩ => ⟨S5504x2048, .bf16⟩
  | .hbm, ⟨10, _⟩ => ⟨S1x2048, .f32⟩
  | .hbm, ⟨11, _⟩ => ⟨S2048x384, .bf16⟩
  | .hbm, ⟨12, _⟩ => ⟨S2048x384, .bf16⟩
  | .hbm, ⟨13, _⟩ => ⟨S384x2048, .bf16⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x384, .bf16⟩
  | .local _ .vmem, ⟨10, _⟩ => ⟨S2048x384, .bf16⟩
  | .local _ .vmem, ⟨11, _⟩ => ⟨S384x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 11], ![false, false]⟩

def k0_cond4 (i : grid0.Coords) : BitVec 1 :=
  let arg1 : BitVec 32 := BitVec.ofNat 32 (i 1).val
  let c10_i32_4 : BitVec 32 := 10#32
  let v9 : BitVec 1 := Scalar.cmpi .eq arg1 c10_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnIdeal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S2048x384 : Shape := ⟨2, ![2048, 384]⟩
abbrev S384x2048 : Shape := ⟨2, ![384, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 15
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S1x2048, .f32⟩
  | .hbm, ⟨7, _⟩ => ⟨S2048x5504, .bf16⟩
  | .hbm, ⟨8, _⟩ => ⟨S2048x5504, .bf16⟩
  | .hbm, ⟨9, _⟩ => ⟨S5504x2048, .bf16⟩
  | .hbm, ⟨10, _⟩ => ⟨S1x2048, .f32⟩
  | .hbm, ⟨11, _⟩ => ⟨S2048x384, .bf16⟩
  | .hbm, ⟨12, _⟩ => ⟨S2048x384, .bf16⟩
  | .hbm, ⟨13, _⟩ => ⟨S384x2048, .bf16⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x384, .bf16⟩
  | .local _ .vmem, ⟨10, _⟩ => ⟨S2048x384, .bf16⟩
  | .local _ .vmem, ⟨11, _⟩ => ⟨S384x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 11], ![false, false]⟩

def k0_cond4 (i : grid0.Coords) : BitVec 1 :=
  let arg1 : BitVec 32 := BitVec.ofNat 32 (i 1).val
  let c10_i32_4 : BitVec 32 := 10#32
  let v9 : BitVec 1 := Scalar.cmpi .eq arg1 c10_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5504 : Shape := ⟨2, ![16384, 5504]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S_, .f32⟩
  | .hbm, ⟨26, _⟩ => ⟨S16384x5504, .f32⟩
  | .hbm, ⟨27, _⟩ => ⟨S16384x5504, .f32⟩
  | .hbm, ⟨28, _⟩ => ⟨S_, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Inproj.lean ====
abbrev S16384x2048 : Shape := ⟨2, ![16384, 2048]⟩
abbrev S2048 : Shape := ⟨1, ![2048]⟩
abbrev S2048x6432 : Shape := ⟨2, ![2048, 6432]⟩
abbrev S1x2048 : Shape := ⟨2, ![1, 2048]⟩
abbrev S_ : Shape := ⟨0, ![]⟩
abbrev S2048x6656 : Shape := ⟨2, ![2048, 6656]⟩
abbrev S16384x6656 : Shape := ⟨2, ![16384, 6656]⟩
abbrev S1024x2048 : Shape := ⟨2, ![1024, 2048]⟩
abbrev S2048x1664 : Shape := ⟨2, ![2048, 1664]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6432, .f32⟩
  | .hbm, ⟨3, _⟩ => ⟨S1x2048, .f32⟩
  | .hbm, ⟨4, _⟩ => ⟨S2048x6432, .bf16⟩
  | .hbm, ⟨5, _⟩ => ⟨S_, .i32⟩
  | .hbm, ⟨6, _⟩ => ⟨S_, .bf16⟩
  | .hbm, ⟨7, _⟩ => ⟨S2048x6656, .bf16⟩
  | .hbm, ⟨8, _⟩ => ⟨S16384x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S16384x2048 : Shape := ⟨2, ![16384, 2048]⟩
abbrev S2048 : Shape := ⟨1, ![2048]⟩
abbrev S2048x6432 : Shape := ⟨2, ![2048, 6432]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6432 : Shape := ⟨2, ![16384, 6432]⟩
abbrev S16384x6656 : Shape := ⟨2, ![16384, 6656]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6432, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6432, .f32⟩
  | .hbm, ⟨20, _⟩ => ⟨S_, .i32⟩
  | .hbm, ⟨21, _⟩ => ⟨S_, .f32⟩
  | .hbm, ⟨22, _⟩ => ⟨S16384x6656, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Outproj.lean ====
abbrev S16384x2048 : Shape := ⟨2, ![16384, 2048]⟩
abbrev S16384x1024 : Shape := ⟨2, ![16384, 1024]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojRefIdeal.lean ====
abbrev S16384x2048 : Shape := ⟨2, ![16384, 2048]⟩
abbrev S16384x1024 : Shape := ⟨2, ![16384, 1024]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048, .f32⟩
  | .hbm, ⟨5, _⟩ => ⟨S16384x2048, .bf16⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Ffs.lean ====
abbrev S1024x2048 : Shape := ⟨2, ![1024, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S2048x384 : Shape := ⟨2, ![2048, 384]⟩
abbrev S384x2048 : Shape := ⟨2, ![384, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩
abbrev S1024x384 : Shape := ⟨2, ![1024, 384]⟩

abbrev nBuf : Space → Nat
  | .hbm => 15
  | .vmem => 15
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S1x2048, .f32⟩
  | .hbm, ⟨7, _⟩ => ⟨S2048x5504, .bf16⟩
  | .hbm, ⟨8, _⟩ => ⟨S2048x5504, .bf16⟩
  | .hbm, ⟨9, _⟩ => ⟨S5504x2048, .bf16⟩
  | .hbm, ⟨10, _⟩ => ⟨S1x2048, .f32⟩
  | .hbm, ⟨11, _⟩ => ⟨S2048x384, .bf16⟩
  | .hbm, ⟨12, _⟩ => ⟨S2048x384, .bf16⟩
  | .hbm, ⟨13, _⟩ => ⟨S384x2048, .bf16⟩
  | .hbm, ⟨14, _⟩ => ⟨S1024x2048, .f32⟩
  | .local _ .vmem, ⟨0, _⟩ => ⟨S1024x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S2048x384, .bf16⟩
  | .local _ .vmem, ⟨9, _⟩ => ⟨S2048x384, .bf16⟩
  | .local _ .vmem, ⟨10, _⟩ => ⟨S384x2048, .bf16⟩
  | .local _ .vmem, ⟨11, _⟩ => ⟨S1x2048, .f32⟩
  | .local _ .vmem, ⟨12, _⟩ => ⟨S1024x2048, .f32⟩
  | .local _ .vmem, ⟨13, _⟩ => ⟨S1024x2048, .bf16⟩
  | .local _ .vmem, ⟨14, _⟩ => ⟨S1024x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![1, 11], ![false, false]⟩

def k0_cond4 (i : grid0.Coords) : BitVec 1 :=
  let arg1 : BitVec 32 := BitVec.ofNat 32 (i 1).val
  let c10_i32_4 : BitVec 32 := 10#32
  let v9 : BitVec 1 := Scalar.cmpi .eq arg1 c10_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== FfsRefIdeal.lean ====
abbrev S1024x2048 : Shape := ⟨2, ![1024, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x5504 : Shape := ⟨2, ![1024, 5504]⟩

abbrev nBuf : Space → Nat
  | .hbm => 55
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S1024x2048, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x2048, .f32⟩
  | .hbm, ⟨18, _⟩ => ⟨S1024x2048, .f32⟩
  | .hbm, ⟨19, _⟩ => ⟨S1x2048, .f32⟩
  | .hbm, ⟨20, _⟩ => ⟨S1024x2048, .f32⟩
  | .hbm, ⟨21, _⟩ => ⟨S1024x2048, .f32⟩
  | .hbm, ⟨22, _⟩ => ⟨S1024x5504, .f32⟩
  | .hbm, ⟨23, _⟩ => ⟨S1024x5504, .f32⟩
  | .hbm, ⟨24, _⟩ => ⟨S1024x5504, .f32⟩
  | .hbm, ⟨25, _⟩ => ⟨S_, .f32⟩
  | .hbm, ⟨26, _⟩ => ⟨S1024x5504, .f32⟩
  | .hbm, ⟨27, _⟩ => ⟨S1024x5504, .f32⟩
  | .hbm, ⟨28, _⟩ => ⟨S_, .f32⟩
  | .hbm, ⟨29, _⟩ => ⟨S1024x5504, .f32⟩
  | .hbm, ⟨30, _⟩ => ⟨S1024x5504, .f32⟩
  | .hbm, ⟨31, _⟩ => ⟨S1024x5504, .f32⟩
  | .hbm, ⟨32, _⟩ => ⟨S1024x5504, .f32⟩
  | .hbm, ⟨33, _⟩ => ⟨S1024x5504, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S1024x1, .f32⟩
  | .hbm, ⟨46, _⟩ => ⟨S1024x2048, .f32⟩
  | .hbm, ⟨47, _⟩ => ⟨S1024x2048, .f32⟩
  | .hbm, ⟨48, _⟩ => ⟨S1x2048, .f32⟩
  | .hbm, ⟨49, _⟩ => ⟨S1024x2048, .f32⟩
  | .hbm, ⟨50, _⟩ => ⟨S1024x2048, .f32⟩
  | .hbm, ⟨51, _⟩ => ⟨S_, .f32⟩
  | .hbm, ⟨52, _⟩ => ⟨S1024x2048, .f32⟩
  | .hbm, ⟨53, _⟩ => ⟨S1024x2048, .f32⟩
  | .hbm, ⟨54, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.Mix.RunI.lean ====
module

public import proofs.«01_k».proof.Proof.Gen.KernelIdeal.Frame.Runs

@[expose] public section

-- long axes: one step of recursion per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a long run of stores
set_option maxHeartbeats 40000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) :
    Σ' (L23 : List (View.Piece (Elt F) S1x64x1024 .bf16)), Σ' (L24 : List (View.Piece (Elt F) S1x64x1024 .bf16)), Σ' (L25 : List (View.Piece (Elt F) S1x2x1024 .f32)), Σ' (L26 : List (View.Piece (Elt F) S1x1x3584 .f32)), Σ' (L27 : List (View.Piece (Elt F) S1x16x64x64 .f32)), Σ' (LT0 : List (View.Piece (Elt F) S2x1024 .f32)), Σ' (LT1 : List (View.Piece (Elt F) S1x3584 .f32)), Σ' (LT2 : List (View.Piece (Elt F) S64x1024 .f32)), Σ' (LT3 : List (View.Piece (Elt F) S64x1024 .f32)), Σ' (LT4 : List (View.Piece (Elt F) S64x1024 .f32)), Σ' (LT5 : List (View.Piece (Elt F) S64x1024 .f32)), Σ' (LT6 : List (View.Piece (Elt F) S64x1024 .f32)), Σ' (LT7 : List (View.Piece (Elt F) S64x1024 .f32)), Σ' (LT8 : List (View.Piece (Elt F) S64x1024 .f32)), Σ' (LT9 : List (View.Piece (Elt F) S64x1024 .f32)), Σ' (LT10 : List (View.Piece (Elt F) S64x1024 .f32)), { LT11 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f LT0) ∗ (∃ f, arg31.view.loc (c : Thread nD τ) ↦[arg31.view.set]{fullShare} arg31.view.writes (Elt F) f LT1) ∗ (∃ f, arg32.view.loc (c : Thread nD τ) ↦[arg32.view.set]{fullShare} arg32.view.writes (Elt F) f LT2) ∗ (∃ f, arg33.view.loc (c : Thread nD τ) ↦[arg33.view.set]{fullShare} arg33.view.writes (Elt F) f LT3) ∗ (∃ f, arg34.view.loc (c : Thread nD τ) ↦[arg34.view.set]{fullShare} arg34.view.writes (Elt F) f LT4) ∗ (∃ f, arg35.view.loc (c : Thread nD τ) ↦[arg35.view.set]{fullShare} arg35.view.writes (Elt F) f LT5) ∗ (∃ f, arg36.view.loc (c : Thread nD τ) ↦[arg36.view.set]{fullShare} arg36.view.writes (Elt F) f LT6) ∗ (∃ f, arg37.view.loc (c : Thread nD τ) ↦[arg37.view.set]{fullShare} arg37.view.writes (Elt F) f LT7) ∗ (∃ f, arg38.view.loc (c : Thread nD τ) ↦[arg38.view.set]{fullShare} arg38.view.writes (Elt F) f LT8) ∗ (∃ f, arg39.view.loc (c : Thread nD τ) ↦[arg39.view.set]{fullShare} arg39.view.writes (Elt F) f LT9) ∗ (∃ f, arg40.view.loc (c : Thread nD τ) ↦[arg40.view.set]{fullShare} arg40.view.writes (Elt F) f LT10) ∗ (∃ f, arg41.view.loc (c : Thread nD τ) ↦[arg41.view.set]{fullShare} arg41.view.writes (Elt F) f LT11)) -∗ K ⟨⟩))
          ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K } := by
  refine ⟨?_, ?_, ?_, ?_, ?_, ?_, ?_, ?_, ?_, ?_, ?_, ?_, ?_, ?_, ?_, ?_, ?_, fun E K => ?run⟩
  case run =>
    simp only [cc0_mixer_eq_skeleton]; unfold cc0_mixer_skel
    simp only [k0_part31_eq_skeleton, k0_part7_eq_skeleton, k0_part1_eq_skeleton, k0_part2_eq_skeleton, k0_part3_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]; · iexists _; iexact H23
    isplitl [H24]; · iexists _; iexact H24
    isplitl [H25]; · iexists _; iexact H25
    isplitl [H26]; · iexists _; iexact H26
    isplitl [H27]; · iexists _; iexact H27
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    iexists _; iexact HS11

end Cert.KernelIdeal.Gen

end
-- ==== Proof.Mix.FrameI.lean ====
module

public import proofs.«01_k».proof.Proof.Mix.RunI
public import Idealize.ShloMosaic.Lib.Claim

@[expose] public section

set_option maxHeartbeats 8000000
-- long axes: one step of recursion per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 23 tile its block (1 store of `S1x64x1024`, checked by the kernel's evaluation: Lib/Ring.lean `Piece.tiledL`, linear in the pieces, through a loop's `@[irreducible]` trip theorem too), so they cover it. -/
theorem cover0_A_23 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) (y : S1x64x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).1 S1x64x1024.size (by sl_kernel_rfl) y

/-- What the run leaves in output 23's staging buffer: its pieces read back over junk. -/
def out0_A_23 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) : Vec F S1x64x1024 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).1)

/-- The run's pieces for output 24 tile its block (1 store of `S1x64x1024`, checked by the kernel's evaluation: Lib/Ring.lean `Piece.tiledL`, linear in the pieces, through a loop's `@[irreducible]` trip theorem too), so they cover it. -/
theorem cover0_A_24 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) (y : S1x64x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.1 S1x64x1024.size (by sl_kernel_rfl) y

/-- What the run leaves in output 24's staging buffer: its pieces read back over junk. -/
def out0_A_24 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) : Vec F S1x64x1024 .bf16 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.1)

/-- The run's pieces for output 25 tile its block (1 store of `S1x2x1024`, checked by the kernel's evaluation: Lib/Ring.lean `Piece.tiledL`, linear in the pieces, through a loop's `@[irreducible]` trip theorem too), so they cover it. -/
theorem cover0_A_25 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) (y : S1x2x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.2.1 S1x2x1024.size (by sl_kernel_rfl) y

/-- What the run leaves in output 25's staging buffer: its pieces read back over junk. -/
def out0_A_25 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) : Vec F S1x2x1024 .f32 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.2.1)

/-- The run's pieces for output 26 tile its block (1 store of `S1x1x3584`, checked by the kernel's evaluation: Lib/Ring.lean `Piece.tiledL`, linear in the pieces, through a loop's `@[irreducible]` trip theorem too), so they cover it. -/
theorem cover0_A_26 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) (y : S1x1x3584.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.2.2.1 S1x1x3584.size (by sl_kernel_rfl) y

/-- What the run leaves in output 26's staging buffer: its pieces read back over junk. -/
def out0_A_26 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) : Vec F S1x1x3584 .f32 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.2.2.1)

/-- The run's pieces for output 27 tile its block (16 stores of `S1x1x64x64`, checked by the kernel's evaluation: Lib/Ring.lean `Piece.tiledL`, linear in the pieces, through a loop's `@[irreducible]` trip theorem too), so they cover it. -/
theorem cover0_A_27 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) (y : S1x16x64x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.2.2.2.1 S1x1x64x64.size (by sl_kernel_rfl) y

/-- What the run leaves in output 27's staging buffer: its pieces read back over junk. -/
def out0_A_27 (c : Dev nD) (i : grid0.Coords) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x512 .f32) (harg8 : arg8.IsWhole) (arg9 : Memref sig .tc .vmem S1x2x1024 .f32) (harg9 : arg9.IsWhole) (arg10 : Memref sig .tc .vmem S1x1x3584 .f32) (harg10 : arg10.IsWhole) (arg11 : Memref sig .tc .vmem S1x16x64x64 .f32) (harg11 : arg11.IsWhole) (arg12 : Memref sig .tc .vmem S3x1024 .f32) (harg12 : arg12.IsWhole) (arg13 : Memref sig .tc .vmem S1x3584 .f32) (harg13 : arg13.IsWhole) (arg14 : Memref sig .tc .vmem S1x1024 .f32) (harg14 : arg14.IsWhole) (arg15 : Memref sig .tc .vmem S128x1024 .bf16) (harg15 : arg15.IsWhole) (arg16 : Memref sig .tc .vmem S1x1024 .f32) (harg16 : arg16.IsWhole) (arg17 : Memref sig .tc .vmem S128x1024 .bf16) (harg17 : arg17.IsWhole) (arg18 : Memref sig .tc .vmem S256x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S256x256 .bf16) (harg24 : arg24.IsWhole) (arg25 : Memref sig .tc .vmem S1x64x1024 .bf16) (harg25 : arg25.IsWhole) (arg26 : Memref sig .tc .vmem S1x64x1024 .bf16) (harg26 : arg26.IsWhole) (arg27 : Memref sig .tc .vmem S1x2x1024 .f32) (harg27 : arg27.IsWhole) (arg28 : Memref sig .tc .vmem S1x1x3584 .f32) (harg28 : arg28.IsWhole) (arg29 : Memref sig .tc .vmem S1x16x64x64 .f32) (harg29 : arg29.IsWhole) (arg30 : Memref sig .tc .vmem S2x1024 .f32) (harg30 : arg30.IsWhole) (arg31 : Memref sig .tc .vmem S1x3584 .f32) (harg31 : arg31.IsWhole) (arg32 : Memref sig .tc .vmem S64x1024 .f32) (harg32 : arg32.IsWhole) (arg33 : Memref sig .tc .vmem S64x1024 .f32) (harg33 : arg33.IsWhole) (arg34 : Memref sig .tc .vmem S64x1024 .f32) (harg34 : arg34.IsWhole) (arg35 : Memref sig .tc .vmem S64x1024 .f32) (harg35 : arg35.IsWhole) (arg36 : Memref sig .tc .vmem S64x1024 .f32) (harg36 : arg36.IsWhole) (arg37 : Memref sig .tc .vmem S64x1024 .f32) (harg37 : arg37.IsWhole) (arg38 : Memref sig .tc .vmem S64x1024 .f32) (harg38 : arg38.IsWhole) (arg39 : Memref sig .tc .vmem S64x1024 .f32) (harg39 : arg39.IsWhole) (arg40 : Memref sig .tc .vmem S64x1024 .f32) (harg40 : arg40.IsWhole) (arg41 : Memref sig .tc .vmem S64x1024 .f32) (harg41 : arg41.IsWhole) (hc0 : cond0_0 i) (hc1 : cond0_1 i)
    (x0 : Vec F S1x64x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x512 .f32) (x7 : Vec F S1x2x1024 .f32) (x8 : Vec F S1x1x3584 .f32) (x9 : Vec F S1x16x64x64 .f32) (x10 : Vec F S3x1024 .f32) (x11 : Vec F S1x3584 .f32) (x12 : Vec F S1x1024 .f32) (x13 : Vec F S128x1024 .bf16) (x14 : Vec F S1x1024 .f32) (x15 : Vec F S128x1024 .bf16) (x16 : Vec F S256x1024 .bf16) (x17 : Vec F S1x1024 .f32) (x18 : Vec F S1x1024 .f32) (x19 : Vec F S1x1024 .f32) (x20 : Vec F S1x1024 .f32) (x21 : Vec F S1x1024 .f32) (x22 : Vec F S256x256 .bf16) : Vec F S1x16x64x64 .f32 :=
  VO0_27.read (Elt F) (VO0_27.writes (Elt F) VO0_27.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 hc0 hc1 x0 x1 x2 x3 x4 x5 x6 x7 x8 x9 x10 x11 x12 x13 x14 x15 x16 x17 x18 x19 x20 x21 x22).2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x64x1024 .bf16 × Vec F S1x64x1024 .bf16 × Vec F S1x2x1024 .f32 × Vec F S1x1x3584 .f32 × Vec F S1x16x64x64 .f32 :=
  (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t).1
    | ⟨24, _⟩ => (outsAt0 m c t).2.1
    | ⟨25, _⟩ => (outsAt0 m c t).2.2.1
    | ⟨26, _⟩ => (outsAt0 m c t).2.2.2.1
    | ⟨27, _⟩ => (outsAt0 m c t).2.2.2.2
    | ⟨_ + 28, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (outsAt0 m c t).1 := by dsimp only [dats]
theorem after0_24 (c : Dev nD) (t : Fin cfg0.N) : (dats m 0 c).after 24 t = (outsAt0 m c t).2.1 := by dsimp only [dats]
theorem after0_25 (c : Dev nD) (t : Fin cfg0.N) : (dats m 0 c).after 25 t = (outsAt0 m c t).2.2.1 := by dsimp only [dats]
theorem after0_26 (c : Dev nD) (t : Fin cfg0.N) : (dats m 0 c).after 26 t = (outsAt0 m c t).2.2.2.1 := by dsimp only [dats]
theorem after0_27 (c : Dev nD) (t : Fin cfg0.N) : (dats m 0 c).after 27 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t)

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  rw [show (dats m 0 c).leavesExact 17 t = owns (c : Thread nD τ) (ms0_17 t) fullShare ((dats m 0 c).after 17 t) from by
      unfold Dat.leavesExact; rw [liveAt0_17 t], after0_17]
  rw [show (dats m 0 c).leavesExact 18 t = owns (c : Thread nD τ) (ms0_18 t) fullShare ((dats m 0 c).after 18 t) from by
      unfold Dat.leavesExact; rw [liveAt0_18 t], after0_18]
  rw [show (dats m 0 c).leavesExact 19 t = owns (c : Thread nD τ) (ms0_19 t) fullShare ((dats m 0 c).after 19 t) from by
      unfold Dat.leavesExact; rw [liveAt0_19 t], after0_19]
  rw [show (dats m 0 c).leavesExact 20 t = owns (c : Thread nD τ) (ms0_20 t) fullShare ((dats m 0 c).after 20 t) from by
      unfold Dat.leavesExact; rw [liveAt0_20 t], after0_20]
  rw [show (dats m 0 c).leavesExact 21 t = owns (c : Thread nD τ) (ms0_21 t) fullShare ((dats m 0 c).after 21 t) from by
      unfold Dat.leavesExact; rw [liveAt0_21 t], after0_21]
  rw [show (dats m 0 c).leavesExact 22 t = owns (c : Thread nD τ) (ms0_22 t) fullShare ((dats m 0 c).after 22 t) from by
      unfold Dat.leavesExact; rw [liveAt0_22 t], after0_22]
  rw [show (dats m 0 c).leavesExact 23 t = owns (c : Thread nD τ) (ms0_23 t) fullShare ((dats m 0 c).after 23 t) from by
      unfold Dat.leavesExact; rw [liveAt0_23 t], after0_23]
  rw [show (dats m 0 c).leavesExact 24 t = owns (c : Thread nD τ) (ms0_24 t) fullShare ((dats m 0 c).after 24 t) from by
      unfold Dat.leavesExact; rw [liveAt0_24 t], after0_24]
  rw [show (dats m 0 c).leavesExact 25 t = owns (c : Thread nD τ) (ms0_25 t) fullShare ((dats m 0 c).after 25 t) from by
      unfold Dat.leavesExact; rw [liveAt0_25_A t (hcond0_0 t) (hcond0_1 t)], after0_25]
  rw [show (dats m 0 c).leavesExact 26 t = owns (c : Thread nD τ) (ms0_26 t) fullShare ((dats m 0 c).after 26 t) from by
      unfold Dat.leavesExact; rw [liveAt0_26_A t (hcond0_0 t) (hcond0_1 t)], after0_26]
  rw [show (dats m 0 c).leavesExact 27 t = owns (c : Thread nD τ) (ms0_27 t) fullShare ((dats m 0 c).after 27 t) from by
      unfold Dat.leavesExact; rw [liveAt0_27_A t (hcond0_0 t) (hcond0_1 t)], after0_27]
  unfold outsAt0
  unfold out0_A_23 out0_A_24 out0_A_25 out0_A_26 out0_A_27; (try dsimp only)
  iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  isplitl [H26]; · iexists _; iexact H26
  isplitl [H27]; · iexists _; iexact H27
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, H6, H7, H8, H9, H10, H11, H12, H13, H14, H15, H16, H17, H18, H19, H20, H21, H22, ⟨%e23, H23⟩, ⟨%e24, H24⟩, ⟨%e25, H25⟩, ⟨%e26, H26⟩, ⟨%e27, H27⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩⟩
  isplitl [HS0 HS1 HS2 HS3 HS4 HS5 HS6 HS7 HS8 HS9 HS10 HS11 Hg]
  · isplitl [HS0 HS1 HS2 HS3 HS4 HS5 HS6 HS7 HS8 HS9 HS10 HS11]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      iexists _; unfold owns; iexists _; isplitr
      swap; · iexact HS11
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H27
  ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Gen

end
-- ==== Proof.Mix.ValueI.lean ====
module

public import proofs.«01_k».proof.Proof.Mix.FrameI
public import Idealize.ShloMosaic.Lib.Pipeline.Value

@[expose] public section

set_option maxHeartbeats 8000000

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 23's array: the run's contents for that window after the body (`Gen.outsAt0`: its component 0), read through the window's block. -/
theorem flushed23 (c : Dev nD) (t : Fin cfg0.N) :
    (dats m 0 c).flushed 23 t = (cfg0.win 23).cut (grid0.coords t) ((outsAt0 m c t).1) := by
  show (cfg0.win 23).cut (grid0.coords t) ((dats m 0 c).after 23 t) = _
  rw [after0_23]

/-- … so at a point where case A runs, what its write-back would write is that case's NAMED TERM for the window (`Gen.out0_A_23`: the pieces
    its run found, read back) at the point's memrefs and input blocks, and for an output the case reads back what the point before left (`Gen.outsAt0` at `t - 1`) — the kernel's one case, `Gen.outsAt0` by definition. -/
theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  simp only [flushed23, outsAt0]

/-- The index map sends distinct grid points to distinct block indices (decided over the 16 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S16x64x1024.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the run's contents for that window after the body (`Gen.outsAt0`: its component 1), read through the window's block. -/
theorem flushed24 (c : Dev nD) (t : Fin cfg0.N) :
    (dats m 0 c).flushed 24 t = (cfg0.win 24).cut (grid0.coords t) ((outsAt0 m c t).2.1) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — the kernel's one case, `Gen.outsAt0` by definition. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  simp only [flushed24, outsAt0]

/-- The index map sends distinct grid points to distinct block indices (decided over the 16 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S16x64x1024.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the run's contents for that window after the body (`Gen.outsAt0`: its component 2), read through the window's block. -/
theorem flushed25 (c : Dev nD) (t : Fin cfg0.N) :
    (dats m 0 c).flushed 25 t = (cfg0.win 25).cut (grid0.coords t) ((outsAt0 m c t).2.2.1) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  simp only [flushed25, outsAt0]

/-- The index map sends distinct grid points to distinct block indices (decided over the 16 points). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S16x2x1024.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- WHAT POINT `t` WRITES BACK to output window 26's array: the run's contents for that window after the body (`Gen.outsAt0`: its component 3), read through the window's block. -/
theorem flushed26 (c : Dev nD) (t : Fin cfg0.N) :
    (dats m 0 c).flushed 26 t = (cfg0.win 26).cut (grid0.coords t) ((outsAt0 m c t).2.2.2.1) := by
  show (cfg0.win 26).cut (grid0.coords t) ((dats m 0 c).after 26 t) = _
  rw [after0_26]

/-- … so at a point where case A runs, what its write-back would write is that case's NAMED TERM for the window (`Gen.out0_A_26`: the pieces
    its run found, read back) at the point's memrefs and input blocks, and for an output the case reads back what the point before left (`Gen.outsAt0` at `t - 1`) — the kernel's one case, `Gen.outsAt0` by definition. -/
theorem flushed26_A (c : Dev nD) (t : Fin cfg0.N) :
    (dats m 0 c).flushed 26 t = (cfg0.win 26).cut (grid0.coords t) (out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  simp only [flushed26, outsAt0]

/-- The index map sends distinct grid points to distinct block indices (decided over the 16 points). -/
theorem idx_inj26 : ∀ t t' : Fin cfg0.N, win0_26.index t = win0_26.index t' → t = t' :=
  (by decide +kernel : ∀ t t' : Fin grid0.N, win0_26.index t = win0_26.index t' → t = t')

/-- So two flushing points' blocks share no array index (Lib/Pipeline/Cells.lean `Window.disjoint_blk`). -/
theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (idx_inj26 t t' h)

/-- BLOCK `t` OF THE FINAL ARRAY, read back through the window, is what point `t` wrote back (`flushed26`), for every
    point that writes back: no other point's block meets it. -/
theorem blocks26 (c : Dev nD) (t : Fin cfg0.N) (hf : (cfg0.win 26).flush t = true) :
    ((cfg0.win 26).blk t).view.read (Elt F) ((dats m 0 c).arrAt 26 cfg0.N) = (dats m 0 c).flushed 26 t :=
  (dats m 0 c).read_blk_arrAt_eq_flushed 26 disjoint26 cfg0.N t t.isLt hf

/-- An index that no flushing point's block covers keeps output window 26's array contents at region entry. -/
theorem entry26 (c : Dev nD) (i : S16x1x3584.Idx) (h : ∀ t : Fin cfg0.N, (cfg0.win 26).flush t = true → i ∉ ((cfg0.win 26).blk t).view.set) :
    (dats m 0 c).arrAt 26 cfg0.N i = V m c (Pipeline.arrRef spec0 26) i := by
  rw [(dats m 0 c).arrAt_apply_of_forall_not_mem 26 cfg0.N i (fun t _ hf => h t hf), A_eq]

/-- WHAT POINT `t` WRITES BACK to output window 27's array: the run's contents for that window after the body (`Gen.outsAt0`: its component 4), read through the window's block. -/
theorem flushed27 (c : Dev nD) (t : Fin cfg0.N) :
    (dats m 0 c).flushed 27 t = (cfg0.win 27).cut (grid0.coords t) ((outsAt0 m c t).2.2.2.2) := by
  show (cfg0.win 27).cut (grid0.coords t) ((dats m 0 c).after 27 t) = _
  rw [after0_27]

/-- … so at a point where case A runs, what its write-back would write is that case's NAMED TERM for the window (`Gen.out0_A_27`: the pieces
    its run found, read back) at the point's memrefs and input blocks, and for an output the case reads back what the point before left (`Gen.outsAt0` at `t - 1`) — the kernel's one case, `Gen.outsAt0` by definition. -/
theorem flushed27_A (c : Dev nD) (t : Fin cfg0.N) :
    (dats m 0 c).flushed 27 t = (cfg0.win 27).cut (grid0.coords t) (out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) (hcond0_0 t) (hcond0_1 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  simp only [flushed27, outsAt0]

/-- The index map sends distinct grid points to distinct block indices (decided over the 16 points). -/
theorem idx_inj27 : ∀ t t' : Fin cfg0.N, win0_27.index t = win0_27.index t' → t = t' :=
  (by decide +kernel : ∀ t t' : Fin grid0.N, win0_27.index t = win0_27.index t' → t = t')

/-- So two flushing points' blocks share no array index (Lib/Pipeline/Cells.lean `Window.disjoint_blk`). -/
theorem disjoint27 : ∀ t t' : Fin cfg0.N, (cfg0.win 27).flush t = true → (cfg0.win 27).flush t' = true → t ≠ t' →
    Disjoint ((cfg0.win 27).blk t).view.set ((cfg0.win 27).blk t').view.set :=
  fun t t' _ _ hne => (cfg0.win 27).disjoint_blk fun h => hne (idx_inj27 t t' h)

/-- BLOCK `t` OF THE FINAL ARRAY, read back through the window, is what point `t` wrote back (`flushed27`), for every
    point that writes back: no other point's block meets it. -/
theorem blocks27 (c : Dev nD) (t : Fin cfg0.N) (hf : (cfg0.win 27).flush t = true) :
    ((cfg0.win 27).blk t).view.read (Elt F) ((dats m 0 c).arrAt 27 cfg0.N) = (dats m 0 c).flushed 27 t :=
  (dats m 0 c).read_blk_arrAt_eq_flushed 27 disjoint27 cfg0.N t t.isLt hf

/-- An index that no flushing point's block covers keeps output window 27's array contents at region entry. -/
theorem entry27 (c : Dev nD) (i : S16x16x64x64.Idx) (h : ∀ t : Fin cfg0.N, (cfg0.win 27).flush t = true → i ∉ ((cfg0.win 27).blk t).view.set) :
    (dats m 0 c).arrAt 27 cfg0.N i = V m c (Pipeline.arrRef spec0 27) i := by
  rw [(dats m 0 c).arrAt_apply_of_forall_not_mem 27 cfg0.N i (fun t _ hf => h t hf), A_eq]

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v24_0) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v24_1) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v24_2) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v24_3) = (dats m 0 c).arrAt 26 cfg0.N :=
  (h c).1 26

/-- After the frame run, output window 27's array is `(dats m 0 c).arrAt 27 N`. -/
theorem post27 (r : PUnit × MemSt nD τ sig (Elt F)) (h : Pipeline.FramePost cfgs (dats m) 0 (V m) r) (c : Dev nD) :
    r.2.mem ((c : Thread nD τ).loc main_v24_4) = (dats m 0 c).arrAt 27 cfg0.N :=
  (h c).1 27

/-- After the frame run, argument `main_arg0` is as launched: input window 6 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 6).trans (((dats m 0 c).arrAt_in 6 rfl _).trans ((A_eq m c 6).trans (V_main_arg0 m c)))

/-- After the frame run, argument `main_arg1` is as launched: input window 7 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 7).trans (((dats m 0 c).arrAt_in 7 rfl _).trans ((A_eq m c 7).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 9 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 9).trans (((dats m 0 c).arrAt_in 9 rfl _).trans ((A_eq m c 9).trans (V_main_arg3 m c)))

/-- After the frame run, argument `main_arg4` is as launched: input window 10 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 10).trans (((dats m 0 c).arrAt_in 10 rfl _).trans ((A_eq m c 10).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v24_0) = (dats m 0 c).arrAt 23 cfg0.N
      ∧ r.2.mem ((c : Thread nD τ).loc main_v24_1) = (dats m 0 c).arrAt 24 cfg0.N
      ∧ r.2.mem ((c : Thread nD τ).loc main_v24_2) = (dats m 0 c).arrAt 25 cfg0.N
      ∧ r.2.mem ((c : Thread nD τ).loc main_v24_3) = (dats m 0 c).arrAt 26 cfg0.N
      ∧ r.2.mem ((c : Thread nD τ).loc main_v24_4) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post23 m r h c,
      post24 m r h c,
      post25 m r h c,
      post26 m r h c,
      post27 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.KernelIdeal.Value

end
-- ==== Proof.Mix.Wkv.lean ====
module

public import Mathlib.LinearAlgebra.Matrix.NonsingularInverse
public import Mathlib.Analysis.SpecialFunctions.Exp
public import Mathlib.Tactic.Ring
public import Mathlib.Tactic.Abel
public import Mathlib.Tactic.NoncommRing

@[expose] public section

noncomputable section

namespace Cert.Wkv

open Finset

/-- The state of one head after `n` frames. -/
def S (lw k v kn b : ℕ → Fin 64 → ℝ) (S0 : Fin 64 → Fin 64 → ℝ) : ℕ → Fin 64 → Fin 64 → ℝ
  | 0 => S0
  | n + 1 => fun i j => S lw k v kn b S0 n i j * Real.exp (lw n j)
      - (∑ l, S lw k v kn b S0 n i l * kn n l) * b n j + v n i * k n j

/-- The summed log decay before frame `n`. -/
def C (lw : ℕ → Fin 64 → ℝ) (n : ℕ) (j : Fin 64) : ℝ := ∑ s ∈ range n, lw s j

section
variable (lw k v kn b r : ℕ → Fin 64 → ℝ) (S0 : Fin 64 → Fin 64 → ℝ)

/-- What a frame's key direction reads of the state before it. -/
def W (n : ℕ) (i : Fin 64) : ℝ := ∑ l, S lw k v kn b S0 n i l * kn n l

theorem C_succ (n : ℕ) (j : Fin 64) : C lw (n + 1) j = C lw n j + lw n j := sum_range_succ _ _

/-- The state is the decayed sum of what was added and taken away. -/
theorem closed (n : ℕ) (i j : Fin 64) : S lw k v kn b S0 n i j = Real.exp (C lw n j) *
    (S0 i j + ∑ s ∈ range n, (v s i * k s j - W lw k v kn b S0 s i * b s j) * Real.exp (-C lw (s + 1) j)) := by
  induction n with
  | zero => simp [S, C]
  | succ n ih =>
    have e1 : Real.exp (C lw (n + 1) j) = Real.exp (C lw n j) * Real.exp (lw n j) := by rw [C_succ, Real.exp_add]
    have e2 : Real.exp (C lw (n + 1) j) * Real.exp (-C lw (n + 1) j) = 1 := by rw [← Real.exp_add]; simp
    rw [sum_range_succ]
    have : S lw k v kn b S0 (n + 1) i j = S lw k v kn b S0 n i j * Real.exp (lw n j) - W lw k v kn b S0 n i * b n j + v n i * k n j := rfl
    rw [this, ih]
    generalize (∑ s ∈ range n, (v s i * k s j - W lw k v kn b S0 s i * b s j) * Real.exp (-C lw (s + 1) j)) = X at *
    generalize W lw k v kn b S0 n i = w at *
    have h : Real.exp (C lw (n + 1) j) * (S0 i j + (X + (v n i * k n j - w * b n j) * Real.exp (-C lw (n + 1) j)))
       = Real.exp (C lw (n + 1) j) * (S0 i j + X) + (v n i * k n j - w * b n j) * (Real.exp (C lw (n + 1) j) * Real.exp (-C lw (n + 1) j)) := by ring
    rw [h, e2, e1]; ring

abbrev M := Matrix (Fin 64) (Fin 64) ℝ

/-- Frames as rows. -/
def rows (f : ℕ → Fin 64 → ℝ) : M := fun t j => f t j
/-- The inclusive running sum. -/
def cum (lw : M) : M := fun t j => ∑ s, (if s ≤ t then 1 else 0) * lw s j
def gend (lw : M) : M := fun t j => Real.exp (cum lw 63 j - cum lw t j)
def ginv (lw : M) : M := fun t j => Real.exp (-cum lw t j)
def had (x y : M) : M := fun t j => x t j * y t j
def ap1 (lw kn : M) : M := fun t j => kn t j * Real.exp (cum lw t j - lw t j)
def ap2 (lw r : M) : M := fun t j => r t j * Real.exp (cum lw t j)
def strict (x : M) : M := fun t s => if s < t then x t s else 0
def incl (x : M) : M := fun t s => if s ≤ t then x t s else 0
/-- One doubling: the sum of powers so far, and the next power. -/
def dbl (p : M × M) : M × M := (p.1 + p.2 + p.1 * p.2, p.2 * p.2)
def qm (lw kn b : M) : M := strict (-(ap1 lw kn * (had b (ginv lw)).transpose))
def zm (q : M) : M := (dbl (dbl (dbl (dbl (dbl (q, q * q)))))).1
def t1 (lw k v kn s0 : M) : M := ap1 lw kn * s0.transpose + strict (ap1 lw kn * (had k (ginv lw)).transpose) * v
def um (lw k v kn b s0 : M) : M := t1 lw k v kn s0 + zm (qm lw kn b) * t1 lw k v kn s0
def ym (lw k v kn b r s0 : M) : M :=
  ap2 lw r * s0.transpose + incl (ap2 lw r * (had k (ginv lw)).transpose) * v
    - incl (ap2 lw r * (had b (ginv lw)).transpose) * um lw k v kn b s0
def sm (lw k v kn b s0 : M) : M := fun i j => s0 i j * Real.exp (cum lw 63 j)
  + ((v.transpose * had k (gend lw)) i j + ((-um lw k v kn b s0).transpose * had b (gend lw)) i j)

theorem sum_le (f : ℕ → ℝ) (t : Fin 64) : (∑ s : Fin 64, (if s ≤ t then f s else 0)) = ∑ s ∈ range (t + 1), f s := by
  rw [← Fin.sum_univ_eq_sum_range, ← Finset.sum_filter]
  have := Finset.sum_range (n := 64) (fun s => if s ≤ (t : ℕ) then f s else 0)
  rw [Finset.sum_filter]
  rw [Fin.sum_univ_eq_sum_range]
  have h2 : (∑ s : Fin 64, (if s ≤ t then f s else 0)) = ∑ s : Fin 64, (if (s : ℕ) ≤ (t : ℕ) then f s else 0) := rfl
  rw [h2, ← this, ← Finset.sum_filter]
  refine Finset.sum_congr ?_ fun _ _ => rfl
  ext s; simp only [mem_filter, mem_range]; have := t.isLt; omega

theorem sum_lt (f : ℕ → ℝ) (t : Fin 64) : (∑ s : Fin 64, (if s < t then f s else 0)) = ∑ s ∈ range t, f s := by
  have := Finset.sum_range (n := 64) (fun s => if s < (t : ℕ) then f s else 0)
  have h2 : (∑ s : Fin 64, (if s < t then f s else 0)) = ∑ s : Fin 64, (if (s : ℕ) < (t : ℕ) then f s else 0) := rfl
  rw [h2, ← this, ← Finset.sum_filter]
  refine Finset.sum_congr ?_ fun _ _ => rfl
  ext s; simp only [mem_filter, mem_range]; have := t.isLt; omega

theorem cum_rows (t j : Fin 64) : cum (rows lw) t j = C lw (t + 1) j := by
  unfold cum rows C
  rw [← sum_le (fun s => lw s j) t]
  refine Finset.sum_congr rfl fun s _ => ?_
  split <;> simp

theorem dbl_inv (q : M) (p : M × M) (h : (1 - q) * (1 + p.1) = 1 - p.2) : (1 - q) * (1 + (dbl p).1) = 1 - (dbl p).2 := by
  have : (1 : M) + (dbl p).1 = (1 + p.1) * (1 + p.2) := by unfold dbl; noncomm_ring
  rw [this, ← mul_assoc, h]; unfold dbl; noncomm_ring

theorem strict_pow (x : M) (n : ℕ) : ∀ t s : Fin 64, (t : ℕ) < s + n → (strict x ^ n) t s = 0 := by
  induction n with
  | zero => intro t s h; rw [pow_zero, Matrix.one_apply_ne]; intro e; subst e; omega
  | succ n ih =>
    intro t s h
    rw [pow_succ, Matrix.mul_apply]
    refine Finset.sum_eq_zero fun l _ => ?_
    by_cases h1 : (t : ℕ) < l + n
    · rw [ih t l h1, zero_mul]
    · have : ¬ s < l := by rw [Fin.lt_def]; omega
      rw [show strict x l s = 0 from if_neg this, mul_zero]

theorem zm_inv (x : M) : (1 - strict x) * (1 + zm (strict x)) = 1 := by
  have h0 : (1 - strict x) * (1 + (strict x, strict x * strict x).1) = 1 - (strict x, strict x * strict x).2 := by noncomm_ring
  have h := dbl_inv _ _ (dbl_inv _ _ (dbl_inv _ _ (dbl_inv _ _ (dbl_inv _ _ h0))))
  have e : (dbl (dbl (dbl (dbl (dbl (strict x, strict x * strict x)))))).2 = strict x ^ 64 := by
    unfold dbl; simp only [← pow_two, ← pow_mul]; norm_num
  have z : strict x ^ 64 = 0 := by
    ext t s; exact strict_pow x 64 t s (by have := t.isLt; omega)
  rw [e, z, sub_zero] at h
  exact h

theorem mm_t (x y : M) (t s : Fin 64) : (x * y.transpose) t s = ∑ j, x t j * y s j := by
  rw [Matrix.mul_apply]; rfl

/-- A decayed reading of the closed state, taken apart. -/
theorem reading (a : Fin 64 → ℝ) (n : ℕ) (i : Fin 64) :
    (∑ j, a j * (S0 i j + ∑ s ∈ range n, (v s i * k s j - W lw k v kn b S0 s i * b s j) * Real.exp (-C lw (s + 1) j)))
      = (∑ j, a j * S0 i j) + (∑ s ∈ range n, (∑ j, a j * (k s j * Real.exp (-C lw (s + 1) j))) * v s i)
        - ∑ s ∈ range n, (∑ j, a j * (b s j * Real.exp (-C lw (s + 1) j))) * W lw k v kn b S0 s i := by
  simp only [mul_add, Finset.sum_add_distrib, Finset.mul_sum, Finset.sum_mul]
  rw [Finset.sum_comm, add_sub_assoc, ← Finset.sum_sub_distrib]
  congr 1
  refine Finset.sum_congr rfl fun s _ => ?_
  rw [← Finset.sum_sub_distrib]
  refine Finset.sum_congr rfl fun j _ => ?_
  ring

theorem um_eq : um (rows lw) (rows k) (rows v) (rows kn) (rows b) S0 = rows (W lw k v kn b S0) := by
  have key : (1 - qm (rows lw) (rows kn) (rows b)) * rows (W lw k v kn b S0) = t1 (rows lw) (rows k) (rows v) (rows kn) S0 := by
    rw [Matrix.sub_mul, Matrix.one_mul, sub_eq_iff_eq_add]
    ext t i
    have ea : ∀ j, ap1 (rows lw) (rows kn) t j = kn t j * Real.exp (C lw t j) := fun j => by
      unfold ap1; rw [cum_rows, C_succ]; unfold rows; rw [add_sub_cancel_right]
    have h1 : rows (W lw k v kn b S0) t i = ∑ j, ap1 (rows lw) (rows kn) t j * (S0 i j + ∑ s ∈ range t, (v s i * k s j - W lw k v kn b S0 s i * b s j) * Real.exp (-C lw (s + 1) j)) := by
      show W lw k v kn b S0 t i = _
      unfold W
      refine Finset.sum_congr rfl fun j _ => ?_
      rw [closed, ea]; unfold W; ring
    rw [h1, reading]
    show _ = (((ap1 (rows lw) (rows kn) * Matrix.transpose S0) t i) + (strict (ap1 (rows lw) (rows kn) * (had (rows k) (ginv (rows lw))).transpose) * rows v) t i) + (qm (rows lw) (rows kn) (rows b) * rows (W lw k v kn b S0)) t i
    rw [show (ap1 (rows lw) (rows kn) * Matrix.transpose S0) t i = ∑ j, ap1 (rows lw) (rows kn) t j * S0 i j from mm_t _ _ _ _, sub_eq_add_neg]
    congr 1
    · congr 1
      rw [Matrix.mul_apply, ← sum_lt (fun s => (∑ j, ap1 (rows lw) (rows kn) t j * (k s j * Real.exp (-C lw (s + 1) j))) * v s i)]
      refine Finset.sum_congr rfl fun s _ => ?_
      unfold strict
      split
      · rw [mm_t]; unfold had ginv; simp only [cum_rows]; rfl
      · rw [zero_mul]
    · rw [Matrix.mul_apply, ← sum_lt (fun s => (∑ j, ap1 (rows lw) (rows kn) t j * (b s j * Real.exp (-C lw (s + 1) j))) * W lw k v kn b S0 s i), ← Finset.sum_neg_distrib]
      refine Finset.sum_congr rfl fun s _ => ?_
      unfold qm strict
      split
      · rw [Matrix.neg_apply, mm_t, neg_mul]; unfold had ginv; simp only [cum_rows]; rfl
      · rw [zero_mul, neg_zero]
  have hz : (1 + zm (qm (rows lw) (rows kn) (rows b))) * (1 - qm (rows lw) (rows kn) (rows b)) = 1 :=
    mul_eq_one_comm.mp (zm_inv _)
  unfold um
  rw [← key, ← Matrix.one_mul ((1 - qm (rows lw) (rows kn) (rows b)) * rows (W lw k v kn b S0)), ← Matrix.mul_assoc (zm _), ← Matrix.add_mul, ← Matrix.mul_assoc, Matrix.mul_one, hz, Matrix.one_mul]

/-- The chunk's outputs are the frames' readings. -/
theorem ym_eq (t i : Fin 64) : ym (rows lw) (rows k) (rows v) (rows kn) (rows b) (rows r) S0 t i
    = ∑ j, S lw k v kn b S0 (t + 1) i j * r t j := by
  have h1 : (∑ j, S lw k v kn b S0 (t + 1) i j * r t j) = ∑ j, ap2 (rows lw) (rows r) t j * (S0 i j + ∑ s ∈ range (t + 1), (v s i * k s j - W lw k v kn b S0 s i * b s j) * Real.exp (-C lw (s + 1) j)) := by
    refine Finset.sum_congr rfl fun j _ => ?_
    rw [closed]; unfold ap2; rw [cum_rows]; unfold rows; ring
  rw [h1, reading]
  unfold ym
  rw [um_eq]
  show (((ap2 (rows lw) (rows r) * Matrix.transpose S0) t i) + (incl (ap2 (rows lw) (rows r) * (had (rows k) (ginv (rows lw))).transpose) * rows v) t i) - (incl (ap2 (rows lw) (rows r) * (had (rows b) (ginv (rows lw))).transpose) * rows (W lw k v kn b S0)) t i = _
  rw [show (ap2 (rows lw) (rows r) * Matrix.transpose S0) t i = ∑ j, ap2 (rows lw) (rows r) t j * S0 i j from mm_t _ _ _ _]
  congr 1
  · congr 1
    rw [Matrix.mul_apply, ← sum_le (fun s => (∑ j, ap2 (rows lw) (rows r) t j * (k s j * Real.exp (-C lw (s + 1) j))) * v s i)]
    refine Finset.sum_congr rfl fun s _ => ?_
    unfold incl
    split
    · rw [mm_t]; unfold had ginv; simp only [cum_rows]; rfl
    · rw [zero_mul]
  · rw [Matrix.mul_apply, ← sum_le (fun s => (∑ j, ap2 (rows lw) (rows r) t j * (b s j * Real.exp (-C lw (s + 1) j))) * W lw k v kn b S0 s i)]
    refine Finset.sum_congr rfl fun s _ => ?_
    unfold incl
    split
    · rw [mm_t]; unfold had ginv; simp only [cum_rows]; rfl
    · rw [zero_mul]

/-- The chunk's last state is the frames' last state. -/
theorem sm_eq (i j : Fin 64) : sm (rows lw) (rows k) (rows v) (rows kn) (rows b) S0 i j = S lw k v kn b S0 64 i j := by
  rw [closed]
  unfold sm
  rw [um_eq, Matrix.mul_apply, Matrix.mul_apply, ← Finset.sum_add_distrib, mul_add, Finset.mul_sum, Finset.sum_range]
  have h63 : cum (rows lw) 63 j = C lw 64 j := cum_rows lw 63 j
  rw [h63]
  congr 1
  · exact mul_comm _ _
  · refine Finset.sum_congr rfl fun s _ => ?_
    show v s i * (k s j * gend (rows lw) s j) + (-W lw k v kn b S0 s i) * (b s j * gend (rows lw) s j) = _
    unfold gend
    rw [h63, cum_rows, sub_eq_add_neg, Real.exp_add]
    ring
end

end Cert.Wkv
-- ==== Proof.Mix.Ops.lean ====
module

public import proofs.«01_k».proof.Proof.Gen.KernelIdeal.Skeleton
public import proofs.«01_k».proof.Proof.Mix.Wkv
public import Idealize.ShloMosaic.Lib.Pointwise

@[expose] public section

set_option maxRecDepth 16384

noncomputable section

namespace Cert.Mixer

open Idealize.ShloMosaic Cert.KernelIdeal Cert.KernelIdeal.Gen

abbrev T := FVec Ideal S64x256 .f32
abbrev D := FVec Ideal S128x256 .f32
abbrev Mk := IVec S256x256 1
abbrev Mt := IVec S64x256 1

/-- The zeros a masked entry gets. -/
def zf : Ideal .f32 := Scalar.ofBits .f32 0x00000000#32

/-- Four copies of one row block, only the head's own kept. -/
def bd (m : Mk) (y : FVec Ideal S64x256 .bf16) : FVec Ideal S256x256 .bf16 :=
  select m (concatenate S256x256 0 [⟨S64x256, y⟩, ⟨S64x256, y⟩, ⟨S64x256, y⟩, ⟨S64x256, y⟩] concatenates_S64x256_S64x256_S64x256_S64x256_S256x256_d0)
    (broadcast S256x256 (Scalar.ofBits .bf16 0x0000#16))

def mm1 (m : Mk) (x y : T) : T :=
  matmul dot_S64x256_S256x256_S64x256_1_0_0_1_n_n none (truncf .bf16 x bitsLt_bf16_f32) (bd m (truncf .bf16 y bitsLt_bf16_f32)) (constant S64x256 .f32 0x00000000#32)

def mm2 (m : Mk) (x : D) (y : T) : D :=
  matmul dot_S128x256_S256x256_S128x256_1_0_0_1_n_n none (truncf .bf16 x bitsLt_bf16_f32) (bd m (truncf .bf16 y bitsLt_bf16_f32)) (constant S128x256 .f32 0x00000000#32)

def mmt (m : Mk) (x : D) (y : T) : D :=
  matmul dot_S128x256_S256x256_S128x256_1_1_0_0_n_n none (truncf .bf16 x bitsLt_bf16_f32) (bd m (truncf .bf16 y bitsLt_bf16_f32)) (constant S128x256 .f32 0x00000000#32)

def cat (x y : T) : D := concatenate S128x256 0 [⟨S64x256, x⟩, ⟨S64x256, y⟩] concatenates_S64x256_S64x256_S128x256_d0
def topv (x : D) : T := extractStridedSlice S64x256 ![0, 0] x slices_S128x256_o0_0_S64x256
def botv (x : D) : T := extractStridedSlice S64x256 ![64, 0] x slices_S128x256_o64_0_S64x256
def keep (m : Mt) (x : T) : T := select m x (broadcast S64x256 zf)

/-- A lane of a group: its head and its column. -/
def lane (h : Fin 4) (d : Fin 64) : Fin 256 := ⟨64 * h + d, by omega⟩

theorem sum_lane (f : Fin 256 → EReal) : ∑ x, f x = ∑ h, ∑ s, f (lane h s) := by
  rw [← Fintype.sum_prod_type', ← (finProdFinEquiv (m := 4) (n := 64)).sum_comp]
  refine Finset.sum_congr rfl fun p _ => congrArg f (Fin.ext ?_)
  show p.2.val + 64 * p.1.val = 64 * p.1.val + p.2.val
  omega

/-- Which copy a row of the four-fold stack comes from. -/
theorem pick (y : Fin 64 → EReal) (h : Fin 4) (s : Fin 64) :
    (if h1 : (lane h s).val < 64 then y ⟨(lane h s).val, h1⟩
      else if h2 : (lane h s).val - 64 < 64 then y ⟨(lane h s).val - 64, h2⟩
      else if h3 : (lane h s).val - 64 - 64 < 64 then y ⟨(lane h s).val - 64 - 64, h3⟩
      else y ⟨(lane h s).val - 64 - 64 - 64, by have := (lane h s).isLt; omega⟩) = y s := by
  have e : (lane h s).val = 64 * h.val + s.val := rfl
  have hs := s.isLt
  have hh := h.isLt
  split_ifs with h1 h2 h3 <;> refine congrArg y (Fin.ext ?_) <;> dsimp only <;> omega

/-- The mask keeps a row copy for the lanes of its own head. -/
def Own (m : Mk) : Prop := ∀ h d h' d', m (ix2 (lane h d) (lane h' d')) = if h = h' then 1#1 else 0#1

theorem sel1 (c : Prop) [Decidable c] (a b : EReal) : Scalar.select (if c then 1#1 else 0#1) a b = if c then a else b := by
  by_cases h : c
  · rw [if_pos h, if_pos h]; rfl
  · rw [if_neg h, if_neg h]; rfl

theorem mm1_at {m : Mk} (hm : Own m) (x y : T) (t : Fin 64) (h : Fin 4) (d : Fin 64) :
    (mm1 m x y (ix2 t (lane h d)) : EReal) = ∑ s, (x (ix2 t (lane h s)) : EReal) * y (ix2 s (lane h d)) := by
  pointwise [mm1, bd]
  rw [sum_lane]
  simp only [hm _ _ _ _, sel1, pick (fun s => y (ix2 s (lane h d)))]
  rw [Finset.sum_eq_single h (fun h' _ ne => by simp only [if_neg ne]; exact Finset.sum_const_zero) (fun n => absurd (Finset.mem_univ h) n)]
  simp only [if_true]

theorem mm2t_at {m : Mk} (hm : Own m) (x : D) (y : T) (t : Fin 64) (h : Fin 4) (d : Fin 64) :
    (topv (mm2 m x y) (ix2 t (lane h d)) : EReal) = ∑ s, (topv x (ix2 t (lane h s)) : EReal) * y (ix2 s (lane h d)) := by
  pointwise [topv, mm2, bd]
  rw [sum_lane]
  simp only [hm _ _ _ _, sel1, pick (fun s => y (ix2 s (lane h d)))]
  rw [Finset.sum_eq_single h (fun h' _ ne => by simp only [if_neg ne]; exact Finset.sum_const_zero) (fun n => absurd (Finset.mem_univ h) n)]
  simp only [if_true]

theorem mm2b_at {m : Mk} (hm : Own m) (x : D) (y : T) (t : Fin 64) (h : Fin 4) (d : Fin 64) :
    (botv (mm2 m x y) (ix2 t (lane h d)) : EReal) = ∑ s, (botv x (ix2 t (lane h s)) : EReal) * y (ix2 s (lane h d)) := by
  pointwise [botv, mm2, bd]
  rw [sum_lane]
  simp only [hm _ _ _ _, sel1, pick (fun s => y (ix2 s (lane h d)))]
  rw [Finset.sum_eq_single h (fun h' _ ne => by simp only [if_neg ne]; exact Finset.sum_const_zero) (fun n => absurd (Finset.mem_univ h) n)]
  simp only [if_true]

theorem mmtt_at {m : Mk} (hm : Own m) (x : D) (y : T) (t : Fin 64) (h : Fin 4) (d : Fin 64) :
    (topv (mmt m x y) (ix2 t (lane h d)) : EReal) = ∑ s, (topv x (ix2 t (lane h s)) : EReal) * y (ix2 d (lane h s)) := by
  pointwise [topv, mmt, bd]
  rw [sum_lane]
  simp only [hm _ _ _ _, sel1]
  rw [Finset.sum_eq_single h (fun h' _ ne => by simp only [if_neg ne.symm]; exact Finset.sum_const_zero) (fun n => absurd (Finset.mem_univ h) n)]
  simp only [if_true]
  exact Finset.sum_congr rfl fun s _ => congrArg (_ * ·) (pick (fun q => y (ix2 q (lane h s))) h d)

theorem mmtb_at {m : Mk} (hm : Own m) (x : D) (y : T) (t : Fin 64) (h : Fin 4) (d : Fin 64) :
    (botv (mmt m x y) (ix2 t (lane h d)) : EReal) = ∑ s, (botv x (ix2 t (lane h s)) : EReal) * y (ix2 d (lane h s)) := by
  pointwise [botv, mmt, bd]
  rw [sum_lane]
  simp only [hm _ _ _ _, sel1]
  rw [Finset.sum_eq_single h (fun h' _ ne => by simp only [if_neg ne.symm]; exact Finset.sum_const_zero) (fun n => absurd (Finset.mem_univ h) n)]
  simp only [if_true]
  exact Finset.sum_congr rfl fun s _ => congrArg (_ * ·) (pick (fun q => y (ix2 q (lane h s))) h d)

theorem topv_cat (x y : T) (t : Fin 64) (j : Fin 256) : (topv (cat x y) (ix2 t j) : EReal) = x (ix2 t j) := by
  pointwise [topv, cat]

theorem botv_cat (x y : T) (t : Fin 64) (j : Fin 256) : (botv (cat x y) (ix2 t j) : EReal) = y (ix2 t j) := by
  pointwise [botv, cat]

end Cert.Mixer
-- ==== Proof.Mix.Group.lean ====
module

public import proofs.«01_k».proof.Proof.Mix.Ops

@[expose] public section

set_option maxRecDepth 16384

noncomputable section

namespace Cert.Mixer

open Idealize.ShloMosaic Cert.KernelIdeal Cert.KernelIdeal.Gen
open Cert.Wkv (M)

/-- The running sums of a group's log decays, the low part of the split beside the high one. -/
def cumv (l : FVec Ideal S64x64 .bf16) (lw : T) : T :=
  have p : FVec Ideal S64x512 .f32 := matmul dot_S64x64_S64x512_S64x512_1_0_0_1_n_n none l
    (concatenate S64x512 1 [⟨S64x256, truncf .bf16 lw bitsLt_bf16_f32⟩, ⟨S64x256, truncf .bf16 (subf lw (extf .f32 (truncf .bf16 lw bitsLt_bf16_f32) bitsLt_bf16_f32)) bitsLt_bf16_f32⟩] concatenates_S64x256_S64x256_S64x512_d1)
    (constant S64x512 .f32 0x00000000#32)
  addf (extractStridedSlice S64x256 ![0, 0] p slices_S64x512_o0_0_S64x256) (extractStridedSlice S64x256 ![0, 256] p slices_S64x512_o0_256_S64x256)

def lastv (cu : T) : FVec Ideal S1x256 .f32 := extractStridedSlice S1x256 ![63, 0] cu slices_S64x256_o63_0_S1x256
def gendv (cu : T) : T := exp (subf (broadcastTo S64x256 (lastv cu) broadcasts_S1x256_S64x256) cu)
def ginvv (cu : T) : T := exp (subf (broadcast S64x256 zf) cu)
def apv (lw cu kn r : T) : D := cat (mulf kn (exp (subf cu lw))) (mulf r (exp cu))
def gv (m : Mk) (lw cu kn r y : T) : D := mmt m (apv lw cu kn r) (mulf y (ginvv cu))
def qv (st : Mt) (gb : D) : T := keep st (subf (broadcast S64x256 zf) (topv gb))
def t1vv (m : Mk) (st inc : Mt) (gk : D) (v : T) : D := mm2 m (cat (keep st (topv gk)) (keep inc (botv gk))) v
def dblv (m : Mk) (p : T × T) : T × T :=
  (addf (addf p.1 p.2) (topv (mm2 m (cat p.1 p.2) p.2)), botv (mm2 m (cat p.1 p.2) p.2))
def endv (m : Mk) (p : T × T) : T := addf (addf p.1 p.2) (mm1 m p.1 p.2)
def zv (m : Mk) (q : T) : T := endv m (dblv m (dblv m (dblv m (dblv m (q, mm1 m q q)))))
def t1v (m : Mk) (ap : D) (s : T) (tv : D) : D := addf (mmt m ap s) tv
def uv (m : Mk) (z : T) (t : D) : T := addf (topv t) (mm1 m z (topv t))
def yv (m : Mk) (inc : Mt) (gb t : D) (u : T) : T := subf (botv t) (mm1 m (keep inc (botv gb)) u)
def gramv (m : Mk) (v u k b cu : T) : FVec Ideal S256x256 .f32 :=
  select m (matmul dot_S128x256_S128x256_S256x256_0_0_1_1_n_n none
    (concatenate S128x256 0 [⟨S64x256, truncf .bf16 v bitsLt_bf16_f32⟩, ⟨S64x256, subf (broadcast S64x256 (Scalar.ofBits .bf16 0x0000#16 : Ideal .bf16)) (truncf .bf16 u bitsLt_bf16_f32)⟩] concatenates_S64x256_S64x256_S128x256_d0)
    (truncf .bf16 (cat (mulf k (gendv cu)) (mulf b (gendv cu))) bitsLt_bf16_f32) (constant S256x256 .f32 0x00000000#32)) (broadcast S256x256 zf)
def sv (m : Mk) (s v u k b cu : T) : T :=
  addf (mulf s (broadcastTo S64x256 (exp (lastv cu)) broadcasts_S1x256_S64x256))
    (addf (addf (addf (extractStridedSlice S64x256 ![0, 0] (gramv m v u k b cu) slices_S256x256_o0_0_S64x256)
      (extractStridedSlice S64x256 ![64, 0] (gramv m v u k b cu) slices_S256x256_o64_0_S64x256))
      (extractStridedSlice S64x256 ![128, 0] (gramv m v u k b cu) slices_S256x256_o128_0_S64x256))
      (extractStridedSlice S64x256 ![192, 0] (gramv m v u k b cu) slices_S256x256_o192_0_S64x256))

/-- The entries of a group's block are those of four real matrices. -/
def Up (x : T) (f : Fin 4 → M) : Prop := ∀ t h d, (x (ix2 t (lane h d)) : EReal) = ((f h t d : ℝ) : EReal)

def Tri (l : FVec Ideal S64x64 .bf16) : Prop := ∀ t s : Fin 64, (l (ix2 t s) : EReal) = (((if s ≤ t then 1 else 0 : ℝ)) : EReal)
def Str (m : Mt) : Prop := ∀ t h s, m (ix2 t (lane h s)) = if s < t then 1#1 else 0#1
def Inc (m : Mt) : Prop := ∀ t h s, m (ix2 t (lane h s)) = if s ≤ t then 1#1 else 0#1

theorem coe_sum {ι : Type} (s : Finset ι) (f : ι → ℝ) : ((∑ x ∈ s, f x : ℝ) : EReal) = ∑ x ∈ s, (f x : EReal) := by
  induction s using Finset.cons_induction with
  | empty => simp
  | cons a s h ih => rw [Finset.sum_cons, Finset.sum_cons, EReal.coe_add, ih]

theorem zf_eq : (zf : EReal) = 0 := by
  show Ideal.ofBits FTy.f32 0x00000000#32 = 0
  exact Ideal.ofBits_zero_f32

section
variable {x y : T} {f g : Fin 4 → M}

theorem Up.mm1 {m : Mk} (hm : Own m) (hx : Up x f) (hy : Up y g) : Up (mm1 m x y) (fun h => f h * g h) := fun t h d => by
  show _ = ((∑ s, f h t s * g h s d : ℝ) : EReal)
  rw [mm1_at hm, coe_sum]
  exact Finset.sum_congr rfl fun s _ => by rw [hx, hy, EReal.coe_mul]

theorem Up.mm2t {m : Mk} (hm : Own m) {x : D} (hx : Up (topv x) f) (hy : Up y g) : Up (topv (mm2 m x y)) (fun h => f h * g h) := fun t h d => by
  show _ = ((∑ s, f h t s * g h s d : ℝ) : EReal)
  rw [mm2t_at hm, coe_sum]
  exact Finset.sum_congr rfl fun s _ => by rw [hx, hy, EReal.coe_mul]

theorem Up.mm2b {m : Mk} (hm : Own m) {x : D} (hx : Up (botv x) f) (hy : Up y g) : Up (botv (mm2 m x y)) (fun h => f h * g h) := fun t h d => by
  show _ = ((∑ s, f h t s * g h s d : ℝ) : EReal)
  rw [mm2b_at hm, coe_sum]
  exact Finset.sum_congr rfl fun s _ => by rw [hx, hy, EReal.coe_mul]

theorem Up.mmtt {m : Mk} (hm : Own m) {x : D} (hx : Up (topv x) f) (hy : Up y g) : Up (topv (mmt m x y)) (fun h => f h * (g h).transpose) := fun t h d => by
  show _ = ((∑ s, f h t s * g h d s : ℝ) : EReal)
  rw [mmtt_at hm, coe_sum]
  exact Finset.sum_congr rfl fun s _ => by rw [hx, hy, EReal.coe_mul]

theorem Up.mmtb {m : Mk} (hm : Own m) {x : D} (hx : Up (botv x) f) (hy : Up y g) : Up (botv (mmt m x y)) (fun h => f h * (g h).transpose) := fun t h d => by
  show _ = ((∑ s, f h t s * g h d s : ℝ) : EReal)
  rw [mmtb_at hm, coe_sum]
  exact Finset.sum_congr rfl fun s _ => by rw [hx, hy, EReal.coe_mul]

theorem Up.topCat (hx : Up x f) : Up (topv (cat x y)) f := fun t h d => by rw [topv_cat, hx]
theorem Up.botCat (hy : Up y g) : Up (botv (cat x y)) g := fun t h d => by rw [botv_cat, hy]

theorem Up.add (hx : Up x f) (hy : Up y g) : Up (addf x y) (fun h => f h + g h) := fun t h d => by
  show (x _ : EReal) + y _ = _
  rw [hx, hy, ← EReal.coe_add]; rfl

theorem Up.sub (hx : Up x f) (hy : Up y g) : Up (subf x y) (fun h => f h - g h) := fun t h d => by
  show (x _ : EReal) - y _ = _
  rw [hx, hy, ← EReal.coe_sub]; rfl

theorem Up.neg (hx : Up x f) : Up (subf (broadcast S64x256 zf) x) (fun h => - f h) := fun t h d => by
  show (zf : EReal) - x _ = _
  rw [hx, zf_eq, zero_sub, ← EReal.coe_neg]; rfl

theorem Up.mul (hx : Up x f) (hy : Up y g) : Up (mulf x y) (fun h => Wkv.had (f h) (g h)) := fun t h d => by
  show (x _ : EReal) * y _ = ((f h t d * g h t d : ℝ) : EReal)
  rw [hx, hy, ← EReal.coe_mul]

theorem Up.exp (hx : Up x f) : Up (exp x) (fun h t d => Real.exp (f h t d)) := fun t h d => by
  show Ideal.exp (x _) = _
  rw [hx]; rfl

theorem Up.strict {m : Mt} (hm : Str m) (hx : Up x f) : Up (keep m x) (fun h => Wkv.strict (f h)) := fun t h d => by
  show Scalar.select (m (ix2 t (lane h d))) (x (ix2 t (lane h d)) : EReal) zf = _
  show _ = ((if d < t then f h t d else 0 : ℝ) : EReal)
  rw [hm, sel1, hx, zf_eq]; split <;> rfl

theorem Up.incl {m : Mt} (hm : Inc m) (hx : Up x f) : Up (keep m x) (fun h => Wkv.incl (f h)) := fun t h d => by
  show Scalar.select (m (ix2 t (lane h d))) (x (ix2 t (lane h d)) : EReal) zf = _
  show _ = ((if d ≤ t then f h t d else 0 : ℝ) : EReal)
  rw [hm, sel1, hx, zf_eq]; split <;> rfl

theorem topv_add (x y : D) : topv (addf x y) = addf (topv x) (topv y) := rfl
theorem botv_add (x y : D) : botv (addf x y) = addf (botv x) (botv y) := rfl

theorem Up.cum {l : FVec Ideal S64x64 .bf16} (hl : Tri l) (hx : Up x f) : Up (cumv l x) (fun h => Wkv.cum (f h)) := fun t h d => by
  have hd : (lane h d).val < 256 := (lane h d).isLt
  pointwise [cumv]
  have e2 : (∑ s, (l (ix2 t s) : EReal) * ((x (ix2 s (lane h d)) : EReal) - x (ix2 s (lane h d)))) = 0 :=
    Finset.sum_eq_zero fun s _ => by rw [hx, ← EReal.coe_sub, sub_self, EReal.coe_zero, mul_zero (M₀ := EReal)]
  rw [e2, add_zero]
  show _ = ((∑ s, (if s ≤ t then 1 else 0) * f h s d : ℝ) : EReal)
  rw [coe_sum]
  exact Finset.sum_congr rfl fun s _ => by rw [hx, hl, EReal.coe_mul]

theorem last_at (t : Fin 64) (j : Fin 256) : (broadcastTo S64x256 (lastv x) broadcasts_S1x256_S64x256 (ix2 t j) : EReal) = x (ix2 63 j) := by
  pointwise [lastv]

theorem last0_at (j : Fin 256) : (lastv x (ix2 0 j) : EReal) = x (ix2 63 j) := by
  pointwise [lastv]

theorem Up.gend (hx : Up x (fun h => Wkv.cum (f h))) : Up (gendv x) (fun h => Wkv.gend (f h)) := fun t h d => by
  show Ideal.exp ((broadcastTo S64x256 (lastv x) broadcasts_S1x256_S64x256 (ix2 t (lane h d)) : EReal) - x (ix2 t (lane h d))) = _
  rw [last_at, hx, hx, ← EReal.coe_sub]; rfl

theorem Up.ginv (hx : Up x (fun h => Wkv.cum (f h))) : Up (ginvv x) (fun h => Wkv.ginv (f h)) := hx.neg.exp

theorem gram_at {m : Mk} (hm : Own m) (v u k b cu : T) (h' h : Fin 4) (i j : Fin 64) :
    (gramv m v u k b cu (ix2 (lane h' i) (lane h j)) : EReal) = if h' = h then
      (∑ x, v (ix2 x (lane h i)) * (k (ix2 x (lane h j)) * gendv cu (ix2 x (lane h j))) : EReal)
        + ∑ x, (0 - u (ix2 x (lane h i)) : EReal) * (b (ix2 x (lane h j)) * gendv cu (ix2 x (lane h j))) else 0 := by
  pointwise [gramv, cat]
  rw [hm, sel1, zf_eq]
  by_cases e : h' = h
  · subst e; rfl
  · rw [if_neg e, if_neg e]

theorem sv_at {m : Mk} (hm : Own m) (s v u k b cu : T) (i : Fin 64) (h : Fin 4) (j : Fin 64) :
    (sv m s v u k b cu (ix2 i (lane h j)) : EReal) = s (ix2 i (lane h j)) * Ideal.exp (cu (ix2 63 (lane h j)))
      + ((∑ x, v (ix2 x (lane h i)) * (k (ix2 x (lane h j)) * gendv cu (ix2 x (lane h j))) : EReal)
        + ∑ x, (0 - u (ix2 x (lane h i)) : EReal) * (b (ix2 x (lane h j)) * gendv cu (ix2 x (lane h j)))) := by
  pointwise [sv]
  have h0 : ∀ p, (gramv m v u k b cu (ix2 ⟨i.val, p⟩ (lane h j)) : EReal) = _ := fun p =>
    (congrArg (fun a => gramv m v u k b cu (ix2 a (lane h j))) (Fin.ext (show i.val = 64 * 0 + i.val by omega))).trans (gram_at hm v u k b cu 0 h i j)
  have h1 : ∀ p, (gramv m v u k b cu (ix2 ⟨64 + i.val, p⟩ (lane h j)) : EReal) = _ := fun p =>
    (congrArg (fun a => gramv m v u k b cu (ix2 a (lane h j))) (Fin.ext (show 64 + i.val = 64 * 1 + i.val by omega))).trans (gram_at hm v u k b cu 1 h i j)
  have h2 : ∀ p, (gramv m v u k b cu (ix2 ⟨128 + i.val, p⟩ (lane h j)) : EReal) = _ := fun p =>
    (congrArg (fun a => gramv m v u k b cu (ix2 a (lane h j))) (Fin.ext (show 128 + i.val = 64 * 2 + i.val by omega))).trans (gram_at hm v u k b cu 2 h i j)
  have h3 : ∀ p, (gramv m v u k b cu (ix2 ⟨192 + i.val, p⟩ (lane h j)) : EReal) = _ := fun p =>
    (congrArg (fun a => gramv m v u k b cu (ix2 a (lane h j))) (Fin.ext (show 192 + i.val = 64 * 3 + i.val by omega))).trans (gram_at hm v u k b cu 3 h i j)
  rw [h0, h1, h2, h3, last0_at]
  fin_cases h <;> simp

variable {cu s v u k b : T} {LW S V U K B KN R : Fin 4 → M}

theorem Up.state {m : Mk} (hm : Own m) (hc : Up cu (fun h => Wkv.cum (LW h))) (hs : Up s S) (hv : Up v V) (hu : Up u U) (hk : Up k K) (hb : Up b B) :
    Up (sv m s v u k b cu) (fun h i j => S h i j * Real.exp (Wkv.cum (LW h) 63 j)
      + (((V h).transpose * Wkv.had (K h) (Wkv.gend (LW h))) i j + ((-U h).transpose * Wkv.had (B h) (Wkv.gend (LW h))) i j)) := fun i h j => by
  show _ = ((S h i j * Real.exp (Wkv.cum (LW h) 63 j) + ((∑ t, V h t i * (K h t j * Wkv.gend (LW h) t j)) + ∑ t, (- U h t i) * (B h t j * Wkv.gend (LW h) t j)) : ℝ) : EReal)
  rw [sv_at hm, hs, hc, Ideal.exp_coe, EReal.coe_add, EReal.coe_add, EReal.coe_mul, coe_sum, coe_sum]
  refine congrArg₂ (· + ·) rfl (congrArg₂ (· + ·) (Finset.sum_congr rfl fun t _ => ?_) (Finset.sum_congr rfl fun t _ => ?_))
  · rw [hv, hk, hc.gend, EReal.coe_mul, EReal.coe_mul]
  · rw [hu, hb, hc.gend, EReal.coe_mul, EReal.coe_mul, zero_sub, EReal.coe_neg]

/-- A pair of blocks doubled. -/
theorem Up.dbl {m : Mk} (hm : Own m) {p : T × T} {P : Fin 4 → M × M} (h1 : Up p.1 (fun h => (P h).1)) (h2 : Up p.2 (fun h => (P h).2)) :
    Up (dblv m p).1 (fun h => (Wkv.dbl (P h)).1) ∧ Up (dblv m p).2 (fun h => (Wkv.dbl (P h)).2) :=
  ⟨(h1.add h2).add (Up.mm2t hm h1.topCat h2), Up.mm2b hm h2.botCat h2⟩

theorem Up.zv {m : Mk} (hm : Own m) (hx : Up x f) : Up (zv m x) (fun h => Wkv.zm (f h)) := by
  have a0 := Up.mm1 hm hx hx
  have a1 := Up.dbl hm (p := (x, Cert.Mixer.mm1 m x x)) (P := fun h => (f h, f h * f h)) hx a0
  have a2 := Up.dbl hm (P := fun h => Wkv.dbl (f h, f h * f h)) a1.1 a1.2
  have a3 := Up.dbl hm (P := fun h => Wkv.dbl (Wkv.dbl (f h, f h * f h))) a2.1 a2.2
  have a4 := Up.dbl hm (P := fun h => Wkv.dbl (Wkv.dbl (Wkv.dbl (f h, f h * f h)))) a3.1 a3.2
  exact (a4.1.add a4.2).add (Up.mm1 hm a4.1 a4.2)
end

/-- A group's readings and its last state, of its decays, keys, values, directions, readers and first state. -/
def tall (m : Mk) (st inc : Mt) (l : FVec Ideal S64x64 .bf16) (lw k v kn r s : T) : D :=
  t1v m (apv lw (cumv l lw) kn r) s (t1vv m st inc (gv m lw (cumv l lw) kn r k) v)
def uall (m : Mk) (st inc : Mt) (l : FVec Ideal S64x64 .bf16) (lw k v kn b r s : T) : T :=
  uv m (zv m (qv st (gv m lw (cumv l lw) kn r b))) (tall m st inc l lw k v kn r s)
def yall (m : Mk) (st inc : Mt) (l : FVec Ideal S64x64 .bf16) (lw k v kn b r s : T) : T :=
  yv m inc (gv m lw (cumv l lw) kn r b) (tall m st inc l lw k v kn r s) (uall m st inc l lw k v kn b r s)
def sall (m : Mk) (st inc : Mt) (l : FVec Ideal S64x64 .bf16) (lw k v kn b r s : T) : T :=
  sv m s v (uall m st inc l lw k v kn b r s) k b (cumv l lw)

section
variable {m : Mk} (hm : Own m) {st inc : Mt} (hst : Str st) (hin : Inc inc) {l : FVec Ideal S64x64 .bf16} (hl : Tri l)
  {lw k v kn b r s : T} {LW K V KN B R S : Fin 4 → M}
  (hlw : Up lw LW) (hk : Up k K) (hv : Up v V) (hkn : Up kn KN) (hb : Up b B) (hr : Up r R) (hs : Up s S)
include hm hst hin hl hlw hk hv hkn hb hr hs

theorem up_parts : Up (topv (tall m st inc l lw k v kn r s)) (fun h => Wkv.t1 (LW h) (K h) (V h) (KN h) (S h))
    ∧ Up (uall m st inc l lw k v kn b r s) (fun h => Wkv.um (LW h) (K h) (V h) (KN h) (B h) (S h))
    ∧ Up (yall m st inc l lw k v kn b r s) (fun h => Wkv.ym (LW h) (K h) (V h) (KN h) (B h) (R h) (S h)) := by
  have hc := Up.cum hl hlw
  have h1 : Up (topv (apv lw (cumv l lw) kn r)) (fun h => Wkv.ap1 (LW h) (KN h)) := (hkn.mul (hc.sub hlw).exp).topCat
  have h2 : Up (botv (apv lw (cumv l lw) kn r)) (fun h => Wkv.ap2 (LW h) (R h)) := (hr.mul hc.exp).botCat
  have hgi := hc.ginv
  have gb1 := Up.mmtt hm h1 (hb.mul hgi)
  have gb2 := Up.mmtb hm h2 (hb.mul hgi)
  have gk1 := Up.mmtt hm h1 (hk.mul hgi)
  have gk2 := Up.mmtb hm h2 (hk.mul hgi)
  have hq : Up (qv st (gv m lw (cumv l lw) kn r b)) (fun h => Wkv.qm (LW h) (KN h) (B h)) := Up.strict hst gb1.neg
  have hz := Up.zv hm hq
  have tt : Up (topv (tall m st inc l lw k v kn r s)) (fun h => Wkv.t1 (LW h) (K h) (V h) (KN h) (S h)) :=
    (Up.mmtt hm h1 hs).add (Up.mm2t hm (Up.topCat (Up.strict hst gk1)) hv)
  have tb := (Up.mmtb hm h2 hs).add (Up.mm2b hm (Up.botCat (x := keep st (topv (gv m lw (cumv l lw) kn r k))) (Up.incl hin gk2)) hv)
  have hu : Up (uall m st inc l lw k v kn b r s) (fun h => Wkv.um (LW h) (K h) (V h) (KN h) (B h) (S h)) := tt.add (Up.mm1 hm hz tt)
  exact ⟨tt, hu, tb.sub (Up.mm1 hm (Up.incl hin gb2) hu)⟩

theorem up_y : Up (yall m st inc l lw k v kn b r s) (fun h => Wkv.ym (LW h) (K h) (V h) (KN h) (B h) (R h) (S h)) :=
  (up_parts hm hst hin hl hlw hk hv hkn hb hr hs).2.2

theorem up_s : Up (sall m st inc l lw k v kn b r s) (fun h => Wkv.sm (LW h) (K h) (V h) (KN h) (B h) (S h)) :=
  Up.state hm (Up.cum hl hlw) hs hv (up_parts hm hst hin hl hlw hk hv hkn hb hr hs).2.1 hk hb
end

end Cert.Mixer
-- ==== Proof.Mix.Masks.lean ====
module

public import proofs.«01_k».proof.Proof.Mix.Group

@[expose] public section

set_option maxRecDepth 16384

noncomputable section

namespace Cert.Mixer

open Idealize.ShloMosaic Cert.KernelIdeal Cert.KernelIdeal.Gen

/-- The remainder of a lane's number by 64, as the kernel takes it. -/
def remOf (x : BitVec 32) : BitVec 32 :=
  Scalar.select
    (IntOp.andi
      (IntOp.xori
        (IntOp.cmpi CmpIPredicate.slt (IntOp.remsi ArithUnit.vector x (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne (IntOp.remsi ArithUnit.vector x (Scalar.select (Scalar.cmpi CmpIPredicate.eq 64#32 0#32) 1#32 64#32)) 0#32))
    (IntOp.addi (IntOp.remsi ArithUnit.vector x (Scalar.select (Scalar.cmpi CmpIPredicate.eq 64#32 0#32) 1#32 64#32))
      (Scalar.select (Scalar.cmpi CmpIPredicate.eq 64#32 0#32) 1#32 64#32))
    (IntOp.remsi ArithUnit.vector x (Scalar.select (Scalar.cmpi CmpIPredicate.eq 64#32 0#32) 1#32 64#32))

/-- The quotient of a lane's number by 64, as the kernel takes it. -/
def quoOf (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem remOf_lane : ∀ (h : Fin 4) (s : Fin 64), remOf (BitVec.ofNat 32 (lane h s).val) = BitVec.ofNat 32 s.val := by decide +kernel
theorem quoOf_lane : ∀ (h : Fin 4) (s : Fin 64), quoOf (BitVec.ofNat 32 (lane h s).val) = BitVec.ofNat 32 h.val := by decide +kernel
theorem sgt_at : ∀ t s : Fin 64, IntOp.cmpi CmpIPredicate.sgt (BitVec.ofNat 32 t.val) (BitVec.ofNat 32 s.val) = if s < t then 1#1 else 0#1 := by decide +kernel
theorem sge_at : ∀ t s : Fin 64, IntOp.cmpi CmpIPredicate.sge (BitVec.ofNat 32 t.val) (BitVec.ofNat 32 s.val) = if s ≤ t then 1#1 else 0#1 := by decide +kernel
theorem eq_at : ∀ h h' : Fin 4, IntOp.cmpi CmpIPredicate.eq (BitVec.ofNat 32 h.val) (BitVec.ofNat 32 h'.val) = if h = h' then 1#1 else 0#1 := by decide +kernel

theorem tri : Tri (k0_pay38 (F := Ideal)) := fun t s => by
  pointwise [k0_pay38]
  rw [sge_at, sel1]
  split <;> simp

theorem str : Str k0_pay40 := fun t h s => by
  pointwise [k0_pay40, k0_pay39]
  exact (congrArg (IntOp.cmpi CmpIPredicate.sgt (BitVec.ofNat 32 t.val)) (remOf_lane h s)).trans (sgt_at t s)

theorem inc : Inc k0_pay41 := fun t h s => by
  pointwise [k0_pay41, k0_pay39]
  exact (congrArg (IntOp.cmpi CmpIPredicate.sge (BitVec.ofNat 32 t.val)) (remOf_lane h s)).trans (sge_at t s)

/-- The head mask. -/
def own : Mk := k0_pay44 (iota .tc S256x256 32 [0] iota_S256x256_d0_w32) 64#32 k0_pay42 k0_pay43

theorem own_own : Own own := fun h d h' d' => by
  pointwise [own, k0_pay44, k0_pay42, k0_pay43]
  exact (congrArg₂ (IntOp.cmpi CmpIPredicate.eq) (quoOf_lane h d) (quoOf_lane h' d')).trans (eq_at h h')

end Cert.Mixer
-- ==== Proof.Mix.Blocks.lean ====
/-
  What each window of the mixer's launch holds at a grid point, entry by entry, in terms of the arguments.
-/
module

public import proofs.«01_k».proof.Proof.Gen.KernelIdeal.Frame.Runs
public import proofs.«01_k».proof.Proof.Mix.Masks
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Mixer

open Cert.KernelIdeal Cert.KernelIdeal.Gen

variable (m : (ℓ : Loc nD τ sig) → Buf (Elt Ideal) ℓ) (c : Dev nD)

/-- The number of the head each lane of a group belongs to, as the host computes it. -/
def headNo : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

theorem headNo_lane : ∀ (h : Fin 4) (s : Fin 64), headNo (ix1 (lane h s)) = BitVec.ofNat 32 h.val := by decide +kernel

/-- The ones matrix of the heads' own lanes. -/
def bdm : FVec Ideal S256x256 .bf16 :=
  uitofp .bf16 (cmpi .eq (broadcastInDim S256x256 ![0, 1] bcast_S256x1_S256x256_0_1 (broadcastInDim S256x1 ![0] bcast_S256_S256x1_0 headNo))
    (broadcastInDim S256x256 ![0, 1] bcast_S1x256_S256x256_0_1 (broadcastInDim S1x256 ![1] bcast_S256_S1x256_1 headNo)))

theorem bdm_at (h : Fin 4) (d : Fin 64) (h' : Fin 4) (d' : Fin 64) : (bdm (ix2 (lane h d) (lane h' d')) : EReal) = if h = h' then 1 else 0 := by
  have e : IntOp.cmpi CmpIPredicate.eq (headNo (ix1 (lane h d))) (headNo (ix1 (lane h' d'))) = if h = h' then 1#1 else 0#1 := by
    rw [headNo_lane, headNo_lane]; exact eq_at h h'
  pointwise [bdm]
  refine (congrArg (fun b => (FloatOps.uitofp (F := Ideal) FTy.bf16 b : EReal)) e).trans ?_
  split
  · show (((1#1 : BitVec 1).toNat : ℝ) : EReal) = 1
    simp
  · show (((0#1 : BitVec 1).toNat : ℝ) : EReal) = 0
    simp

theorem V_bd : V m c main_v20 = bdm := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v20) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_mu : V m c main_v3 = (pad S1x3584 ![0, 0] ![0, 224] ![0, 0] (shapeCast S1x3360 (m ((c : Thread nD τ).loc main_arg5) : S3360.Idx → EReal) shapeCasts_S3360_S1x3360) (sitofp .f32 (constantI S_ 32 0#32)) pads_S1x3360_S1x3584_000_02240 h_S_ : FVec Ideal S1x3584 .f32) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v3) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_dec : V m c main_v6 = (pad S128x1024 ![0, 0] ![64, 0] ![0, 0] (m ((c : Thread nD τ).loc main_arg7) : S64x1024.Idx → EReal) (sitofp .bf16 (constantI S_ 32 0#32)) pads_S64x1024_S128x1024_0640_000 h_S_ : FVec Ideal S128x1024 .bf16) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v6) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_a : V m c main_v9 = (pad S128x1024 ![64, 0] ![0, 0] ![0, 0] (m ((c : Thread nD τ).loc main_arg9) : S64x1024.Idx → EReal) (sitofp .bf16 (constantI S_ 32 0#32)) pads_S64x1024_S128x1024_6400_000 h_S_ : FVec Ideal S128x1024 .bf16) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v9) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_g : V m c main_v11 = (pad S256x1024 ![0, 0] ![96, 0] ![0, 0] (m ((c : Thread nD τ).loc main_arg10) : S160x1024.Idx → EReal) (sitofp .bf16 (constantI S_ 32 0#32)) pads_S160x1024_S256x1024_0960_000 h_S_ : FVec Ideal S256x1024 .bf16) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v11) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_sh : V m c main_v23 = (pad S16x1x3584 ![0, 0, 0] ![0, 0, 224] ![0, 0, 0] (m ((c : Thread nD τ).loc main_arg2) : S16x1x3360.Idx → EReal) (sitofp .f32 (constantI S_ 32 0#32)) pads_S16x1x3360_S16x1x3584_000_000_02240 h_S_ : FVec Ideal S16x1x3584 .f32) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v23) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_row6 : V m c main_v4 = (shapeCast S1x1024 (m ((c : Thread nD τ).loc main_arg6) : S1024.Idx → EReal) shapeCasts_S1024_S1x1024) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v4) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_row8 : V m c main_v7 = (shapeCast S1x1024 (m ((c : Thread nD τ).loc main_arg8) : S1024.Idx → EReal) shapeCasts_S1024_S1x1024) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v7) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_row11 : V m c main_v12 = (shapeCast S1x1024 (m ((c : Thread nD τ).loc main_arg11) : S1024.Idx → EReal) shapeCasts_S1024_S1x1024) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v12) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_row12 : V m c main_v13 = (shapeCast S1x1024 (m ((c : Thread nD τ).loc main_arg12) : S1024.Idx → EReal) shapeCasts_S1024_S1x1024) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v13) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_row14 : V m c main_v21 = (shapeCast S1x1024 (m ((c : Thread nD τ).loc main_arg14) : S1024.Idx → EReal) shapeCasts_S1024_S1x1024) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v21) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_row15 : V m c main_v22 = (shapeCast S1x1024 (m ((c : Thread nD τ).loc main_arg15) : S1024.Idx → EReal) shapeCasts_S1024_S1x1024) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v22) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem V_row13 : V m c main_v14 = (shapeCast S1x1024 (m ((c : Thread nD τ).loc main_arg13) : S16x64.Idx → EReal) shapeCasts_S16x64_S1x1024) := by
  show StableHlo.after (List.flatten [hostOps0, hostOps0_1, hostOps0_2, hostOps0_3, hostOps0_4, hostOps0_5, hostOps0_6, hostOps0_7, hostOps0_8, hostOps0_9, hostOps0_10, hostOps0_11] : List (HloOp τ sig (Elt Ideal))) (fun b => m (c, b)) (Proc.devRef .tc main_v14) = _
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results
  rfl

theorem e0 : ∀ t : Fin cfg0.N, win0_0.index t = ![(grid0.coords t 0).val, 0, 0] := (by decide +kernel : ∀ t : Fin grid0.N, _)
theorem e1 : ∀ t : Fin cfg0.N, win0_1.index t = ![(grid0.coords t 0).val, 0, 1] := (by decide +kernel : ∀ t : Fin grid0.N, _)
theorem e2 : ∀ t : Fin cfg0.N, win0_2.index t = ![(grid0.coords t 0).val, 0, 2] := (by decide +kernel : ∀ t : Fin grid0.N, _)
theorem e3 : ∀ t : Fin cfg0.N, win0_3.index t = ![(grid0.coords t 0).val, 0, 3] := (by decide +kernel : ∀ t : Fin grid0.N, _)
theorem e4 : ∀ t : Fin cfg0.N, win0_4.index t = ![(grid0.coords t 0).val, 0, 4] := (by decide +kernel : ∀ t : Fin grid0.N, _)
theorem e5 : ∀ t : Fin cfg0.N, win0_5.index t = ![(grid0.coords t 0).val, 0, 5] := (by decide +kernel : ∀ t : Fin grid0.N, _)
theorem e6 : ∀ t : Fin cfg0.N, win0_6.index t = ![(grid0.coords t 0).val, 0, 12] := (by decide +kernel : ∀ t : Fin grid0.N, _)
theorem e7 : ∀ t : Fin cfg0.N, win0_7.index t = ![(grid0.coords t 0).val, 0, 0] := (by decide +kernel : ∀ t : Fin grid0.N, _)
theorem e8 : ∀ t : Fin cfg0.N, win0_8.index t = ![(grid0.coords t 0).val, 0, 0] := (by decide +kernel : ∀ t : Fin grid0.N, _)
theorem e9 : ∀ t : Fin cfg0.N, win0_9.index t = ![(grid0.coords t 0).val, 0, 0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![0, 0] := (by decide +kernel : ∀ t : Fin grid0.N, _)
theorem e15 : ∀ t : Fin cfg0.N, win0_15.index t = ![0, 0] := (by decide +kernel : ∀ t : Fin grid0.N, _)
theorem e16 : ∀ t : Fin cfg0.N, win0_16.index t = ![0, 0] := (by decide +kernel : ∀ t : Fin grid0.N, _)
theorem e17 : ∀ t : Fin cfg0.N, win0_17.index t = ![0, 0] := (by decide +kernel : ∀ t : Fin grid0.N, _)
theorem e18 : ∀ t : Fin cfg0.N, win0_18.index t = ![0, 0] := (by decide +kernel : ∀ t : Fin grid0.N, _)
theorem e19 : ∀ t : Fin cfg0.N, win0_19.index t = ![0, 0] := (by decide +kernel : ∀ t : Fin grid0.N, _)
theorem e20 : ∀ t : Fin cfg0.N, win0_20.index t = ![0, 0] := (by decide +kernel : ∀ t : Fin grid0.N, _)
theorem e21 : ∀ t : Fin cfg0.N, win0_21.index t = ![0, 0] := (by decide +kernel : ∀ t : Fin grid0.N, _)
theorem e22 : ∀ t : Fin cfg0.N, win0_22.index t = ![0, 0] := (by decide +kernel : ∀ t : Fin grid0.N, _)

/-- The batch element point `t` handles. -/
def bt (t : Fin cfg0.N) : Fin 16 := grid0.coords t 0

theorem blk0 (t : Fin cfg0.N) (r : Fin 64) (j : Fin 1024) :
    X0_0 m c t (ix3 0 r j) = m ((c : Thread nD τ).loc main_arg0) (ix3 (bt t) r ⟨0 + j.val, by omega⟩) := by
  unfold X0_0 Pipeline.Window.fill
  rw [dif_pos (moved0_0 t _)]
  refine (congrFun (V_main_arg0 m c) (((cfg0.win 0).blk t).view.emb _)).trans ?_
  show (m ((c : Thread nD τ).loc main_arg0)) _ = _
  unfold bt; congr 1; blk_ext [e0]

theorem blk1 (t : Fin cfg0.N) (r : Fin 64) (j : Fin 1024) :
    X0_1 m c t (ix3 0 r j) = m ((c : Thread nD τ).loc main_arg0) (ix3 (bt t) r ⟨1024 + j.val, by omega⟩) := by
  unfold X0_1 Pipeline.Window.fill
  rw [dif_pos (moved0_1 t _)]
  refine (congrFun (V_main_arg0 m c) (((cfg0.win 1).blk t).view.emb _)).trans ?_
  show (m ((c : Thread nD τ).loc main_arg0)) _ = _
  unfold bt; congr 1; blk_ext [e1]

theorem blk2 (t : Fin cfg0.N) (r : Fin 64) (j : Fin 1024) :
    X0_2 m c t (ix3 0 r j) = m ((c : Thread nD τ).loc main_arg0) (ix3 (bt t) r ⟨2048 + j.val, by omega⟩) := by
  unfold X0_2 Pipeline.Window.fill
  rw [dif_pos (moved0_2 t _)]
  refine (congrFun (V_main_arg0 m c) (((cfg0.win 2).blk t).view.emb _)).trans ?_
  show (m ((c : Thread nD τ).loc main_arg0)) _ = _
  unfold bt; congr 1; blk_ext [e2]

theorem blk3 (t : Fin cfg0.N) (r : Fin 64) (j : Fin 1024) :
    X0_3 m c t (ix3 0 r j) = m ((c : Thread nD τ).loc main_arg0) (ix3 (bt t) r ⟨3072 + j.val, by omega⟩) := by
  unfold X0_3 Pipeline.Window.fill
  rw [dif_pos (moved0_3 t _)]
  refine (congrFun (V_main_arg0 m c) (((cfg0.win 3).blk t).view.emb _)).trans ?_
  show (m ((c : Thread nD τ).loc main_arg0)) _ = _
  unfold bt; congr 1; blk_ext [e3]

theorem blk4 (t : Fin cfg0.N) (r : Fin 64) (j : Fin 1024) :
    X0_4 m c t (ix3 0 r j) = m ((c : Thread nD τ).loc main_arg0) (ix3 (bt t) r ⟨4096 + j.val, by omega⟩) := by
  unfold X0_4 Pipeline.Window.fill
  rw [dif_pos (moved0_4 t _)]
  refine (congrFun (V_main_arg0 m c) (((cfg0.win 4).blk t).view.emb _)).trans ?_
  show (m ((c : Thread nD τ).loc main_arg0)) _ = _
  unfold bt; congr 1; blk_ext [e4]

theorem blk5 (t : Fin cfg0.N) (r : Fin 64) (j : Fin 1024) :
    X0_5 m c t (ix3 0 r j) = m ((c : Thread nD τ).loc main_arg0) (ix3 (bt t) r ⟨5120 + j.val, by omega⟩) := by
  unfold X0_5 Pipeline.Window.fill
  rw [dif_pos (moved0_5 t _)]
  refine (congrFun (V_main_arg0 m c) (((cfg0.win 5).blk t).view.emb _)).trans ?_
  show (m ((c : Thread nD τ).loc main_arg0)) _ = _
  unfold bt; congr 1; blk_ext [e5]

theorem row_at (x : S1024.Idx → EReal) (j : Fin 1024) : (shapeCast S1x1024 x shapeCasts_S1024_S1x1024 (ix2 0 j) : EReal) = x (ix1 j) := by
  pointwise

theorem row13_at (x : S16x64.Idx → EReal) (h : Fin 16) (d : Fin 64) :
    (shapeCast S1x1024 x shapeCasts_S16x64_S1x1024 (ix2 0 ⟨64 * h.val + d.val, by omega⟩) : EReal) = x (ix2 h d) := by
  pointwise

theorem zero_f32 : (FloatOps.sitofp (F := Ideal) .f32 (0#32) : EReal) = 0 := by
  show (((0#32 : BitVec 32).toInt : ℝ) : EReal) = 0
  simp

theorem zero_bf16 : (FloatOps.sitofp (F := Ideal) .bf16 (0#32) : EReal) = 0 := by
  show (((0#32 : BitVec 32).toInt : ℝ) : EReal) = 0
  simp

theorem shpad_at (x : S16x1x3360.Idx → EReal) (b : Fin 16) (j : Fin 3584) (hj : j.val < 3360) :
    ((pad S16x1x3584 ![0, 0, 0] ![0, 0, 224] ![0, 0, 0] x (sitofp .f32 (constantI S_ 32 0#32)) pads_S16x1x3360_S16x1x3584_000_000_02240 h_S_ : FVec Ideal S16x1x3584 .f32) (ix3 b 0 j) : EReal) = x (ix3 b 0 ⟨j.val, hj⟩) := by
  have hb := b.isLt
  pointwise
  exact dif_pos hj

theorem mupad_at (x : S3360.Idx → EReal) (j : Fin 3584) (hj : j.val < 3360) :
    ((pad S1x3584 ![0, 0] ![0, 224] ![0, 0] (shapeCast S1x3360 x shapeCasts_S3360_S1x3360) (sitofp .f32 (constantI S_ 32 0#32)) pads_S1x3360_S1x3584_000_02240 h_S_ : FVec Ideal S1x3584 .f32) (ix2 0 j) : EReal) = x (ix1 ⟨j.val, hj⟩) := by
  pointwise
  exact dif_pos hj

theorem decpad_at (x : S64x1024.Idx → EReal) (k : Fin 128) (j : Fin 1024) :
    ((pad S128x1024 ![0, 0] ![64, 0] ![0, 0] x (sitofp .bf16 (constantI S_ 32 0#32)) pads_S64x1024_S128x1024_0640_000 h_S_ : FVec Ideal S128x1024 .bf16) (ix2 k j) : EReal) = if h : k.val < 64 then x (ix2 ⟨k.val, h⟩ j) else 0 := by
  have hj := j.isLt
  pointwise
  by_cases h : k.val < 64
  · refine (dif_pos h).trans ?_
    simp [h]
  · refine (dif_neg h).trans (zero_bf16.trans ?_)
    simp [h]

theorem apad_at (x : S64x1024.Idx → EReal) (k : Fin 128) (j : Fin 1024) :
    ((pad S128x1024 ![64, 0] ![0, 0] ![0, 0] x (sitofp .bf16 (constantI S_ 32 0#32)) pads_S64x1024_S128x1024_6400_000 h_S_ : FVec Ideal S128x1024 .bf16) (ix2 k j) : EReal) = if h : 64 ≤ k.val then x (ix2 ⟨k.val - 64, by omega⟩ j) else 0 := by
  have hj := j.isLt
  pointwise
  by_cases h : 64 ≤ k.val
  · rw [dif_pos h]; exact dif_pos (by omega)
  · rw [dif_neg h]; exact (dif_neg (by omega)).trans zero_bf16

theorem gpad_at (x : S160x1024.Idx → EReal) (k : Fin 256) (j : Fin 1024) :
    ((pad S256x1024 ![0, 0] ![96, 0] ![0, 0] x (sitofp .bf16 (constantI S_ 32 0#32)) pads_S160x1024_S256x1024_0960_000 h_S_ : FVec Ideal S256x1024 .bf16) (ix2 k j) : EReal) = if h : k.val < 160 then x (ix2 ⟨k.val, h⟩ j) else 0 := by
  have hj := j.isLt
  pointwise
  by_cases h : k.val < 160
  · refine (dif_pos h).trans ?_
    simp [h]
  · refine (dif_neg h).trans (zero_bf16.trans ?_)
    simp [h]

theorem blk6 (t : Fin cfg0.N) (r : Fin 64) (j : Fin 512) :
    iblk m c 6 t (ix3 0 r j) = m ((c : Thread nD τ).loc main_arg0) (ix3 (bt t) r ⟨6144 + j.val, by omega⟩) := by
  show V m c main_arg0 (((cfg0.win 6).blk t).view.emb (ix3 0 r j)) = _
  rw [V_main_arg0]; unfold bt; congr 1; blk_ext [e6]

theorem blk7 (t : Fin cfg0.N) (r : Fin 2) (j : Fin 1024) :
    iblk m c 7 t (ix3 0 r j) = m ((c : Thread nD τ).loc main_arg1) (ix3 (bt t) r j) := by
  show V m c main_arg1 (((cfg0.win 7).blk t).view.emb (ix3 0 r j)) = _
  rw [V_main_arg1]; unfold bt; congr 1; blk_ext [e7]

theorem blk9 (t : Fin cfg0.N) (h : Fin 16) (i j : Fin 64) :
    iblk m c 9 t (ix4 0 h i j) = m ((c : Thread nD τ).loc main_arg3) (ix4 (bt t) h i j) := by
  show V m c main_arg3 (((cfg0.win 9).blk t).view.emb (ix4 0 h i j)) = _
  rw [V_main_arg3]; unfold bt; congr 1; blk_ext [e9]

theorem blk10 (t : Fin cfg0.N) (r : Fin 3) (j : Fin 1024) :
    iblk m c 10 t (ix2 r j) = m ((c : Thread nD τ).loc main_arg4) (ix2 r j) := by
  show V m c main_arg4 (((cfg0.win 10).blk t).view.emb (ix2 r j)) = _
  rw [V_main_arg4]; congr 1; blk_ext [e10]

theorem blk12 (t : Fin cfg0.N) (j : Fin 1024) :
    iblk m c 12 t (ix2 0 j) = (m ((c : Thread nD τ).loc main_arg6) (ix1 j) : EReal) := by
  show V m c main_v4 (((cfg0.win 12).blk t).view.emb (ix2 0 j)) = _
  have e : ((cfg0.win 12).blk t).view.emb (ix2 0 j) = ix2 0 j := by blk_ext [e12]
  rw [V_row6]
  refine (congrArg _ e).trans ?_
  exact row_at _ j

theorem blk14 (t : Fin cfg0.N) (j : Fin 1024) :
    iblk m c 14 t (ix2 0 j) = (m ((c : Thread nD τ).loc main_arg8) (ix1 j) : EReal) := by
  show V m c main_v7 (((cfg0.win 14).blk t).view.emb (ix2 0 j)) = _
  have e : ((cfg0.win 14).blk t).view.emb (ix2 0 j) = ix2 0 j := by blk_ext [e14]
  rw [V_row8]
  refine (congrArg _ e).trans ?_
  exact row_at _ j

theorem blk17 (t : Fin cfg0.N) (j : Fin 1024) :
    iblk m c 17 t (ix2 0 j) = (m ((c : Thread nD τ).loc main_arg11) (ix1 j) : EReal) := by
  show V m c main_v12 (((cfg0.win 17).blk t).view.emb (ix2 0 j)) = _
  have e : ((cfg0.win 17).blk t).view.emb (ix2 0 j) = ix2 0 j := by blk_ext [e17]
  rw [V_row11]
  refine (congrArg _ e).trans ?_
  exact row_at _ j

theorem blk18 (t : Fin cfg0.N) (j : Fin 1024) :
    iblk m c 18 t (ix2 0 j) = (m ((c : Thread nD τ).loc main_arg12) (ix1 j) : EReal) := by
  show V m c main_v13 (((cfg0.win 18).blk t).view.emb (ix2 0 j)) = _
  have e : ((cfg0.win 18).blk t).view.emb (ix2 0 j) = ix2 0 j := by blk_ext [e18]
  rw [V_row12]
  refine (congrArg _ e).trans ?_
  exact row_at _ j

theorem blk20 (t : Fin cfg0.N) (j : Fin 1024) :
    iblk m c 20 t (ix2 0 j) = (m ((c : Thread nD τ).loc main_arg14) (ix1 j) : EReal) := by
  show V m c main_v21 (((cfg0.win 20).blk t).view.emb (ix2 0 j)) = _
  have e : ((cfg0.win 20).blk t).view.emb (ix2 0 j) = ix2 0 j := by blk_ext [e20]
  rw [V_row14]
  refine (congrArg _ e).trans ?_
  exact row_at _ j

theorem blk21 (t : Fin cfg0.N) (j : Fin 1024) :
    iblk m c 21 t (ix2 0 j) = (m ((c : Thread nD τ).loc main_arg15) (ix1 j) : EReal) := by
  show V m c main_v22 (((cfg0.win 21).blk t).view.emb (ix2 0 j)) = _
  have e : ((cfg0.win 21).blk t).view.emb (ix2 0 j) = ix2 0 j := by blk_ext [e21]
  rw [V_row15]
  refine (congrArg _ e).trans ?_
  exact row_at _ j

theorem blk19 (t : Fin cfg0.N) (h : Fin 16) (d : Fin 64) :
    iblk m c 19 t (ix2 0 ⟨64 * h.val + d.val, by omega⟩) = (m ((c : Thread nD τ).loc main_arg13) (ix2 h d) : EReal) := by
  show V m c main_v14 (((cfg0.win 19).blk t).view.emb (ix2 0 ⟨64 * h.val + d.val, by omega⟩)) = _
  have e : ((cfg0.win 19).blk t).view.emb (ix2 0 ⟨64 * h.val + d.val, by omega⟩) = ix2 0 ⟨64 * h.val + d.val, by omega⟩ := by blk_ext [e19]
  rw [V_row13]
  refine (congrArg _ e).trans ?_
  exact row13_at _ h d

theorem blk8 (t : Fin cfg0.N) (j : Fin 3584) (hj : j.val < 3360) :
    iblk m c 8 t (ix3 0 0 j) = (m ((c : Thread nD τ).loc main_arg2) (ix3 (bt t) 0 ⟨j.val, hj⟩) : EReal) := by
  show V m c main_v23 (((cfg0.win 8).blk t).view.emb (ix3 0 0 j)) = _
  have e : ((cfg0.win 8).blk t).view.emb (ix3 0 0 j) = ix3 (bt t) 0 j := by unfold bt; blk_ext [e8]
  rw [V_sh]
  refine (congrArg _ e).trans ?_
  exact shpad_at _ _ j hj

theorem blk11 (t : Fin cfg0.N) (j : Fin 3584) (hj : j.val < 3360) :
    iblk m c 11 t (ix2 0 j) = (m ((c : Thread nD τ).loc main_arg5) (ix1 ⟨j.val, hj⟩) : EReal) := by
  show V m c main_v3 (((cfg0.win 11).blk t).view.emb (ix2 0 j)) = _
  have e : ((cfg0.win 11).blk t).view.emb (ix2 0 j) = ix2 0 j := by blk_ext [e11]
  rw [V_mu]
  refine (congrArg _ e).trans ?_
  exact mupad_at _ j hj

theorem blk13 (t : Fin cfg0.N) (k : Fin 128) (j : Fin 1024) :
    iblk m c 13 t (ix2 k j) = (if h : k.val < 64 then m ((c : Thread nD τ).loc main_arg7) (ix2 ⟨k.val, h⟩ j) else 0 : EReal) := by
  show V m c main_v6 (((cfg0.win 13).blk t).view.emb (ix2 k j)) = _
  have e : ((cfg0.win 13).blk t).view.emb (ix2 k j) = ix2 k j := by blk_ext [e13]
  rw [V_dec]
  refine (congrArg _ e).trans ?_
  exact decpad_at _ k j

theorem blk15 (t : Fin cfg0.N) (k : Fin 128) (j : Fin 1024) :
    iblk m c 15 t (ix2 k j) = (if h : 64 ≤ k.val then m ((c : Thread nD τ).loc main_arg9) (ix2 ⟨k.val - 64, by omega⟩ j) else 0 : EReal) := by
  show V m c main_v9 (((cfg0.win 15).blk t).view.emb (ix2 k j)) = _
  have e : ((cfg0.win 15).blk t).view.emb (ix2 k j) = ix2 k j := by blk_ext [e15]
  rw [V_a]
  refine (congrArg _ e).trans ?_
  exact apad_at _ k j

theorem blk16 (t : Fin cfg0.N) (k : Fin 256) (j : Fin 1024) :
    iblk m c 16 t (ix2 k j) = (if h : k.val < 160 then m ((c : Thread nD τ).loc main_arg10) (ix2 ⟨k.val, h⟩ j) else 0 : EReal) := by
  show V m c main_v11 (((cfg0.win 16).blk t).view.emb (ix2 k j)) = _
  have e : ((cfg0.win 16).blk t).view.emb (ix2 k j) = ix2 k j := by blk_ext [e16]
  rw [V_g]
  refine (congrArg _ e).trans ?_
  exact gpad_at _ k j

theorem blk22 (t : Fin cfg0.N) (i j : Fin 256) : iblk m c 22 t (ix2 i j) = bdm (ix2 i j) := by
  show V m c main_v20 (((cfg0.win 22).blk t).view.emb (ix2 i j)) = _
  rw [V_bd]; congr 1; blk_ext [e22]

end Cert.Mixer
-- ==== Proof.Mix.RefRun.lean ====
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v69_7) = s.main_v69_7
  f_8 : V0 (Proc.devRef .tc main_v69_8) = s.main_v69_8
  f_0 : V0 (Proc.devRef .tc main_v69_0) = s.main_v69_0
  f_1 : V0 (Proc.devRef .tc main_v69_1) = s.main_v69_1
  f_2 : V0 (Proc.devRef .tc main_v69_2) = s.main_v69_2
  f_3 : V0 (Proc.devRef .tc main_v69_3) = s.main_v69_3
  f_4 : V0 (Proc.devRef .tc main_v69_4) = s.main_v69_4
  f_5 : V0 (Proc.devRef .tc main_v69_5) = s.main_v69_5
  n_6 : V0 (Proc.devRef .tc main_v69_6) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x16x16x64 (V0 (Proc.devRef .tc main_v69_0)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64 : (Proc.devRef .tc main_while0b_call1_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (shapeCast S16x16x64 (Host.dynamicSlice S1x16x16x64 (V0 (Proc.devRef .tc main_v69_0)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64 : (Proc.devRef .tc main_while0b_v179 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call2_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call2_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x16x16x64 (V0 (Proc.devRef .tc main_v69_1)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64 : (Proc.devRef .tc main_while0b_call2_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (shapeCast S16x16x64 (Host.dynamicSlice S1x16x16x64 (V0 (Proc.devRef .tc main_v69_1)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64 : (Proc.devRef .tc main_while0b_v180 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call3_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call3_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call3_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x16x16x64 (V0 (Proc.devRef .tc main_v69_2)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64 : (Proc.devRef .tc main_while0b_call3_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (shapeCast S16x16x64 (Host.dynamicSlice S1x16x16x64 (V0 (Proc.devRef .tc main_v69_2)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64 : (Proc.devRef .tc main_while0b_v181 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call4_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call4_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call4_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x16x16x64 (V0 (Proc.devRef .tc main_v69_3)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64 : (Proc.devRef .tc main_while0b_call4_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S16x16x64 (Host.dynamicSlice S1x16x16x64 (V0 (Proc.devRef .tc main_v69_3)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64 : (Proc.devRef .tc main_while0b_v182 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call5_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call5_c_0 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call5_c_1 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x16x16x64 (V0 (Proc.devRef .tc main_v69_4)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64 : (Proc.devRef .tc main_while0b_call5_v0 : DevRef τ sig).ty.Contents (Elt F)) = Cert.ReferenceIdeal.Step.b23 j s := by
  unfold Cert.ReferenceIdeal.Step.b23
  rw [← al_20 h, ← al_21 h, ← al_22 h, h.f_4, h.n_6]
  try rfl
set_option maxRecDepth 8192 in
theorem al_24 (h : Holds V0 s j) : (res_main_while0b_v183 V0 : (Proc.devRef .tc main_while0b_v183 : DevRef τ sig).ty.Contents (Elt F)) = Cert.ReferenceIdeal.Step.b24 j s := by
  unfold res_main_while0b_v183 Cert.ReferenceIdeal.Step.b24
  rw [← al_23 h]
  try rfl
set_option maxRecDepth 8192 in
theorem al_25 (h : Holds V0 s j) : (constantI S_ 32 0#32 : (Proc.devRef .tc main_while0b_call6_c : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call6_c_0 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call6_c_1 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x16x16x64 (V0 (Proc.devRef .tc main_v69_5)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64 : (Proc.devRef .tc main_while0b_call6_v0 : DevRef τ sig).ty.Contents (Elt F)) = Cert.ReferenceIdeal.Step.b28 j s := by
  unfold Cert.ReferenceIdeal.Step.b28
  rw [← al_25 h, ← al_26 h, ← al_27 h, h.f_5, h.n_6]
  try rfl
set_option maxRecDepth 8192 in
theorem al_29 (h : Holds V0 s j) : (shapeCast S16x16x64 (Host.dynamicSlice S1x16x16x64 (V0 (Proc.devRef .tc main_v69_5)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64 : (Proc.devRef .tc main_while0b_v184 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (Host.dotGeneral dot_S16x16x64x64_S16x16x64_S16x16x64_3_2_2_n_01_01 none (V0 (Proc.devRef .tc main_v69_7)) (res_main_while0b_v183 V0) : (Proc.devRef .tc main_while0b_v185 : DevRef τ sig).ty.Contents (Elt F)) = Cert.ReferenceIdeal.Step.b30 j s := by
  unfold Cert.ReferenceIdeal.Step.b30
  rw [← al_24 h, h.f_7]
  try rfl
set_option maxRecDepth 8192 in
theorem al_31 (h : Holds V0 s j) : (broadcastInDim S16x16x1x64 ![0, 1, 3] bcast_S16x16x64_S16x16x1x64_0_1_3 (shapeCast S16x16x64 (Host.dynamicSlice S1x16x16x64 (V0 (Proc.devRef .tc main_v69_1)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64) : (Proc.devRef .tc main_while0b_v186 : DevRef τ sig).ty.Contents (Elt F)) = Cert.ReferenceIdeal.Step.b31 j s := by
  unfold Cert.ReferenceIdeal.Step.b31
  rw [← al_9 h]
  try rfl
set_option maxRecDepth 8192 in
theorem al_32 (h : Holds V0 s j) : (broadcastInDim S16x16x64x64 ![0, 1, 2, 3] bcast_S16x16x1x64_S16x16x64x64_0_1_2_3 (broadcastInDim S16x16x1x64 ![0, 1, 3] bcast_S16x16x64_S16x16x1x64_0_1_3 (shapeCast S16x16x64 (Host.dynamicSlice S1x16x16x64 (V0 (Proc.devRef .tc main_v69_1)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64)) : (Proc.devRef .tc main_while0b_v187 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (mulf (V0 (Proc.devRef .tc main_v69_7)) (broadcastInDim S16x16x64x64 ![0, 1, 2, 3] bcast_S16x16x1x64_S16x16x64x64_0_1_2_3 (broadcastInDim S16x16x1x64 ![0, 1, 3] bcast_S16x16x64_S16x16x1x64_0_1_3 (shapeCast S16x16x64 (Host.dynamicSlice S1x16x16x64 (V0 (Proc.devRef .tc main_v69_1)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64))) : (Proc.devRef .tc main_while0b_v188 : DevRef τ sig).ty.Contents (Elt F)) = Cert.ReferenceIdeal.Step.b33 j s := by
  unfold Cert.ReferenceIdeal.Step.b33
  rw [← al_32 h, h.f_7]
  try rfl
set_option maxRecDepth 8192 in
theorem al_34 (h : Holds V0 s j) : (broadcastInDim S16x16x64x1 ![0, 1, 2] bcast_S16x16x64_S16x16x64x1_0_1_2 (Host.dotGeneral dot_S16x16x64x64_S16x16x64_S16x16x64_3_2_2_n_01_01 none (V0 (Proc.devRef .tc main_v69_7)) (res_main_while0b_v183 V0)) : (Proc.devRef .tc main_while0b_v189 : DevRef τ sig).ty.Contents (Elt F)) = Cert.ReferenceIdeal.Step.b34 j s := by
  unfold Cert.ReferenceIdeal.Step.b34
  rw [← al_30 h]
  try rfl
set_option maxRecDepth 8192 in
theorem al_35 (h : Holds V0 s j) : (mulf (res_main_while0b_v183 V0) (shapeCast S16x16x64 (Host.dynamicSlice S1x16x16x64 (V0 (Proc.devRef .tc main_v69_5)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64) : (Proc.devRef .tc main_while0b_v190 : DevRef τ sig).ty.Contents (Elt F)) = Cert.ReferenceIdeal.Step.b35 j s := by
  unfold Cert.ReferenceIdeal.Step.b35
  rw [← al_24 h, ← al_29 h]
  try rfl
set_option maxRecDepth 8192 in
theorem al_36 (h : Holds V0 s j) : (broadcastInDim S16x16x1x64 ![0, 1, 3] bcast_S16x16x64_S16x16x1x64_0_1_3 (mulf (res_main_while0b_v183 V0) (shapeCast S16x16x64 (Host.dynamicSlice S1x16x16x64 (V0 (Proc.devRef .tc main_v69_5)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64)) : (Proc.devRef .tc main_while0b_v191 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (broadcastInDim S16x16x64x64 ![0, 1, 2, 3] bcast_S16x16x64x1_S16x16x64x64_0_1_2_3 (broadcastInDim S16x16x64x1 ![0, 1, 2] bcast_S16x16x64_S16x16x64x1_0_1_2 (Host.dotGeneral dot_S16x16x64x64_S16x16x64_S16x16x64_3_2_2_n_01_01 none (V0 (Proc.devRef .tc main_v69_7)) (res_main_while0b_v183 V0))) : (Proc.devRef .tc main_while0b_v192 : DevRef τ sig).ty.Contents (Elt F)) = Cert.ReferenceIdeal.Step.b37 j s := by
  unfold Cert.ReferenceIdeal.Step.b37
  rw [← al_34 h]
  try rfl
set_option maxRecDepth 8192 in
theorem al_38 (h : Holds V0 s j) : (broadcastInDim S16x16x64x64 ![0, 1, 2, 3] bcast_S16x16x1x64_S16x16x64x64_0_1_2_3 (broadcastInDim S16x16x1x64 ![0, 1, 3] bcast_S16x16x64_S16x16x1x64_0_1_3 (mulf (res_main_while0b_v183 V0) (shapeCast S16x16x64 (Host.dynamicSlice S1x16x16x64 (V0 (Proc.devRef .tc main_v69_5)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64))) : (Proc.devRef .tc main_while0b_v193 : DevRef τ sig).ty.Contents (Elt F)) = Cert.ReferenceIdeal.Step.b38 j s := by
  unfold Cert.ReferenceIdeal.Step.b38
  rw [← al_36 h]
  try rfl
set_option maxRecDepth 8192 in
theorem al_39 (h : Holds V0 s j) : (mulf (broadcastInDim S16x16x64x64 ![0, 1, 2, 3] bcast_S16x16x64x1_S16x16x64x64_0_1_2_3 (broadcastInDim S16x16x64x1 ![0, 1, 2] bcast_S16x16x64_S16x16x64x1_0_1_2 (Host.dotGeneral dot_S16x16x64x64_S16x16x64_S16x16x64_3_2_2_n_01_01 none (V0 (Proc.devRef .tc main_v69_7)) (res_main_while0b_v183 V0)))) (broadcastInDim S16x16x64x64 ![0, 1, 2, 3] bcast_S16x16x1x64_S16x16x64x64_0_1_2_3 (broadcastInDim S16x16x1x64 ![0, 1, 3] bcast_S16x16x64_S16x16x1x64_0_1_3 (mulf (res_main_while0b_v183 V0) (shapeCast S16x16x64 (Host.dynamicSlice S1x16x16x64 (V0 (Proc.devRef .tc main_v69_5)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64)))) : (Proc.devRef .tc main_while0b_v194 : DevRef τ sig).ty.Contents (Elt F)) = Cert.ReferenceIdeal.Step.b39 j s := by
  unfold Cert.ReferenceIdeal.Step.b39
  rw [← al_37 h, ← al_38 h]
  try rfl
set_option maxRecDepth 8192 in
theorem al_40 (h : Holds V0 s j) : (subf (mulf (V0 (Proc.devRef .tc main_v69_7)) (broadcastInDim S16x16x64x64 ![0, 1, 2, 3] bcast_S16x16x1x64_S16x16x64x64_0_1_2_3 (broadcastInDim S16x16x1x64 ![0, 1, 3] bcast_S16x16x64_S16x16x1x64_0_1_3 (shapeCast S16x16x64 (Host.dynamicSlice S1x16x16x64 (V0 (Proc.devRef .tc main_v69_1)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64)))) (mulf (broadcastInDim S16x16x64x64 ![0, 1, 2, 3] bcast_S16x16x64x1_S16x16x64x64_0_1_2_3 (broadcastInDim S16x16x64x1 ![0, 1, 2] bcast_S16x16x64_S16x16x64x1_0_1_2 (Host.dotGeneral dot_S16x16x64x64_S16x16x64_S16x16x64_3_2_2_n_01_01 none (V0 (Proc.devRef .tc main_v69_7)) (res_main_while0b_v183 V0)))) (broadcastInDim S16x16x64x64 ![0, 1, 2, 3] bcast_S16x16x1x64_S16x16x64x64_0_1_2_3 (broadcastInDim S16x16x1x64 ![0, 1, 3] bcast_S16x16x64_S16x16x1x64_0_1_3 (mulf (res_main_while0b_v183 V0) (shapeCast S16x16x64 (Host.dynamicSlice S1x16x16x64 (V0 (Proc.devRef .tc main_v69_5)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64))))) : (Proc.devRef .tc main_while0b_v195 : DevRef τ sig).ty.Contents (Elt F)) = Cert.ReferenceIdeal.Step.b40 j s := by
  unfold Cert.ReferenceIdeal.Step.b40
  rw [← al_33 h, ← al_39 h]
  try rfl
set_option maxRecDepth 8192 in
theorem al_41 (h : Holds V0 s j) : (broadcastInDim S16x16x64x1 ![0, 1, 2] bcast_S16x16x64_S16x16x64x1_0_1_2 (shapeCast S16x16x64 (Host.dynamicSlice S1x16x16x64 (V0 (Proc.devRef .tc main_v69_3)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64) : (Proc.devRef .tc main_while0b_v196 : DevRef τ sig).ty.Contents (Elt F)) = Cert.ReferenceIdeal.Step.b41 j s := by
  unfold Cert.ReferenceIdeal.Step.b41
  rw [← al_19 h]
  try rfl
set_option maxRecDepth 8192 in
theorem al_42 (h : Holds V0 s j) : (broadcastInDim S16x16x1x64 ![0, 1, 3] bcast_S16x16x64_S16x16x1x64_0_1_3 (shapeCast S16x16x64 (Host.dynamicSlice S1x16x16x64 (V0 (Proc.devRef .tc main_v69_2)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64) : (Proc.devRef .tc main_while0b_v197 : DevRef τ sig).ty.Contents (Elt F)) = Cert.ReferenceIdeal.Step.b42 j s := by
  unfold Cert.ReferenceIdeal.Step.b42
  rw [← al_14 h]
  try rfl
set_option maxRecDepth 8192 in
theorem al_43 (h : Holds V0 s j) : (broadcastInDim S16x16x64x64 ![0, 1, 2, 3] bcast_S16x16x64x1_S16x16x64x64_0_1_2_3 (broadcastInDim S16x16x64x1 ![0, 1, 2] bcast_S16x16x64_S16x16x64x1_0_1_2 (shapeCast S16x16x64 (Host.dynamicSlice S1x16x16x64 (V0 (Proc.devRef .tc main_v69_3)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64)) : (Proc.devRef .tc main_while0b_v198 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (broadcastInDim S16x16x64x64 ![0, 1, 2, 3] bcast_S16x16x1x64_S16x16x64x64_0_1_2_3 (broadcastInDim S16x16x1x64 ![0, 1, 3] bcast_S16x16x64_S16x16x1x64_0_1_3 (shapeCast S16x16x64 (Host.dynamicSlice S1x16x16x64 (V0 (Proc.devRef .tc main_v69_2)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64)) : (Proc.devRef .tc main_while0b_v199 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (mulf (broadcastInDim S16x16x64x64 ![0, 1, 2, 3] bcast_S16x16x64x1_S16x16x64x64_0_1_2_3 (broadcastInDim S16x16x64x1 ![0, 1, 2] bcast_S16x16x64_S16x16x64x1_0_1_2 (shapeCast S16x16x64 (Host.dynamicSlice S1x16x16x64 (V0 (Proc.devRef .tc main_v69_3)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64))) (broadcastInDim S16x16x64x64 ![0, 1, 2, 3] bcast_S16x16x1x64_S16x16x64x64_0_1_2_3 (broadcastInDim S16x16x1x64 ![0, 1, 3] bcast_S16x16x64_S16x16x1x64_0_1_3 (shapeCast S16x16x64 (Host.dynamicSlice S1x16x16x64 (V0 (Proc.devRef .tc main_v69_2)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64))) : (Proc.devRef .tc main_while0b_v200 : DevRef τ sig).ty.Contents (Elt F)) = Cert.ReferenceIdeal.Step.b45 j s := by
  unfold Cert.ReferenceIdeal.Step.b45
  rw [← al_43 h, ← al_44 h]
  try rfl
set_option maxRecDepth 8192 in
theorem al_46 (h : Holds V0 s j) : (res_main_while0b_v201 V0 : (Proc.devRef .tc main_while0b_v201 : DevRef τ sig).ty.Contents (Elt F)) = Cert.ReferenceIdeal.Step.b46 j s := by
  unfold res_main_while0b_v201 Cert.ReferenceIdeal.Step.b46
  rw [← al_40 h, ← al_45 h]
  try rfl
set_option maxRecDepth 8192 in
theorem al_47 (h : Holds V0 s j) : (Host.dotGeneral dot_S16x16x64x64_S16x16x64_S16x16x64_3_2_2_n_01_01 none (res_main_while0b_v201 V0) (shapeCast S16x16x64 (Host.dynamicSlice S1x16x16x64 (V0 (Proc.devRef .tc main_v69_0)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64) : (Proc.devRef .tc main_while0b_v202 : DevRef τ sig).ty.Contents (Elt F)) = Cert.ReferenceIdeal.Step.b47 j s := by
  unfold Cert.ReferenceIdeal.Step.b47
  rw [← al_46 h, ← al_4 h]
  try rfl
set_option maxRecDepth 8192 in
theorem al_48 (h : Holds V0 s j) : (broadcastInDim S1x16x16x64 ![1, 2, 3] bcast_S16x16x64_S1x16x16x64_1_2_3 (Host.dotGeneral dot_S16x16x64x64_S16x16x64_S16x16x64_3_2_2_n_01_01 none (res_main_while0b_v201 V0) (shapeCast S16x16x64 (Host.dynamicSlice S1x16x16x64 (V0 (Proc.devRef .tc main_v69_0)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64)) : (Proc.devRef .tc main_while0b_call7_v0 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (constantI S_ 32 0#32 : (Proc.devRef .tc main_while0b_call7_c : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call7_c_0 : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call7_c_1 : DevRef τ sig).ty.Contents (Elt F)) = Cert.ReferenceIdeal.Step.b51 j s := by
  unfold Cert.ReferenceIdeal.Step.b51
  rfl
set_option maxRecDepth 8192 in
theorem al_52 (h : Holds V0 s j) : (Host.dynamicUpdateSlice (V0 (Proc.devRef .tc main_v69_8)) (broadcastInDim S1x16x16x64 ![1, 2, 3] bcast_S16x16x64_S1x16x16x64_1_2_3 (Host.dotGeneral dot_S16x16x64x64_S16x16x64_S16x16x64_3_2_2_n_01_01 none (res_main_while0b_v201 V0) (shapeCast S16x16x64 (Host.dynamicSlice S1x16x16x64 (V0 (Proc.devRef .tc main_v69_0)) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) sliceFits_S64x16x16x64_S1x16x16x64) shapeCasts_S1x16x16x64_S16x16x64))) (fun k => (((![V0 (Proc.devRef .tc main_v69_6), constantI S_ 32 0#32, constantI S_ 32 0#32, constantI S_ 32 0#32] : Fin 4 → (⟨S_, .i32⟩ : BufTy).Contents (Elt F))) k (Shape.Idx.first h_S_)).toInt) updateFits_S64x16x16x64_S1x16x16x64 : (Proc.devRef .tc main_while0b_v203 : DevRef τ sig).ty.Contents (Elt F)) = Cert.ReferenceIdeal.Step.b52 j s := by
  unfold Cert.ReferenceIdeal.Step.b52
  rw [← al_48 h, ← al_49 h, ← al_50 h, ← al_51 h, h.f_8, h.n_6]
  try rfl

/-! One trip's step of the carried values is `step`, field by field; a counter steps to the next number. -/

theorem step_7 (h : Holds V0 s j) : step_main_v69_7 V0 = (step j s).main_v69_7 := by
  unfold step_main_v69_7 Cert.ReferenceIdeal.Step.step
  show id (res_main_while0b_v201 V0) = _
  rw [al_46 h]
  try rfl
theorem step_8 (h : Holds V0 s j) : step_main_v69_8 V0 = (step j s).main_v69_8 := by
  unfold step_main_v69_8 Cert.ReferenceIdeal.Step.step
  exact al_52 h
theorem step_6 (h : Holds V0 s j) : step_main_v69_6 V0 = constantI S_ 32 (BitVec.ofNat 32 (j + 1)) := by
  unfold step_main_v69_6
  rw [h.n_6]
  funext i
  show BitVec.ofNat 32 j + 1#32 = BitVec.ofNat 32 (j + 1)
  simp only [BitVec.ofNat_add]

set_option maxRecDepth 8192 in
theorem out_main_v175_holds (h : Holds V0 s j) {x_main_arg0 : (⟨S16x64x6656, .f32⟩ : BufTy).Contents (Elt F)} (h_main_arg0 : V0 (Proc.devRef .tc main_arg0) = x_main_arg0) {x_main_arg1 : (⟨S16x2x1024, .f32⟩ : BufTy).Contents (Elt F)} (h_main_arg1 : V0 (Proc.devRef .tc main_arg1) = x_main_arg1) {x_main_arg4 : (⟨S3x1024, .f32⟩ : BufTy).Contents (Elt F)} (h_main_arg4 : V0 (Proc.devRef .tc main_arg4) = x_main_arg4) : out_main_v175 V0 = Cert.ReferenceIdeal.Step.R_main_v175 s x_main_arg0 x_main_arg1 x_main_arg4 := by
  unfold out_main_v175 Cert.ReferenceIdeal.Step.R_main_v175
  rw [h_main_arg0, h_main_arg1, h_main_arg4]
  try rfl

set_option maxRecDepth 8192 in
theorem out_main_v176_holds (h : Holds V0 s j) {x_main_arg0 : (⟨S16x64x6656, .f32⟩ : BufTy).Contents (Elt F)} (h_main_arg0 : V0 (Proc.devRef .tc main_arg0) = x_main_arg0) {x_main_arg2 : (⟨S16x1x3360, .f32⟩ : BufTy).Contents (Elt F)} (h_main_arg2 : V0 (Proc.devRef .tc main_arg2) = x_main_arg2) {x_main_arg5 : (⟨S3360, .f32⟩ : BufTy).Contents (Elt F)} (h_main_arg5 : V0 (Proc.devRef .tc main_arg5) = x_main_arg5) {x_main_arg8 : (⟨S1024, .f32⟩ : BufTy).Contents (Elt F)} (h_main_arg8 : V0 (Proc.devRef .tc main_arg8) = x_main_arg8) {x_main_arg9 : (⟨S64x1024, .f32⟩ : BufTy).Contents (Elt F)} (h_main_arg9 : V0 (Proc.devRef .tc main_arg9) = x_main_arg9) {x_main_arg10 : (⟨S160x1024, .f32⟩ : BufTy).Contents (Elt F)} (h_main_arg10 : V0 (Proc.devRef .tc main_arg10) = x_main_arg10) {x_main_arg12 : (⟨S1024, .f32⟩ : BufTy).Contents (Elt F)} (h_main_arg12 : V0 (Proc.devRef .tc main_arg12) = x_main_arg12) {x_main_arg13 : (⟨S16x64, .f32⟩ : BufTy).Contents (Elt F)} (h_main_arg13 : V0 (Proc.devRef .tc main_arg13) = x_main_arg13) {x_main_arg14 : (⟨S1024, .f32⟩ : BufTy).Contents (Elt F)} (h_main_arg14 : V0 (Proc.devRef .tc main_arg14) = x_main_arg14) {x_main_arg15 : (⟨S1024, .f32⟩ : BufTy).Contents (Elt F)} (h_main_arg15 : V0 (Proc.devRef .tc main_arg15) = x_main_arg15) : out_main_v176 V0 = Cert.ReferenceIdeal.Step.R_main_v176 s x_main_arg0 x_main_arg2 x_main_arg5 x_main_arg8 x_main_arg9 x_main_arg10 x_main_arg12 x_main_arg13 x_main_arg14 x_main_arg15 := by
  unfold out_main_v176 Cert.ReferenceIdeal.Step.R_main_v176
  rw [h.f_8, h_main_arg0, h_main_arg2, h_main_arg5, h_main_arg8, h_main_arg9, h_main_arg10, h_main_arg12, h_main_arg13, h_main_arg14, h_main_arg15]
  try rfl

set_option maxRecDepth 8192 in
theorem out_main_v177_holds (h : Holds V0 s j) {x_main_arg0 : (⟨S16x64x6656, .f32⟩ : BufTy).Contents (Elt F)} (h_main_arg0 : V0 (Proc.devRef .tc main_arg0) = x_main_arg0) {x_main_arg1 : (⟨S16x2x1024, .f32⟩ : BufTy).Contents (Elt F)} (h_main_arg1 : V0 (Proc.devRef .tc main_arg1) = x_main_arg1) : out_main_v177 V0 = Cert.ReferenceIdeal.Step.R_main_v177 s x_main_arg0 x_main_arg1 := by
  unfold out_main_v177 Cert.ReferenceIdeal.Step.R_main_v177
  rw [h_main_arg0, h_main_arg1]
  try rfl

set_option maxRecDepth 8192 in
theorem out_main_v178_holds (h : Holds V0 s j) {x_main_arg0 : (⟨S16x64x6656, .f32⟩ : BufTy).Contents (Elt F)} (h_main_arg0 : V0 (Proc.devRef .tc main_arg0) = x_main_arg0) : out_main_v178 V0 = Cert.ReferenceIdeal.Step.R_main_v178 s x_main_arg0 := by
  unfold out_main_v178 Cert.ReferenceIdeal.Step.R_main_v178
  rw [h_main_arg0]
  try rfl

/-- One trip keeps the valuation holding: `step` of the state, the same set-up values, the next number. -/
theorem holds_step (h : Holds V0 s j) : Holds (STEP V0) (step j s) (j + 1) where
  f_7 := (STEP_main_v69_7 V0).trans (step_7 h)
  f_8 := (STEP_main_v69_8 V0).trans (step_8 h)
  n_6 := (STEP_main_v69_6 V0).trans (step_6 h)
  f_0 := (STEP_main_v69_0 V0).trans h.f_0
  f_1 := (STEP_main_v69_1 V0).trans h.f_1
  f_2 := (STEP_main_v69_2 V0).trans h.f_2
  f_3 := (STEP_main_v69_3 V0).trans h.f_3
  f_4 := (STEP_main_v69_4 V0).trans h.f_4
  f_5 := (STEP_main_v69_5 V0).trans h.f_5

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg0)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v175) = Cert.ReferenceIdeal.Step.R_main_v175 (it c 64) (m ((c.tc : Thread nD τ).loc main_arg0)) (m ((c.tc : Thread nD τ).loc main_arg1)) (m ((c.tc : Thread nD τ).loc main_arg4))
      ∧ r.2.mem ((c.tc : Thread nD τ).loc main_v176) = Cert.ReferenceIdeal.Step.R_main_v176 (it c 64) (m ((c.tc : Thread nD τ).loc main_arg0)) (m ((c.tc : Thread nD τ).loc main_arg2)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v177) = Cert.ReferenceIdeal.Step.R_main_v177 (it c 64) (m ((c.tc : Thread nD τ).loc main_arg0)) (m ((c.tc : Thread nD τ).loc main_arg1))
      ∧ r.2.mem ((c.tc : Thread nD τ).loc main_v178) = Cert.ReferenceIdeal.Step.R_main_v178 (it c 64) (m ((c.tc : Thread nD τ).loc main_arg0))
      ∧ r.2.mem ((c.tc : Thread nD τ).loc main_v69_7) = (it c 64).main_v69_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    have hk := holds_iter m c (it c) (h0 c) (hs c) 64
    ⟨(h c).1.trans (out_main_v175_holds hk (iter_main_arg0 m c 64) (iter_main_arg1 m c 64) (iter_main_arg4 m c 64)), (h c).2.1.trans (out_main_v176_holds hk (iter_main_arg0 m c 64) (iter_main_arg2 m c 64) (iter_main_arg5 m c 64) (iter_main_arg8 m c 64) (iter_main_arg9 m c 64) (iter_main_arg10 m c 64) (iter_main_arg12 m c 64) (iter_main_arg13 m c 64) (iter_main_arg14 m c 64) (iter_main_arg15 m c 64)), (h c).2.2.1.trans (out_main_v177_holds hk (iter_main_arg0 m c 64) (iter_main_arg1 m c 64)), (h c).2.2.2.1.trans (out_main_v178_holds hk (iter_main_arg0 m c 64)), (h c).2.2.2.2.1.trans hk.f_7, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2⟩) (Value.run m ρ)

end Cert.ReferenceIdeal.StepRun

end
-- ==== Proof.Mix.Conv.lean ====
/-
  The gated short convolution, the last rows it hands on, and the last row of the shifted columns: the kernel's three
  blocks against the reference's arrays, entry by entry.
-/
module

public import proofs.«01_k».proof.Proof.Mix.ValueI
public import proofs.«01_k».proof.Proof.Mix.Blocks
public import proofs.«01_k».proof.Proof.Mix.RefRun
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mixer

open Cert.KernelIdeal Cert.KernelIdeal.Gen
open Cert.ReferenceIdeal.Step (State R_main_v175 R_main_v177 R_main_v178)

/-- A place that the newest piece covers holds that piece's value. -/
theorem canon_hit {s : Shape} {e : EltTy} {Val : EltTy → Type} [∀ e, Nonempty (Val e)] {off size : Fin s.rank → ℕ} (inb : ∀ a, off a + size a ≤ s.size a)
    (P : (Rect.unit off size inb).shape.Idx → Val e) (L : List (View.Piece Val s e)) (y : s.Idx) (x : (Rect.unit off size inb).shape.Idx)
    (hx : ∀ a, (y a).val = off a + (x a).val) : View.canon (⟨Rect.unit off size inb, P⟩ :: L) y = P x := by
  have : y = (Rect.unit off size inb).emb x := by
    funext a
    apply Fin.ext
    rw [hx a]
    show _ = off a + 1 * (x a).val
    rw [one_mul]
  rw [this, View.canon_cons_emb]

/-- A place that the newest piece does not cover holds what the older pieces left. -/
theorem canon_miss {s : Shape} {e : EltTy} {Val : EltTy → Type} [∀ e, Nonempty (Val e)] {off size : Fin s.rank → ℕ} (inb : ∀ a, off a + size a ≤ s.size a)
    (P : (Rect.unit off size inb).shape.Idx → Val e) (L : List (View.Piece Val s e)) (y : s.Idx) (a : Fin s.rank)
    (h : (y a).val < off a ∨ off a + size a ≤ (y a).val) : View.canon (⟨Rect.unit off size inb, P⟩ :: L) y = View.canon L y := by
  refine View.canon_cons_of_not_mem _ _ fun hm => ?_
  have := (Rect.mem_set_unit (inb := inb)).mp hm a
  omega

theorem selEq (r k : ℕ) (hr : r < 64) (hk : k < 64) (x y : EReal) :
    (Scalar.select (IntOp.cmpi CmpIPredicate.eq (BitVec.ofNat 32 r) (BitVec.ofNat 32 k)) x y : EReal) = if r = k then x else y := by
  have e : (BitVec.ofNat 32 r = BitVec.ofNat 32 k) ↔ r = k := by
    rw [BitVec.toNat_inj.symm, BitVec.toNat_ofNat, BitVec.toNat_ofNat, Nat.mod_eq_of_lt (by omega), Nat.mod_eq_of_lt (by omega)]
  have w : IntOp.cmpi CmpIPredicate.eq (BitVec.ofNat 32 r) (BitVec.ofNat 32 k) = if r = k then 1#1 else 0#1 := by
    show BitVec.ofBool (BitVec.ofNat 32 r == BitVec.ofNat 32 k) = _
    by_cases h : r = k
    · rw [if_pos h, h]; simp
    · rw [if_neg h, show (BitVec.ofNat 32 r == BitVec.ofNat 32 k) = false by simp [e, h]]; rfl
  rw [w]
  by_cases h : r = k
  · rw [if_pos h, if_pos h]; rfl
  · rw [if_neg h, if_neg h]; rfl

theorem ix3_lane {a b d : ℕ} (n : Fin a) (r : Fin b) {j j' : Fin d} (h : j.val = j'.val) : ix3 n r j = ix3 n r j' := by rw [Fin.ext h]

theorem ix3_row {a b d : ℕ} (n : Fin a) {r r' : Fin b} (j : Fin d) (h : r.val = r'.val) : ix3 n r j = ix3 n r' j := by rw [Fin.ext h]

section Abstract

variable (s : State Ideal) (A : S16x64x6656.Idx → EReal) (B : S16x2x1024.Idx → EReal) (W : S3x1024.Idx → EReal) (n : Fin 16)

/-- The gated product the convolution runs over. -/
def bx (r : Fin 64) (j : Fin 1024) : EReal := A (ix3 n r ⟨1024 + j, by omega⟩) * A (ix3 n r ⟨2048 + j, by omega⟩)

theorem ref175 (r : Fin 64) (j : Fin 1024) :
    R_main_v175 (F := Ideal) s A B W (ix3 n r j) = A (ix3 n r ⟨j, by omega⟩) *
      ((if h : r.val < 2 then B (ix3 n ⟨r, h⟩ j) else bx A n ⟨r - 2, by omega⟩ j) * W (ix2 0 j)
        + (if h : 1 + r.val < 2 then B (ix3 n ⟨1 + r, h⟩ j) else bx A n ⟨1 + r - 2, by omega⟩ j) * W (ix2 1 j) + bx A n r j * W (ix2 2 j)) := by
  unfold bx
  pointwise [R_main_v175]

theorem ref177 (r : Fin 2) (j : Fin 1024) :
    R_main_v177 (F := Ideal) s A B (ix3 n r j) = bx A n ⟨62 + r, by omega⟩ j := by
  unfold bx
  pointwise [R_main_v177]
  rw [dif_neg (by omega)]
  have : (⟨64 + r.val - 2, by omega⟩ : Fin 64) = ⟨62 + r.val, by omega⟩ := Fin.ext (by show 64 + r.val - 2 = 62 + r.val; omega)
  rw [this]

theorem ref178 (j : Fin 3584) : R_main_v178 (F := Ideal) s A (ix3 n 0 j) = A (ix3 n 63 ⟨3072 + j, by omega⟩) := by
  pointwise [R_main_v178]

variable (x1 : S64x1024.Idx → EReal) (x2 : S1x64x1024.Idx → EReal) (a b w0 w1 w2 : S1x1024.Idx → EReal) (x0 : S1x64x1024.Idx → EReal)

theorem ker175 (r : Fin 64) (j : Fin 1024) :
    k0_pay48 (F := Ideal) (k0_pay47 (F := Ideal) x1 x2 a b w0 w1 w2 x0) (ix3 0 r j) = x0 (ix3 0 r j) *
      ((if r.val = 1 then b (ix2 0 j) else if r.val = 0 then a (ix2 0 j) else
          x1 (ix2 ⟨(r + 64 - 2) % 64, by omega⟩ j) * x2 (ix3 0 ⟨(r + 64 - 2) % 64, by omega⟩ j)) * w0 (ix2 0 j)
        + (if r.val = 0 then b (ix2 0 j) else
          x1 (ix2 ⟨(r + 64 - 1) % 64, by omega⟩ j) * x2 (ix3 0 ⟨(r + 64 - 1) % 64, by omega⟩ j)) * w1 (ix2 0 j)
        + x1 (ix2 r j) * x2 (ix3 0 r j) * w2 (ix2 0 j)) := by
  pointwise [k0_pay48, k0_pay47, k0_pay46]
  rw [selEq r 1 r.isLt (by omega), selEq r 0 r.isLt (by omega), selEq r 0 r.isLt (by omega)]

theorem ker177 (r : Fin 2) (j : Fin 1024) :
    k0_pay18 (F := Ideal) (k0_pay49 (F := Ideal) (k0_pay46 (F := Ideal) x1 x2)) (ix3 0 r j) = x1 (ix2 ⟨62 + r, by omega⟩ j) * x2 (ix3 0 ⟨62 + r, by omega⟩ j) := by
  pointwise [k0_pay18, k0_pay49, k0_pay46]

theorem cast1 (r : Fin 64) (j : Fin 1024) : (shapeCast S64x1024 x2 shapeCasts_S1x64x1024_S64x1024 (ix2 r j) : EReal) = x2 (ix3 0 r j) := by
  pointwise

theorem cast2 (x : S1x2x1024.Idx → EReal) (r : Fin 2) (j : Fin 1024) :
    (shapeCast S2x1024 (shapeCast S2x1024 x shapeCasts_S1x2x1024_S2x1024) shapeCasts_S2x1024_S2x1024 (ix2 r j) : EReal) = x (ix3 0 r j) := by
  pointwise

theorem pay19_at (x : S1x3584.Idx → EReal) (j : Fin 3584) : k0_pay19 (F := Ideal) x (ix3 0 0 j) = x (ix2 0 j) := by pointwise [k0_pay19]
theorem pay52_at (x : S1x64x512.Idx → EReal) (j : Fin 512) : k0_pay52 (F := Ideal) x (ix2 0 j) = x (ix3 0 63 j) := by pointwise [k0_pay52, k0_pay50]
theorem pay60_at (j : Fin 1024) : k0_pay60 (F := Ideal) x2 (ix2 0 j) = x2 (ix3 0 63 j) := by pointwise [k0_pay60, k0_pay58]
theorem pay68_at (j : Fin 1024) : k0_pay68 (F := Ideal) x2 (ix2 0 j) = x2 (ix3 0 63 j) := by pointwise [k0_pay68, k0_pay66]
theorem pay73_at (j : Fin 1024) : k0_pay73 (F := Ideal) x2 (ix2 0 j) = x2 (ix3 0 63 j) := by pointwise [k0_pay73, k0_pay71]

end Abstract

variable (m : (ℓ : Loc nD τ sig) → Buf (Elt Ideal) ℓ) (c : Dev nD)

/-- The projected rows. -/
abbrev arg0 : S16x64x6656.Idx → EReal := m ((c : Thread nD τ).loc main_arg0)
/-- The convolution's carried rows. -/
abbrev arg1 : S16x2x1024.Idx → EReal := m ((c : Thread nD τ).loc main_arg1)
/-- The convolution's taps. -/
abbrev arg4 : S3x1024.Idx → EReal := m ((c : Thread nD τ).loc main_arg4)

theorem ld3 (x : S3x1024.Idx → EReal) (k : ℕ) (hk : k < 3) (inb : _) (j : Fin 1024) :
    View.ld (Val := Elt Ideal) (e' := .f32) x (Rect.unit ![k, 0] ![1, 1024] inb) (ix2 0 j) = x (ix2 ⟨k, hk⟩ j) := by
  pointwise

theorem ld2 (x : S2x1024.Idx → EReal) (k : ℕ) (hk : k < 2) (inb : _) (j : Fin 1024) :
    View.ld (Val := Elt Ideal) (e' := .f32) x (Rect.unit ![k, 0] ![1, 1024] inb) (ix2 0 j) = x (ix2 ⟨k, hk⟩ j) := by
  pointwise

theorem out175 (s : State Ideal) (t : Fin cfg0.N) (r : Fin 64) (j : Fin 1024) :
    (outsAt0 m c t).1 (ix3 0 r j) = R_main_v175 (F := Ideal) s (arg0 m c) (arg1 m c) (arg4 m c) (ix3 (bt t) r j) := by
  rw [ref175]
  unfold outsAt0
  frame_out
  rw [View.readCov_fill _ _ _ _ _ (by decide), View.readCov_fill _ _ _ _ _ (by decide), ker175]
  rw [ld2 _ 0 (by omega), ld2 _ 1 (by omega), ld3 _ 0 (by omega), ld3 _ 1 (by omega), ld3 _ 2 (by omega)]
  simp only [cast1, cast2, blk0, blk1, blk2, blk7, blk10]
  unfold bx
  by_cases h0 : r.val = 0
  · rw [if_neg (by omega), if_pos h0, if_pos h0, dif_pos (by omega), dif_pos (by omega)]
    rw [ix3_lane (bt t) r (show (⟨0 + j.val, by omega⟩ : Fin 6656).val = (⟨j.val, by omega⟩ : Fin 6656).val from Nat.zero_add _),
      ix3_row (bt t) j (show (⟨0, by omega⟩ : Fin 2).val = (⟨r.val, by omega⟩ : Fin 2).val from h0.symm),
      ix3_row (bt t) j (show (⟨1, by omega⟩ : Fin 2).val = (⟨1 + r.val, by omega⟩ : Fin 2).val by show 1 = 1 + r.val; omega)]
    rfl
  by_cases h1 : r.val = 1
  · rw [if_pos h1, if_neg h0, dif_pos (by omega), dif_neg (by omega)]
    rw [ix3_lane (bt t) r (show (⟨0 + j.val, by omega⟩ : Fin 6656).val = (⟨j.val, by omega⟩ : Fin 6656).val from Nat.zero_add _),
      ix3_row (bt t) j (show (⟨1, by omega⟩ : Fin 2).val = (⟨r.val, by omega⟩ : Fin 2).val from h1.symm),
      ix3_row (bt t) _ (show (⟨(r.val + 64 - 1) % 64, by omega⟩ : Fin 64).val = (⟨1 + r.val - 2, by omega⟩ : Fin 64).val by show (r.val + 64 - 1) % 64 = 1 + r.val - 2; omega),
      ix3_row (bt t) _ (show (⟨(r.val + 64 - 1) % 64, by omega⟩ : Fin 64).val = (⟨1 + r.val - 2, by omega⟩ : Fin 64).val by show (r.val + 64 - 1) % 64 = 1 + r.val - 2; omega)]
    rfl
  · rw [if_neg h1, if_neg h0, if_neg h0, dif_neg (by omega), dif_neg (by omega)]
    rw [ix3_lane (bt t) r (show (⟨0 + j.val, by omega⟩ : Fin 6656).val = (⟨j.val, by omega⟩ : Fin 6656).val from Nat.zero_add _),
      ix3_row (bt t) _ (show (⟨(r.val + 64 - 1) % 64, by omega⟩ : Fin 64).val = (⟨1 + r.val - 2, by omega⟩ : Fin 64).val by show (r.val + 64 - 1) % 64 = 1 + r.val - 2; omega),
      ix3_row (bt t) _ (show (⟨(r.val + 64 - 1) % 64, by omega⟩ : Fin 64).val = (⟨1 + r.val - 2, by omega⟩ : Fin 64).val by show (r.val + 64 - 1) % 64 = 1 + r.val - 2; omega),
      ix3_row (bt t) _ (show (⟨(r.val + 64 - 2) % 64, by omega⟩ : Fin 64).val = (⟨r.val - 2, by omega⟩ : Fin 64).val by show (r.val + 64 - 2) % 64 = r.val - 2; omega),
      ix3_row (bt t) _ (show (⟨(r.val + 64 - 2) % 64, by omega⟩ : Fin 64).val = (⟨r.val - 2, by omega⟩ : Fin 64).val by show (r.val + 64 - 2) % 64 = r.val - 2; omega)]
    rfl

theorem out177 (s : State Ideal) (t : Fin cfg0.N) (r : Fin 2) (j : Fin 1024) :
    (outsAt0 m c t).2.2.1 (ix3 0 r j) = R_main_v177 (F := Ideal) s (arg0 m c) (arg1 m c) (ix3 (bt t) r j) := by
  rw [ref177]
  unfold outsAt0
  frame_out
  rw [ker177, cast1, blk1, blk2]
  rfl

theorem out178 (s : State Ideal) (t : Fin cfg0.N) (j : Fin 3584) :
    (outsAt0 m c t).2.2.2.1 (ix3 0 0 j) = R_main_v178 (F := Ideal) s (arg0 m c) (ix3 (bt t) 0 j) := by
  rw [ref178]
  unfold outsAt0
  frame_out
  rw [View.readCov_eq_canon', pay19_at]
  have e : (Rect.unit ![0, 0] ![1, 3584] inb_S1x3584_S1x3584_0_0).toLoadRect.idx (ix2 0 j) = ix2 (0 : Fin 1) j := by
    funext a; refine Fin.ext ?_; fin_cases a <;> exact (Nat.zero_add _).trans (one_mul _)
  show View.canon _ _ = _
  rw [e]
  by_cases h0 : j.val < 1024
  · rw [canon_miss _ _ _ _ 1 (by left; exact (by omega : j.val < 2048)), canon_hit _ _ _ _ (ix2 0 ⟨j, h0⟩) (by intro a; fin_cases a <;> exact (Nat.zero_add _).symm), pay68_at, blk3]
  by_cases h1 : j.val < 2048
  · rw [canon_miss _ _ _ _ 1 (by left; exact h1), canon_miss _ _ _ _ 1 (by right; exact (by omega : 1024 ≤ j.val)),
      canon_hit _ _ _ _ (ix2 0 ⟨j - 1024, by omega⟩) (by intro a; fin_cases a; exacts [rfl, (by omega : j.val = 1024 + (j.val - 1024))]), pay60_at, blk4]
    exact congrArg _ (ix3_lane _ _ (show 4096 + (j.val - 1024) = 3072 + j.val by omega))
  by_cases h2 : j.val < 3072
  · rw [canon_hit _ _ _ _ (ix2 0 ⟨j - 2048, by omega⟩) (by intro a; fin_cases a; exacts [rfl, (by omega : j.val = 2048 + (j.val - 2048))]), pay73_at, blk5]
    exact congrArg _ (ix3_lane _ _ (show 5120 + (j.val - 2048) = 3072 + j.val by omega))
  · rw [canon_miss _ _ _ _ 1 (by right; exact (by omega : 3072 ≤ j.val)), canon_miss _ _ _ _ 1 (by right; exact (by omega : 1024 ≤ j.val)),
      canon_miss _ _ _ _ 1 (by right; exact (by omega : 2048 ≤ j.val)),
      canon_hit _ _ _ _ (ix2 0 ⟨j - 3072, by omega⟩) (by intro a; fin_cases a; exacts [rfl, (by omega : j.val = 3072 + (j.val - 3072))]), pay52_at, blk6]
    exact congrArg _ (ix3_lane _ _ (show 6144 + (j.val - 3072) = 3072 + j.val by omega))

end Cert.Mixer

end
-- ==== Proof.Mix.Prep.lean ====
/-
  The quantities the recurrence reads, entry by entry, as functions of the layer's arguments: the shifted columns, the
  step sizes, the log decays, the keys, the normalised keys, the values, the bonus and the gate. The reference's arrays
  hold these entries.
-/
module

public import proofs.«01_k».proof.Proof.Mix.Conv
public import proofs.«01_k».proof.Proof.Mix.Masks

@[expose] public section

set_option maxRecDepth 16384

noncomputable section

open Idealize.ShloMosaic Idealize.ShloMosaic.TcCoe Idealize.SL.Sem

namespace Cert.Mixer

open Cert.KernelIdeal Cert.KernelIdeal.Gen

/-- The arguments that the recurrence's quantities are made of. -/
structure Args where
  A0 : S16x64x6656.Idx → EReal
  A2 : S16x1x3360.Idx → EReal
  A5 : S3360.Idx → EReal
  A6 : S1024.Idx → EReal
  A7 : S64x1024.Idx → EReal
  A8 : S1024.Idx → EReal
  A9 : S64x1024.Idx → EReal
  A10 : S160x1024.Idx → EReal
  A11 : S1024.Idx → EReal
  A12 : S1024.Idx → EReal
  A13 : S16x64.Idx → EReal
  A14 : S1024.Idx → EReal
  A15 : S1024.Idx → EReal

/-- A head's column among the thousand and twenty-four. -/
def col (h : Fin 16) (d : Fin 64) : Fin 1024 := ⟨h * 64 + d, by omega⟩

theorem col_div (h : Fin 16) (d : Fin 64) (p : (col h d).val / 64 < 16) : (⟨(col h d).val / 64, p⟩ : Fin 16) = h :=
  Fin.ext (by show (h.val * 64 + d.val) / 64 = h.val; omega)
theorem col_mod (h : Fin 16) (d : Fin 64) (p : (col h d).val % 64 < 64) : (⟨(col h d).val % 64, p⟩ : Fin 64) = d :=
  Fin.ext (by show (h.val * 64 + d.val) % 64 = d.val; omega)
theorem exists_col (j : Fin 1024) : ∃ h d, j = col h d :=
  ⟨⟨j / 64, by omega⟩, ⟨j % 64, by omega⟩, Fin.ext (by show j.val = j.val / 64 * 64 + j.val % 64; omega)⟩

namespace Args
variable (A : Args) (n : Fin 16) (t : Fin 64)

/-- A column moved towards the row above it by its mixing weight. -/
def sh (j : ℕ) (hj : j < 3360) : EReal :=
  A.A0 (ix3 n t ⟨3072 + j, by omega⟩) + ((if h : t.val < 1 then A.A2 (ix3 n ⟨t, h⟩ ⟨j, hj⟩) else A.A0 (ix3 n ⟨t - 1, by omega⟩ ⟨3072 + j, by omega⟩)) -
    A.A0 (ix3 n t ⟨3072 + j, by omega⟩)) * A.A5 (ix1 ⟨j, hj⟩)

def rx (j : Fin 1024) : EReal := A.sh n t j (by omega)
def kx (j : Fin 1024) : EReal := A.sh n t (1024 + j) (by omega)
def vx (j : Fin 1024) : EReal := A.sh n t (2048 + j) (by omega)
def wx (j : Fin 1024) : EReal := A.A6 (ix1 j) + ∑ x : Fin 64, Ideal.tanh (A.sh n t (3072 + x) (by omega)) * A.A7 (ix2 x j)
def ax (j : Fin 1024) : EReal := A.A8 (ix1 j) + ∑ x : Fin 64, A.sh n t (3136 + x) (by omega) * A.A9 (ix2 x j)
/-- The step size. -/
def aa (j : Fin 1024) : EReal := Ideal.div 1 (1 + Ideal.exp (-A.ax n t j))
/-- The logarithm of the decay. -/
def ld (j : Fin 1024) : EReal :=
  -Ideal.exp ((-(max (-A.wx n t j) 0 + Ideal.log1p (Ideal.exp (-FloatOps.absf (F := Ideal) (φ := .f32) (-A.wx n t j))))) - Ideal.ofBits FTy.f32 1056964608#32)
def kd (j : Fin 1024) : EReal := A.kx n t j * A.A11 (ix1 j)
/-- The normalised key. -/
def kn (h : Fin 16) (d : Fin 64) : EReal :=
  Ideal.div (A.kd n t (col h d)) (max (Ideal.sqrt (∑ e, A.kd n t (col h e) * A.kd n t (col h e))) (Ideal.ofBits FTy.f32 730643660#32))
def ky (j : Fin 1024) : EReal := A.kx n t j * (1 + (A.aa n t j - 1) * A.A12 (ix1 j))
/-- The bonus a row's own key and value give. -/
def bo (h : Fin 16) (d : Fin 64) : EReal := (∑ e, A.rx n t (col h e) * A.ky n t (col h e) * A.A13 (ix2 h e)) * A.vx n t (col h d)
/-- The gate. -/
def ga (j : Fin 1024) : EReal := ∑ x : Fin 160, Ideal.div 1 (1 + Ideal.exp (-A.sh n t (3200 + x) (by omega))) * A.A10 (ix2 x j)
end Args

section Reference
open Cert.ReferenceIdeal.Step
open Cert.ReferenceIdeal.Gen

variable (A : Args) (n : Fin 16) (t : Fin 64) (h : Fin 16) (d : Fin 64)

theorem ref_r : A_main_v62 (F := Ideal) A.A0 A.A2 A.A5 A.A6 A.A7 A.A8 A.A9 A.A11 A.A12 (ix4 t n h d) = A.rx n t (col h d) := by
  unfold Args.rx Args.sh col
  pointwise [K_main_cst, K_main_v20, K_main_cst_0, K_main_v22, K_main_call0_cst, K_main_call0_v0, K_main_call0_v2, K_main_call0_v5, K_main_cst_1, K_main_v32, K_main_cst_2, K_main_cst_3, K_main_v45, K_main_cst_4, K_main_v49, K_main_cst_5, K_main_v54, K_main_cst_6, K_main_v68, K_main_c, A_main_v0, A_main_v1, A_main_v2, A_main_v3, A_main_v4, A_main_v5, A_main_v6, A_main_v7, A_main_v8, A_main_v9, A_main_v10, A_main_v11, A_main_v12, A_main_v14, A_main_v15, A_main_v16, A_main_v17, A_main_v18, A_main_v19, A_main_v21, A_main_v23, A_main_v24, A_main_v25, A_main_v26, A_main_v27, A_main_v28, A_main_v29, A_main_call0_v1, A_main_call0_v3, A_main_call0_v4, A_main_call0_v6, A_main_call0_v7, A_main_call0_v8, A_main_call0_v9, A_main_call0_v10, A_main_call0_v11, A_main_v30, A_main_v31, A_main_v33, A_main_v34, A_main_v35, A_main_v36, A_main_v37, A_main_v38, A_main_v39, A_main_v40, A_main_v41, A_main_v42, A_main_v43, A_main_v44, A_main_v46, A_main_v47, A_main_v48, A_main_v50, A_main_v51, A_main_v52, A_main_v53, A_main_v55, A_main_v56, A_main_v57, A_main_v58, A_main_v59, A_main_v60, A_main_v61, A_main_v62, A_main_v63, A_main_v64, A_main_v65, A_main_v66, A_main_v67]

theorem ref_w : A_main_v63 (F := Ideal) A.A0 A.A2 A.A5 A.A6 A.A7 A.A8 A.A9 A.A11 A.A12 (ix4 t n h d) = Ideal.exp (A.ld n t (col h d)) := by
  unfold Args.ld Args.wx Args.sh col
  pointwise [K_main_cst, K_main_v20, K_main_cst_0, K_main_v22, K_main_call0_cst, K_main_call0_v0, K_main_call0_v2, K_main_call0_v5, K_main_cst_1, K_main_v32, K_main_cst_2, K_main_cst_3, K_main_v45, K_main_cst_4, K_main_v49, K_main_cst_5, K_main_v54, K_main_cst_6, K_main_v68, K_main_c, A_main_v0, A_main_v1, A_main_v2, A_main_v3, A_main_v4, A_main_v5, A_main_v6, A_main_v7, A_main_v8, A_main_v9, A_main_v10, A_main_v11, A_main_v12, A_main_v14, A_main_v15, A_main_v16, A_main_v17, A_main_v18, A_main_v19, A_main_v21, A_main_v23, A_main_v24, A_main_v25, A_main_v26, A_main_v27, A_main_v28, A_main_v29, A_main_call0_v1, A_main_call0_v3, A_main_call0_v4, A_main_call0_v6, A_main_call0_v7, A_main_call0_v8, A_main_call0_v9, A_main_call0_v10, A_main_call0_v11, A_main_v30, A_main_v31, A_main_v33, A_main_v34, A_main_v35, A_main_v36, A_main_v37, A_main_v38, A_main_v39, A_main_v40, A_main_v41, A_main_v42, A_main_v43, A_main_v44, A_main_v46, A_main_v47, A_main_v48, A_main_v50, A_main_v51, A_main_v52, A_main_v53, A_main_v55, A_main_v56, A_main_v57, A_main_v58, A_main_v59, A_main_v60, A_main_v61, A_main_v62, A_main_v63, A_main_v64, A_main_v65, A_main_v66, A_main_v67]
  rw [if_neg (not_not.mpr rfl)]

theorem ref_k : A_main_v64 (F := Ideal) A.A0 A.A2 A.A5 A.A6 A.A7 A.A8 A.A9 A.A11 A.A12 (ix4 t n h d) = A.ky n t (col h d) := by
  unfold Args.ky Args.kx Args.aa Args.ax Args.sh col
  pointwise [K_main_cst, K_main_v20, K_main_cst_0, K_main_v22, K_main_call0_cst, K_main_call0_v0, K_main_call0_v2, K_main_call0_v5, K_main_cst_1, K_main_v32, K_main_cst_2, K_main_cst_3, K_main_v45, K_main_cst_4, K_main_v49, K_main_cst_5, K_main_v54, K_main_cst_6, K_main_v68, K_main_c, A_main_v0, A_main_v1, A_main_v2, A_main_v3, A_main_v4, A_main_v5, A_main_v6, A_main_v7, A_main_v8, A_main_v9, A_main_v10, A_main_v11, A_main_v12, A_main_v14, A_main_v15, A_main_v16, A_main_v17, A_main_v18, A_main_v19, A_main_v21, A_main_v23, A_main_v24, A_main_v25, A_main_v26, A_main_v27, A_main_v28, A_main_v29, A_main_call0_v1, A_main_call0_v3, A_main_call0_v4, A_main_call0_v6, A_main_call0_v7, A_main_call0_v8, A_main_call0_v9, A_main_call0_v10, A_main_call0_v11, A_main_v30, A_main_v31, A_main_v33, A_main_v34, A_main_v35, A_main_v36, A_main_v37, A_main_v38, A_main_v39, A_main_v40, A_main_v41, A_main_v42, A_main_v43, A_main_v44, A_main_v46, A_main_v47, A_main_v48, A_main_v50, A_main_v51, A_main_v52, A_main_v53, A_main_v55, A_main_v56, A_main_v57, A_main_v58, A_main_v59, A_main_v60, A_main_v61, A_main_v62, A_main_v63, A_main_v64, A_main_v65, A_main_v66, A_main_v67]

theorem ref_v : A_main_v65 (F := Ideal) A.A0 A.A2 A.A5 A.A6 A.A7 A.A8 A.A9 A.A11 A.A12 (ix4 t n h d) = A.vx n t (col h d) := by
  unfold Args.vx Args.sh col
  pointwise [K_main_cst, K_main_v20, K_main_cst_0, K_main_v22, K_main_call0_cst, K_main_call0_v0, K_main_call0_v2, K_main_call0_v5, K_main_cst_1, K_main_v32, K_main_cst_2, K_main_cst_3, K_main_v45, K_main_cst_4, K_main_v49, K_main_cst_5, K_main_v54, K_main_cst_6, K_main_v68, K_main_c, A_main_v0, A_main_v1, A_main_v2, A_main_v3, A_main_v4, A_main_v5, A_main_v6, A_main_v7, A_main_v8, A_main_v9, A_main_v10, A_main_v11, A_main_v12, A_main_v14, A_main_v15, A_main_v16, A_main_v17, A_main_v18, A_main_v19, A_main_v21, A_main_v23, A_main_v24, A_main_v25, A_main_v26, A_main_v27, A_main_v28, A_main_v29, A_main_call0_v1, A_main_call0_v3, A_main_call0_v4, A_main_call0_v6, A_main_call0_v7, A_main_call0_v8, A_main_call0_v9, A_main_call0_v10, A_main_call0_v11, A_main_v30, A_main_v31, A_main_v33, A_main_v34, A_main_v35, A_main_v36, A_main_v37, A_main_v38, A_main_v39, A_main_v40, A_main_v41, A_main_v42, A_main_v43, A_main_v44, A_main_v46, A_main_v47, A_main_v48, A_main_v50, A_main_v51, A_main_v52, A_main_v53, A_main_v55, A_main_v56, A_main_v57, A_main_v58, A_main_v59, A_main_v60, A_main_v61, A_main_v62, A_main_v63, A_main_v64, A_main_v65, A_main_v66, A_main_v67]

theorem ref_kn : A_main_v66 (F := Ideal) A.A0 A.A2 A.A5 A.A6 A.A7 A.A8 A.A9 A.A11 A.A12 (ix4 t n h d) = A.kn n t h d := by
  unfold Args.kn Args.kd Args.kx Args.sh col
  pointwise [K_main_cst, K_main_v20, K_main_cst_0, K_main_v22, K_main_call0_cst, K_main_call0_v0, K_main_call0_v2, K_main_call0_v5, K_main_cst_1, K_main_v32, K_main_cst_2, K_main_cst_3, K_main_v45, K_main_cst_4, K_main_v49, K_main_cst_5, K_main_v54, K_main_cst_6, K_main_v68, K_main_c, A_main_v0, A_main_v1, A_main_v2, A_main_v3, A_main_v4, A_main_v5, A_main_v6, A_main_v7, A_main_v8, A_main_v9, A_main_v10, A_main_v11, A_main_v12, A_main_v14, A_main_v15, A_main_v16, A_main_v17, A_main_v18, A_main_v19, A_main_v21, A_main_v23, A_main_v24, A_main_v25, A_main_v26, A_main_v27, A_main_v28, A_main_v29, A_main_call0_v1, A_main_call0_v3, A_main_call0_v4, A_main_call0_v6, A_main_call0_v7, A_main_call0_v8, A_main_call0_v9, A_main_call0_v10, A_main_call0_v11, A_main_v30, A_main_v31, A_main_v33, A_main_v34, A_main_v35, A_main_v36, A_main_v37, A_main_v38, A_main_v39, A_main_v40, A_main_v41, A_main_v42, A_main_v43, A_main_v44, A_main_v46, A_main_v47, A_main_v48, A_main_v50, A_main_v51, A_main_v52, A_main_v53, A_main_v55, A_main_v56, A_main_v57, A_main_v58, A_main_v59, A_main_v60, A_main_v61, A_main_v62, A_main_v63, A_main_v64, A_main_v65, A_main_v66, A_main_v67]

theorem ref_a : A_main_v67 (F := Ideal) A.A0 A.A2 A.A5 A.A6 A.A7 A.A8 A.A9 A.A11 A.A12 (ix4 t n h d) = A.aa n t (col h d) := by
  unfold Args.aa Args.ax Args.sh col
  pointwise [K_main_cst, K_main_v20, K_main_cst_0, K_main_v22, K_main_call0_cst, K_main_call0_v0, K_main_call0_v2, K_main_call0_v5, K_main_cst_1, K_main_v32, K_main_cst_2, K_main_cst_3, K_main_v45, K_main_cst_4, K_main_v49, K_main_cst_5, K_main_v54, K_main_cst_6, K_main_v68, K_main_c, A_main_v0, A_main_v1, A_main_v2, A_main_v3, A_main_v4, A_main_v5, A_main_v6, A_main_v7, A_main_v8, A_main_v9, A_main_v10, A_main_v11, A_main_v12, A_main_v14, A_main_v15, A_main_v16, A_main_v17, A_main_v18, A_main_v19, A_main_v21, A_main_v23, A_main_v24, A_main_v25, A_main_v26, A_main_v27, A_main_v28, A_main_v29, A_main_call0_v1, A_main_call0_v3, A_main_call0_v4, A_main_call0_v6, A_main_call0_v7, A_main_call0_v8, A_main_call0_v9, A_main_call0_v10, A_main_call0_v11, A_main_v30, A_main_v31, A_main_v33, A_main_v34, A_main_v35, A_main_v36, A_main_v37, A_main_v38, A_main_v39, A_main_v40, A_main_v41, A_main_v42, A_main_v43, A_main_v44, A_main_v46, A_main_v47, A_main_v48, A_main_v50, A_main_v51, A_main_v52, A_main_v53, A_main_v55, A_main_v56, A_main_v57, A_main_v58, A_main_v59, A_main_v60, A_main_v61, A_main_v62, A_main_v63, A_main_v64, A_main_v65, A_main_v66, A_main_v67]

/-- A head's reading less its mean, over its spread, scaled and moved, with the bonus, gated. -/
def post (y : Fin 64 → EReal) (w b bo ga : EReal) (d : Fin 64) : EReal :=
  ((y d - Ideal.div (∑ x, y x) (Ideal.ofBits FTy.f32 1115684864#32)) *
    Ideal.rsqrt (Ideal.div (∑ x, (y x - Ideal.div (∑ x, y x) (Ideal.ofBits FTy.f32 1115684864#32)) * (y x - Ideal.div (∑ x, y x) (Ideal.ofBits FTy.f32 1115684864#32)))
      (Ideal.ofBits FTy.f32 1115684864#32) + Ideal.ofBits FTy.f32 975685036#32) * w + b + bo) * ga

theorem ref_post' (s : State Ideal) (j : Fin 1024) :
    R_main_v176 (F := Ideal) s A.A0 A.A2 A.A5 A.A8 A.A9 A.A10 A.A12 A.A13 A.A14 A.A15 (ix3 n t j)
      = post (fun x => s.main_v69_8 (ix4 t n ⟨j / 64, by omega⟩ x)) (A.A14 (ix1 j)) (A.A15 (ix1 j))
          ((∑ e, A.rx n t (col ⟨j / 64, by omega⟩ e) * A.ky n t (col ⟨j / 64, by omega⟩ e) * A.A13 (ix2 ⟨j / 64, by omega⟩ e)) * A.vx n t j) (A.ga n t j) ⟨j % 64, by omega⟩ := by
  unfold post Args.ga Args.rx Args.ky Args.kx Args.vx Args.aa Args.ax Args.sh col
  pointwise [R_main_v176]

theorem ref_post (s : State Ideal) :
    R_main_v176 (F := Ideal) s A.A0 A.A2 A.A5 A.A8 A.A9 A.A10 A.A12 A.A13 A.A14 A.A15 (ix3 n t (col h d))
      = post (fun x => s.main_v69_8 (ix4 t n h x)) (A.A14 (ix1 (col h d))) (A.A15 (ix1 (col h d))) (A.bo n t h d) (A.ga n t (col h d)) d := by
  rw [ref_post']
  simp only [col_div, col_mod]
  rfl

end Reference

end Cert.Mixer
-- ==== Proof.Mix.Kern.lean ====
/-
  The kernel's blocks before the recurrence and after it, entry by entry: the shifted columns, the products with the small
  matrices, the log decay, the sums over a head's lanes, the keys and the closing normalisation.
-/
module

public import proofs.«01_k».proof.Proof.Mix.Prep

@[expose] public section

set_option maxRecDepth 16384

noncomputable section

open Idealize.ShloMosaic Idealize.ShloMosaic.TcCoe Idealize.SL.Sem

namespace Cert.Mixer

open Cert.KernelIdeal Cert.KernelIdeal.Gen

section Shift
variable (t : Fin 64) (x : S1x64x1024.Idx → EReal) (y mu : S1x1024.Idx → EReal) (j : Fin 1024)

/-- A row's column moved towards the row above, the row above the first being `y`. -/
def moved (x : S1x64x1024.Idx → EReal) (y mu : S1x1024.Idx → EReal) (t : Fin 64) (j : Fin 1024) : EReal :=
  x (ix3 0 t j) + ((if t.val = 0 then y (ix2 0 j) else x (ix3 0 ⟨(t + 64 - 1) % 64, by omega⟩ j)) - x (ix3 0 t j)) * mu (ix2 0 j)

theorem pay59_at : k0_pay59 (F := Ideal) x y mu (ix2 t j) = moved x y mu t j := by
  unfold moved
  pointwise [k0_pay59, k0_pay58]
  rw [selEq t 0 t.isLt (by omega)]
theorem pay67_at : k0_pay67 (F := Ideal) x y mu (ix2 t j) = moved x y mu t j := by
  unfold moved
  pointwise [k0_pay67, k0_pay66]
  rw [selEq t 0 t.isLt (by omega)]
theorem pay72_at : k0_pay72 (F := Ideal) x y mu (ix2 t j) = moved x y mu t j := by
  unfold moved
  pointwise [k0_pay72, k0_pay71]
  rw [selEq t 0 t.isLt (by omega)]

theorem pay51_at (x : S1x64x512.Idx → EReal) (y mu : S1x512.Idx → EReal) (j : Fin 512) : k0_pay51 (F := Ideal) x y mu (ix2 t j) =
    x (ix3 0 t j) + ((if t.val = 0 then y (ix2 0 j) else x (ix3 0 ⟨(t + 64 - 1) % 64, by omega⟩ j)) - x (ix3 0 t j)) * mu (ix2 0 j) := by
  pointwise [k0_pay51, k0_pay50]
  rw [selEq t 0 t.isLt (by omega)]
end Shift

/-- The moved column is the layer's, once its three ingredients are. -/
theorem sh_of (A : Args) (n : Fin 16) (t : Fin 64) (j : ℕ) (hj : j < 3360) (x : Fin 64 → EReal) (y mu : EReal)
    (hx : ∀ r, x r = A.A0 (ix3 n r ⟨3072 + j, by omega⟩)) (hy : y = A.A2 (ix3 n 0 ⟨j, hj⟩)) (hm : mu = A.A5 (ix1 ⟨j, hj⟩)) :
    x t + ((if t.val = 0 then y else x ⟨(t + 64 - 1) % 64, by omega⟩) - x t) * mu = A.sh n t j hj := by
  unfold Args.sh
  rw [hx, hx, hy, hm]
  by_cases h : t.val = 0
  · rw [if_pos h, dif_pos (by omega)]
    rw [ix3_row n _ (show (0 : Fin 1).val = (⟨t.val, by omega⟩ : Fin 1).val from h.symm)]
  · rw [if_neg h, dif_neg (by omega)]
    rw [ix3_row n _ (show (⟨(t.val + 64 - 1) % 64, by omega⟩ : Fin 64).val = (⟨t.val - 1, by omega⟩ : Fin 64).val by show (t.val + 64 - 1) % 64 = t.val - 1; omega)]

section Small
variable (t : Fin 64) (j : Fin 1024)

theorem pay53_at (x : S1x64x512.Idx → EReal) (y mu : S1x512.Idx → EReal) (k : Fin 128) :
    k0_pay53 (F := Ideal) x y mu (ix2 t k) = k0_pay51 (F := Ideal) x y mu (ix2 t ⟨0 + k, by omega⟩) := by
  pointwise [k0_pay53]

theorem pay54_at (x : S1x64x512.Idx → EReal) (y mu : S1x512.Idx → EReal) (w : S1x1024.Idx → EReal) (p : S128x1024.Idx → EReal) :
    k0_pay54 (F := Ideal) x y mu w p (ix2 t j) = w (ix2 0 j) + ∑ k : Fin 128, Ideal.tanh (k0_pay53 (F := Ideal) x y mu (ix2 t k)) * p (ix2 k j) := by
  pointwise [k0_pay54]

theorem pay55_at (v : S64x128.Idx → EReal) (w : S1x1024.Idx → EReal) (p : S128x1024.Idx → EReal) :
    k0_pay55 (F := Ideal) v w p (ix2 t j) = Ideal.logistic (w (ix2 0 j) + ∑ k : Fin 128, v (ix2 t k) * p (ix2 k j)) := by
  pointwise [k0_pay55]

theorem pay56_at (v : S64x512.Idx → EReal) (p : S256x1024.Idx → EReal) :
    k0_pay56 (F := Ideal) v p (ix2 t j) = ∑ k : Fin 256, Ideal.logistic (v (ix2 t ⟨128 + k, by omega⟩)) * p (ix2 k j) := by
  pointwise [k0_pay56]

theorem pay57_at (v : S64x1024.Idx → EReal) :
    k0_pay57 (F := Ideal) v (ix2 t j) = -Ideal.exp ((-(max (-v (ix2 t j)) 0 + Ideal.log1p (Ideal.exp (-FloatOps.absf (F := Ideal) (φ := .f32) (-v (ix2 t j)))))) - Ideal.ofBits FTy.f32 1056964608#32) := by
  pointwise [k0_pay57]
  simp only [zero_sub]
  rfl

theorem pay62_at (v : S64x1024.Idx → EReal) : k0_pay62 (F := Ideal) v (ix2 t j) = v (ix2 t j) := by pointwise [k0_pay62]
theorem pay69_at (v : S64x1024.Idx → EReal) : k0_pay69 (F := Ideal) v (ix2 t j) = v (ix2 t j) := by pointwise [k0_pay69]
theorem pay74_at (v : S64x1024.Idx → EReal) : k0_pay74 (F := Ideal) v (ix2 t j) = v (ix2 t j) := by pointwise [k0_pay74]
theorem pay63_at (a v : S64x1024.Idx → EReal) : k0_pay63 (F := Ideal) a v (ix2 t j) = v (ix2 t j) * a (ix2 t j) := by pointwise [k0_pay63]
theorem pay75_at (a v : S64x1024.Idx → EReal) : k0_pay75 (F := Ideal) a v (ix2 t j) = a (ix2 t j) * v (ix2 t j) := by pointwise [k0_pay75]
theorem pay64_at (a k : S64x1024.Idx → EReal) (w : S1x1024.Idx → EReal) : k0_pay64 (F := Ideal) a k w (ix2 t j) = k (ix2 t j) * (1 + (a (ix2 t j) - 1) * w (ix2 0 j)) := by pointwise [k0_pay64]
theorem pay65_at (a k : S64x1024.Idx → EReal) (w : S1x1024.Idx → EReal) : k0_pay65 (F := Ideal) a k w (ix2 t j) = k (ix2 t j) * (1 + (a (ix2 t j) - 1) * w (ix2 0 j)) := by pointwise [k0_pay65, k0_pay64]
theorem pay37_at (v : S256x256.Idx → EReal) (i k : Fin 256) : k0_pay37 (F := Ideal) v (ix2 i k) = v (ix2 i k) := by pointwise [k0_pay37]
end Small

/-- A group's lane among the thousand and twenty-four. -/
def wide (g : Fin 4) (y : Fin 256) : Fin 1024 := ⟨256 * g + y, by omega⟩
/-- A group's head among the sixteen. -/
def head (g h : Fin 4) : Fin 16 := ⟨4 * g + h, by omega⟩

theorem wide_lane (g h : Fin 4) (d : Fin 64) : wide g (lane h d) = col (head g h) d :=
  Fin.ext (by show 256 * g.val + (64 * h.val + d.val) = (4 * g.val + h.val) * 64 + d.val; omega)
theorem exists_head (h : Fin 16) : ∃ g h', h = head g h' :=
  ⟨⟨h / 4, by omega⟩, ⟨h % 4, by omega⟩, Fin.ext (by show h.val = 4 * (h.val / 4) + h.val % 4; omega)⟩

def stk (x : FVec Ideal S64x1024 .f32) : FVec Ideal S256x256 .f32 :=
  concatenate S256x256 0 [⟨S64x256, extractStridedSlice S64x256 ![0, 0] x slices_S64x1024_o0_0_S64x256⟩,
    ⟨S64x256, extractStridedSlice S64x256 ![0, 256] x slices_S64x1024_o0_256_S64x256⟩, ⟨S64x256, extractStridedSlice S64x256 ![0, 512] x slices_S64x1024_o0_512_S64x256⟩,
    ⟨S64x256, extractStridedSlice S64x256 ![0, 768] x slices_S64x1024_o0_768_S64x256⟩] concatenates_S64x256_S64x256_S64x256_S64x256_S256x256_d0
def ust (q : FVec Ideal S256x256 .f32) : FVec Ideal S64x1024 .f32 :=
  concatenate S64x1024 1 [⟨S64x256, extractStridedSlice S64x256 ![0, 0] q slices_S256x256_o0_0_S64x256⟩, ⟨S64x256, extractStridedSlice S64x256 ![64, 0] q slices_S256x256_o64_0_S64x256⟩,
    ⟨S64x256, extractStridedSlice S64x256 ![128, 0] q slices_S256x256_o128_0_S64x256⟩, ⟨S64x256, extractStridedSlice S64x256 ![192, 0] q slices_S256x256_o192_0_S64x256⟩]
    concatenates_S64x256_S64x256_S64x256_S64x256_S64x1024_d1

theorem stk_at (x : S64x1024.Idx → EReal) (g : Fin 4) (t : Fin 64) (y : Fin 256) : stk x (ix2 (lane g t) y) = x (ix2 t (wide g y)) := by
  have hg := g.isLt
  have ht := t.isLt
  have e : ∀ (i i' : Fin 64) (k k' : Fin 1024), i.val = i'.val → k.val = k'.val → x (ix2 i k) = x (ix2 i' k') := fun i i' k k' hi hk => by
    rw [Fin.ext hi, Fin.ext hk]
  pointwise [stk, lane, wide]
  split_ifs <;> refine e _ _ _ _ ?_ ?_ <;> dsimp only <;> omega

theorem ust_at (x : S256x256.Idx → EReal) (g : Fin 4) (t : Fin 64) (y : Fin 256) : ust x (ix2 t (wide g y)) = x (ix2 (lane g t) y) := by
  have hg := g.isLt
  have hy := y.isLt
  have e : ∀ (i i' k k' : Fin 256), i.val = i'.val → k.val = k'.val → x (ix2 i k) = x (ix2 i' k') := fun i i' k k' hi hk => by
    rw [Fin.ext hi, Fin.ext hk]
  pointwise [ust, lane, wide]
  split_ifs <;> refine e _ _ _ _ ?_ ?_ <;> dsimp only <;> omega

/-- Each lane gets the sum over its head's lanes, by way of the ones matrix. -/
def hs (b : FVec Ideal S256x256 .bf16) (x : FVec Ideal S64x1024 .f32) : FVec Ideal S64x1024 .f32 :=
  ust (matmul dot_S256x256_S256x256_S256x256_1_0_0_1_n_n none (truncf .bf16 (stk x) bitsLt_bf16_f32) b (constant S256x256 .f32 0x00000000#32))

theorem mm_at (x b : S256x256.Idx → EReal) (i k : Fin 256) :
    (matmul (F := Ideal) (φ₁ := .bf16) (φ₂ := .bf16) dot_S256x256_S256x256_S256x256_1_0_0_1_n_n none (truncf (F := Ideal) (φ := .f32) .bf16 x bitsLt_bf16_f32) (b : FVec Ideal S256x256 .bf16) (constant S256x256 .f32 0x00000000#32) (ix2 i k) : EReal)
      = ∑ z, x (ix2 i z) * b (ix2 z k) := by
  pointwise

theorem hs_at (b : S256x256.Idx → EReal) (hb : ∀ h d h' d', b (ix2 (lane h d) (lane h' d')) = if h = h' then 1 else 0) (x : S64x1024.Idx → EReal)
    (t : Fin 64) (h : Fin 16) (d : Fin 64) : hs b x (ix2 t (col h d)) = ∑ e, x (ix2 t (col h e)) := by
  obtain ⟨g, h', rfl⟩ := exists_head h
  rw [← wide_lane]
  unfold hs
  rw [ust_at, mm_at, sum_lane]
  simp only [stk_at, hb, wide_lane]
  rw [Finset.sum_eq_single h']
  · simp
  · intro k _ hk
    simp [hk, mul_zero (M₀ := EReal)]
  · simp

section Norm
variable (b : S256x256.Idx → EReal) (hb : ∀ h d h' d', b (ix2 (lane h d) (lane h' d')) = if h = h' then 1 else 0) (t : Fin 64) (h : Fin 16) (d : Fin 64)
include hb

theorem pay61_at (x : S1x64x1024.Idx → EReal) (y mu w : S1x1024.Idx → EReal) :
    k0_pay61 (F := Ideal) b x y mu w (ix2 t (col h d)) = Ideal.div (moved x y mu t (col h d) * w (ix2 0 (col h d)))
      (max (Ideal.sqrt (∑ e, moved x y mu t (col h e) * w (ix2 0 (col h e)) * (moved x y mu t (col h e) * w (ix2 0 (col h e))))) (Ideal.ofBits FTy.f32 730643660#32)) := by
  have e (q : S64x1024.Idx → EReal) : divf (F := Ideal) (φ := .f32) (mulf (k0_pay59 (F := Ideal) x y mu) (broadcastTo S64x1024 (shapeCast S1x1024 w shapeCasts_S1x1024_S1x1024) broadcasts_S1x1024_S64x1024))
      (maximumf (sqrt q) (broadcast S64x1024 (Scalar.ofBits .f32 0x2B8CBCCC#32))) (ix2 t (col h d))
      = Ideal.div (k0_pay59 (F := Ideal) x y mu (ix2 t (col h d)) * w (ix2 0 (col h d))) (max (Ideal.sqrt (q (ix2 t (col h d)))) (Ideal.ofBits FTy.f32 730643660#32)) := by
    pointwise
  have e' (k : Fin 64) : (mulf (F := Ideal) (φ := .f32) (mulf (k0_pay59 (F := Ideal) x y mu) (broadcastTo S64x1024 (shapeCast S1x1024 w shapeCasts_S1x1024_S1x1024) broadcasts_S1x1024_S64x1024))
      (mulf (k0_pay59 (F := Ideal) x y mu) (broadcastTo S64x1024 (shapeCast S1x1024 w shapeCasts_S1x1024_S1x1024) broadcasts_S1x1024_S64x1024)) (ix2 t (col h k)) : EReal)
      = moved x y mu t (col h k) * w (ix2 0 (col h k)) * (moved x y mu t (col h k) * w (ix2 0 (col h k))) := by
    rw [← pay59_at]
    pointwise
  refine (e (hs b _)).trans ?_
  rw [hs_at b hb, pay59_at]
  simp only [e']

theorem pay70_at (k r : S64x1024.Idx → EReal) (w : S1x1024.Idx → EReal) :
    k0_pay70 (F := Ideal) b k r w (ix2 t (col h d)) = ∑ e, r (ix2 t (col h e)) * k (ix2 t (col h e)) * w (ix2 0 (col h e)) := by
  have e' (q : Fin 64) : (mulf (F := Ideal) (φ := .f32) (mulf r k) (broadcastTo S64x1024 (shapeCast S1x1024 w shapeCasts_S1x1024_S1x1024) broadcasts_S1x1024_S64x1024) (ix2 t (col h q)) : EReal)
      = r (ix2 t (col h q)) * k (ix2 t (col h q)) * w (ix2 0 (col h q)) := by
    pointwise
  refine (hs_at b hb (mulf (F := Ideal) (φ := .f32) (mulf r k) (broadcastTo S64x1024 (shapeCast S1x1024 w shapeCasts_S1x1024_S1x1024) broadcasts_S1x1024_S64x1024)) t h d).trans ?_
  simp only [e']

omit hb in
theorem inv64 (x : EReal) : x * Ideal.ofBits FTy.f32 0x3C800000#32 = Ideal.div x (Ideal.ofBits FTy.f32 1115684864#32) := by
  have e1 : Ideal.ofBits FTy.f32 0x3C800000#32 = ((1 / 64 : ℝ) : EReal) := by
    simp [Ideal.ofBits, Ideal.ieee, -EReal.coe_mul]; norm_num
  have e2 : Ideal.ofBits FTy.f32 1115684864#32 = ((64 : ℝ) : EReal) := by
    simp [Ideal.ofBits, Ideal.ieee, -EReal.coe_mul]; norm_num
  rw [e1, e2, Ideal.div_coe (by norm_num)]

theorem pay225_at (y : S64x1024.Idx → EReal) :
    k0_pay225 (F := Ideal) b y (ix2 t (col h d)) = y (ix2 t (col h d)) - Ideal.div (∑ e, y (ix2 t (col h e))) (Ideal.ofBits FTy.f32 1115684864#32) := by
  have e (q : S64x1024.Idx → EReal) : (subf (F := Ideal) (φ := .f32) y (mulf q (broadcast S64x1024 (Scalar.ofBits .f32 0x3C800000#32))) (ix2 t (col h d)) : EReal)
      = y (ix2 t (col h d)) - q (ix2 t (col h d)) * Ideal.ofBits FTy.f32 0x3C800000#32 := by
    pointwise
  refine (e (hs b y)).trans ?_
  rw [hs_at b hb, inv64]

theorem pay226_at (y : S64x1024.Idx → EReal) :
    k0_pay226 (F := Ideal) b y (ix2 t (col h d)) = Ideal.div (∑ e, k0_pay225 (F := Ideal) b y (ix2 t (col h e)) * k0_pay225 (F := Ideal) b y (ix2 t (col h e))) (Ideal.ofBits FTy.f32 1115684864#32) := by
  have e (q : S64x1024.Idx → EReal) : (mulf (F := Ideal) (φ := .f32) q (broadcast S64x1024 (Scalar.ofBits .f32 0x3C800000#32)) (ix2 t (col h d)) : EReal)
      = q (ix2 t (col h d)) * Ideal.ofBits FTy.f32 0x3C800000#32 := by
    pointwise
  refine (e (hs b (mulf (F := Ideal) (φ := .f32) (k0_pay225 (F := Ideal) b y) (k0_pay225 (F := Ideal) b y)))).trans ?_
  rw [hs_at b hb, inv64]
  rfl

omit hb in
theorem pay227_at (y v : S64x1024.Idx → EReal) (w z : S1x1024.Idx → EReal) (p q : S64x1024.Idx → EReal) (j : Fin 1024) :
    k0_pay227 (F := Ideal) y v w z p q (ix3 0 t j) = (y (ix2 t j) * Ideal.rsqrt (v (ix2 t j) + Ideal.ofBits FTy.f32 975685036#32) * w (ix2 0 j) + z (ix2 0 j) + p (ix2 t j)) * q (ix2 t j) := by
  pointwise [k0_pay227]

theorem norm_at (y : S64x1024.Idx → EReal) (w z : S1x1024.Idx → EReal) (p q : S64x1024.Idx → EReal) :
    k0_pay227 (F := Ideal) (k0_pay225 (F := Ideal) b y) (k0_pay226 (F := Ideal) b y) w z p q (ix3 0 t (col h d))
      = post (fun e => y (ix2 t (col h e))) (w (ix2 0 (col h d))) (z (ix2 0 (col h d))) (p (ix2 t (col h d))) (q (ix2 t (col h d))) d := by
  rw [pay227_at, pay226_at b hb]
  simp only [pay225_at b hb]
  rfl
end Norm

end Cert.Mixer
-- ==== Proof.Mix.Trees.lean ====
/-
  Each group's block that the kernel stores, as the one tree of operations it is for every group.
-/
module

public import proofs.«01_k».proof.Proof.Mix.Masks

@[expose] public section

set_option maxRecDepth 16384

noncomputable section

open Idealize.ShloMosaic

namespace Cert.Mixer

open Cert.KernelIdeal Cert.KernelIdeal.Gen

theorem cast_self (x : T) : (shapeCast S64x256 x shapeCasts_S64x256_S64x256 : T) = x := by
  funext i
  obtain ⟨a, b, rfl⟩ : ∃ a b, i = ix2 a b := ⟨i 0, i 1, by funext k; fin_cases k <;> rfl⟩
  pointwise

/-- The stored readings of group 0. -/
def ry0 (m : Mk) (lw k v kn b r s : T) : T :=
    have x21 := k0_pay38 (F := Ideal)
    have x189 := k0_pay76 (F := Ideal) x21 lw
    have x193 := k0_pay85 (F := Ideal) m lw x189 b kn r
    have x194 := k0_pay108 (F := Ideal) k0_pay40 x193
    have x195 := k0_pay110 (F := Ideal) k0_pay40 m x193
    have x196 := k0_pay124 (F := Ideal) m x194 x195
    have x197 := k0_pay125 (F := Ideal) m x194 x195
    have x198 := k0_pay137 (F := Ideal) m x196 x197
    have x199 := k0_pay138 (F := Ideal) m x196 x197
    have x200 := k0_pay150 (F := Ideal) m x198 x199
    have x201 := k0_pay151 (F := Ideal) m x198 x199
    have x202 := k0_pay161 (F := Ideal) m x198 x199
    have x203 := k0_pay162 (F := Ideal) m x198 x199
    have x204 := k0_pay172 (F := Ideal) m x200 x201 x202 x203 (Scalar.ofBits .bf16 0#16)
    have x205 := k0_pay178 (F := Ideal) x204
    have x206 := k0_pay179 (F := Ideal) k0_pay41 x193
    have x209 := k0_pay86 (F := Ideal) m lw x189 k kn r
    have x210 := k0_pay109 (F := Ideal) k0_pay40 k0_pay41 m v x209
    have x211 := k0_pay84 (F := Ideal) lw x189 kn r
    have x212 := k0_pay177 (F := Ideal) x211
    have x214 := k0_pay201 (F := Ideal) m x210 x212 s
    have x215 := k0_pay202 (F := Ideal) m x210 x212 s
    have x216 := k0_pay203 (F := Ideal) m x210 x212 s
    have x217 := k0_pay211 (F := Ideal) m x205 x206 x214 x215 x216
    x217

theorem gy0 (m : Mk) (lw k v kn b r s : T) : ry0 m lw k v kn b r s = yall m k0_pay40 k0_pay41 (k0_pay38 (F := Ideal)) lw k v kn b r s :=
  (rfl : _ = shapeCast S64x256 (yall m k0_pay40 k0_pay41 (k0_pay38 (F := Ideal)) lw k v kn b r s) shapeCasts_S64x256_S64x256).trans (cast_self _)

/-- The stored readings of group 1. -/
def ry1 (m : Mk) (lw k v kn b r s : T) : T :=
    have x21 := k0_pay38 (F := Ideal)
    have x157 := k0_pay77 (F := Ideal) x21 lw
    have x158 := k0_pay89 (F := Ideal) x157
    have x162 := k0_pay91 (F := Ideal) m lw x157 x158 b kn r
    have x163 := k0_pay184 (F := Ideal) k0_pay41 x162
    have x166 := k0_pay92 (F := Ideal) m lw x157 x158 k kn r
    have x167 := k0_pay112 (F := Ideal) k0_pay40 k0_pay41 x166
    have x168 := k0_pay113 (F := Ideal) m v x167
    have x169 := k0_pay90 (F := Ideal) lw x157 kn r
    have x170 := k0_pay182 (F := Ideal) x169
    have x172 := k0_pay198 (F := Ideal) m x170 s
    have x173 := k0_pay204 (F := Ideal) x168 x172
    have x174 := k0_pay111 (F := Ideal) k0_pay40 x162
    have x175 := k0_pay114 (F := Ideal) m x174
    have x176 := k0_pay127 (F := Ideal) m x174 x175
    have x177 := k0_pay128 (F := Ideal) m x174 x175
    have x178 := k0_pay140 (F := Ideal) m x176 x177
    have x179 := k0_pay141 (F := Ideal) m x176 x177
    have x180 := k0_pay153 (F := Ideal) m x178 x179
    have x181 := k0_pay154 (F := Ideal) m x178 x179
    have x182 := k0_pay173 (F := Ideal) m x180 x181
    have x183 := k0_pay174 (F := Ideal) m x180 x181
    have x184 := k0_pay175 (F := Ideal) m x180 x181
    have x185 := k0_pay183 (F := Ideal) m x182 x183 x184
    have x186 := k0_pay205 (F := Ideal) m x168 x185 x172
    have x187 := k0_pay215 (F := Ideal) m x163 x173 x186
    x187

theorem gy1 (m : Mk) (lw k v kn b r s : T) : ry1 m lw k v kn b r s = yall m k0_pay40 k0_pay41 (k0_pay38 (F := Ideal)) lw k v kn b r s :=
  (rfl : _ = shapeCast S64x256 (yall m k0_pay40 k0_pay41 (k0_pay38 (F := Ideal)) lw k v kn b r s) shapeCasts_S64x256_S64x256).trans (cast_self _)

/-- The stored readings of group 2. -/
def ry2 (m : Mk) (lw k v kn b r s : T) : T :=
    have x21 := k0_pay38 (F := Ideal)
    have x126 := k0_pay78 (F := Ideal) x21 lw
    have x127 := k0_pay95 (F := Ideal) x126
    have x130 := k0_pay96 (F := Ideal) lw x126 kn
    have x132 := k0_pay98 (F := Ideal) m x126 x127 b x130 r
    have x133 := k0_pay189 (F := Ideal) k0_pay41 x132
    have x136 := k0_pay99 (F := Ideal) m x126 x127 k x130 r
    have x137 := k0_pay116 (F := Ideal) k0_pay40 k0_pay41 m v x136
    have x138 := k0_pay97 (F := Ideal) x126 x130 r
    have x139 := k0_pay187 (F := Ideal) x138
    have x141 := k0_pay199 (F := Ideal) m x139 s
    have x142 := k0_pay206 (F := Ideal) x137 x141
    have x143 := k0_pay115 (F := Ideal) k0_pay40 x132
    have x144 := k0_pay117 (F := Ideal) k0_pay40 m x132
    have x145 := k0_pay130 (F := Ideal) m x143 x144
    have x146 := k0_pay131 (F := Ideal) m x143 x144
    have x147 := k0_pay143 (F := Ideal) m x145 x146
    have x148 := k0_pay144 (F := Ideal) m x145 x146
    have x149 := k0_pay156 (F := Ideal) m x147 x148
    have x150 := k0_pay157 (F := Ideal) m x147 x148
    have x151 := k0_pay167 (F := Ideal) m x149 x150
    have x152 := k0_pay168 (F := Ideal) m x149 x150
    have x153 := k0_pay188 (F := Ideal) m x151 x152
    have x154 := k0_pay207 (F := Ideal) m x137 x153 x141
    have x155 := k0_pay218 (F := Ideal) m x133 x142 x154
    x155

theorem gy2 (m : Mk) (lw k v kn b r s : T) : ry2 m lw k v kn b r s = yall m k0_pay40 k0_pay41 (k0_pay38 (F := Ideal)) lw k v kn b r s :=
  (rfl : _ = shapeCast S64x256 (yall m k0_pay40 k0_pay41 (k0_pay38 (F := Ideal)) lw k v kn b r s) shapeCasts_S64x256_S64x256).trans (cast_self _)

/-- The stored readings of group 3. -/
def ry3 (m : Mk) (lw k v kn b r s : T) : T :=
    have x21 := k0_pay38 (F := Ideal)
    have x22 := k0_pay79 (F := Ideal) x21 lw
    have x23 := k0_pay80 (F := Ideal) x22
    have x37 := k0_pay104 (F := Ideal) lw x23 kn r
    have x44 := k0_pay105 (F := Ideal) m x23 b
    have x45 := k0_pay106 (F := Ideal) x37 x44
    have x46 := k0_pay195 (F := Ideal) k0_pay41 x45
    have x53 := k0_pay102 (F := Ideal) x23
    have x58 := k0_pay103 (F := Ideal) lw x23 kn r
    have x59 := k0_pay107 (F := Ideal) m x53 k x58
    have x60 := k0_pay119 (F := Ideal) k0_pay40 x59
    have x61 := k0_pay120 (F := Ideal) x59
    have x62 := k0_pay121 (F := Ideal) k0_pay41 m v x60 x61 (Scalar.ofBits .f32 0#32)
    have x110 := k0_pay200 (F := Ideal) m x58 s
    have x111 := k0_pay208 (F := Ideal) x62 x110
    have x112 := k0_pay118 (F := Ideal) k0_pay40 x45
    have x113 := k0_pay122 (F := Ideal) m x112
    have x114 := k0_pay132 (F := Ideal) m x112
    have x115 := k0_pay145 (F := Ideal) m x112 x113 x114
    have x116 := k0_pay146 (F := Ideal) m x112 x113 x114
    have x117 := k0_pay159 (F := Ideal) m x115 x116
    have x118 := k0_pay160 (F := Ideal) m x115 x116
    have x119 := k0_pay170 (F := Ideal) m x117 x118
    have x120 := k0_pay171 (F := Ideal) m x117 x118
    have x121 := k0_pay176 (F := Ideal) m x119 x120
    have x122 := k0_pay194 (F := Ideal) x121
    have x123 := k0_pay209 (F := Ideal) m x62 x122 x110
    have x124 := k0_pay221 (F := Ideal) m x46 x111 x123
    x124

theorem gy3 (m : Mk) (lw k v kn b r s : T) : ry3 m lw k v kn b r s = yall m k0_pay40 k0_pay41 (k0_pay38 (F := Ideal)) lw k v kn b r s :=
  (rfl : _ = shapeCast S64x256 (yall m k0_pay40 k0_pay41 (k0_pay38 (F := Ideal)) lw k v kn b r s) shapeCasts_S64x256_S64x256).trans (cast_self _)

/-- The stored state of group 0. -/
def rs0 (m : Mk) (lw k v kn b r s : T) : T :=
    have x7 := k0_pay38 (F := Ideal)
    have x200 := k0_pay76 (F := Ideal) x7 lw
    have x201 := k0_pay82 (F := Ideal) x200
    have x204 := k0_pay180 (F := Ideal) x201 k b
    have x205 := k0_pay81 (F := Ideal) x200
    have x206 := k0_pay181 (F := Ideal) x205
    have x211 := k0_pay85 (F := Ideal) m lw x200 b kn r
    have x212 := k0_pay108 (F := Ideal) k0_pay40 x211
    have x213 := k0_pay110 (F := Ideal) k0_pay40 m x211
    have x214 := k0_pay124 (F := Ideal) m x212 x213
    have x215 := k0_pay125 (F := Ideal) m x212 x213
    have x216 := k0_pay137 (F := Ideal) m x214 x215
    have x217 := k0_pay138 (F := Ideal) m x214 x215
    have x218 := k0_pay150 (F := Ideal) m x216 x217
    have x219 := k0_pay151 (F := Ideal) m x216 x217
    have x220 := k0_pay161 (F := Ideal) m x216 x217
    have x221 := k0_pay162 (F := Ideal) m x216 x217
    have x222 := k0_pay172 (F := Ideal) m x218 x219 x220 x221 (Scalar.ofBits .bf16 0#16)
    have x223 := k0_pay178 (F := Ideal) x222
    have x224 := k0_pay86 (F := Ideal) m lw x200 k kn r
    have x225 := k0_pay109 (F := Ideal) k0_pay40 k0_pay41 m v x224
    have x226 := k0_pay84 (F := Ideal) lw x200 kn r
    have x227 := k0_pay177 (F := Ideal) x226
    have x228 := k0_pay202 (F := Ideal) m x225 x227 s
    have x229 := k0_pay203 (F := Ideal) m x225 x227 s
    have x230 := k0_pay212 (F := Ideal) m v x223 x228 x229
    have x231 := k0_pay213 (F := Ideal) m x204 x206 s x230 (constant S256x256 .f32 0#32)
    x231

theorem gs0 (m : Mk) (lw k v kn b r s : T) : rs0 m lw k v kn b r s = sall m k0_pay40 k0_pay41 (k0_pay38 (F := Ideal)) lw k v kn b r s :=
  (rfl : _ = shapeCast S64x256 (sall m k0_pay40 k0_pay41 (k0_pay38 (F := Ideal)) lw k v kn b r s) shapeCasts_S64x256_S64x256).trans (cast_self _)

/-- The stored state of group 1. -/
def rs1 (m : Mk) (lw k v kn b r s : T) : T :=
    have x7 := k0_pay38 (F := Ideal)
    have x167 := k0_pay77 (F := Ideal) x7 lw
    have x168 := k0_pay88 (F := Ideal) x167
    have x171 := k0_pay185 (F := Ideal) x168 k b
    have x172 := k0_pay87 (F := Ideal) x167
    have x173 := k0_pay186 (F := Ideal) x172
    have x175 := k0_pay89 (F := Ideal) x167
    have x178 := k0_pay92 (F := Ideal) m lw x167 x175 k kn r
    have x179 := k0_pay112 (F := Ideal) k0_pay40 k0_pay41 x178
    have x180 := k0_pay113 (F := Ideal) m v x179
    have x181 := k0_pay91 (F := Ideal) m lw x167 x175 b kn r
    have x182 := k0_pay111 (F := Ideal) k0_pay40 x181
    have x183 := k0_pay114 (F := Ideal) m x182
    have x184 := k0_pay127 (F := Ideal) m x182 x183
    have x185 := k0_pay128 (F := Ideal) m x182 x183
    have x186 := k0_pay140 (F := Ideal) m x184 x185
    have x187 := k0_pay141 (F := Ideal) m x184 x185
    have x188 := k0_pay153 (F := Ideal) m x186 x187
    have x189 := k0_pay154 (F := Ideal) m x186 x187
    have x190 := k0_pay173 (F := Ideal) m x188 x189
    have x191 := k0_pay174 (F := Ideal) m x188 x189
    have x192 := k0_pay175 (F := Ideal) m x188 x189
    have x193 := k0_pay183 (F := Ideal) m x190 x191 x192
    have x194 := k0_pay90 (F := Ideal) lw x167 kn r
    have x195 := k0_pay182 (F := Ideal) x194
    have x196 := k0_pay198 (F := Ideal) m x195 s
    have x197 := k0_pay205 (F := Ideal) m x180 x193 x196
    have x198 := k0_pay216 (F := Ideal) m v x171 x173 s x197
    x198

theorem gs1 (m : Mk) (lw k v kn b r s : T) : rs1 m lw k v kn b r s = sall m k0_pay40 k0_pay41 (k0_pay38 (F := Ideal)) lw k v kn b r s :=
  (rfl : _ = shapeCast S64x256 (sall m k0_pay40 k0_pay41 (k0_pay38 (F := Ideal)) lw k v kn b r s) shapeCasts_S64x256_S64x256).trans (cast_self _)

/-- The stored state of group 2. -/
def rs2 (m : Mk) (lw k v kn b r s : T) : T :=
    have x7 := k0_pay38 (F := Ideal)
    have x132 := k0_pay78 (F := Ideal) x7 lw
    have x133 := k0_pay94 (F := Ideal) x132
    have x135 := k0_pay190 (F := Ideal) x133 k
    have x137 := k0_pay191 (F := Ideal) x133 b
    have x138 := k0_pay192 (F := Ideal) x135 x137
    have x139 := k0_pay93 (F := Ideal) x132
    have x140 := k0_pay193 (F := Ideal) x139
    have x142 := k0_pay95 (F := Ideal) x132
    have x144 := k0_pay96 (F := Ideal) lw x132 kn
    have x146 := k0_pay99 (F := Ideal) m x132 x142 k x144 r
    have x147 := k0_pay116 (F := Ideal) k0_pay40 k0_pay41 m v x146
    have x148 := k0_pay98 (F := Ideal) m x132 x142 b x144 r
    have x149 := k0_pay115 (F := Ideal) k0_pay40 x148
    have x150 := k0_pay117 (F := Ideal) k0_pay40 m x148
    have x151 := k0_pay130 (F := Ideal) m x149 x150
    have x152 := k0_pay131 (F := Ideal) m x149 x150
    have x153 := k0_pay143 (F := Ideal) m x151 x152
    have x154 := k0_pay144 (F := Ideal) m x151 x152
    have x155 := k0_pay156 (F := Ideal) m x153 x154
    have x156 := k0_pay157 (F := Ideal) m x153 x154
    have x157 := k0_pay167 (F := Ideal) m x155 x156
    have x158 := k0_pay168 (F := Ideal) m x155 x156
    have x159 := k0_pay188 (F := Ideal) m x157 x158
    have x160 := k0_pay97 (F := Ideal) x132 x144 r
    have x161 := k0_pay187 (F := Ideal) x160
    have x162 := k0_pay199 (F := Ideal) m x161 s
    have x163 := k0_pay207 (F := Ideal) m x147 x159 x162
    have x164 := k0_pay219 (F := Ideal) m v x138 x140 s x163
    x164

theorem gs2 (m : Mk) (lw k v kn b r s : T) : rs2 m lw k v kn b r s = sall m k0_pay40 k0_pay41 (k0_pay38 (F := Ideal)) lw k v kn b r s :=
  (rfl : _ = shapeCast S64x256 (sall m k0_pay40 k0_pay41 (k0_pay38 (F := Ideal)) lw k v kn b r s) shapeCasts_S64x256_S64x256).trans (cast_self _)

/-- The stored state of group 3. -/
def rs3 (m : Mk) (lw k v kn b r s : T) : T :=
    have x7 := k0_pay38 (F := Ideal)
    have x20 := k0_pay79 (F := Ideal) x7 lw
    have x21 := k0_pay80 (F := Ideal) x20
    have x22 := k0_pay101 (F := Ideal) x21
    have x40 := k0_pay196 (F := Ideal) x22 k b
    have x41 := k0_pay100 (F := Ideal) x21
    have x42 := k0_pay197 (F := Ideal) x41
    have x97 := k0_pay102 (F := Ideal) x21
    have x105 := k0_pay103 (F := Ideal) lw x21 kn r
    have x106 := k0_pay107 (F := Ideal) m x97 k x105
    have x107 := k0_pay119 (F := Ideal) k0_pay40 x106
    have x108 := k0_pay120 (F := Ideal) x106
    have x109 := k0_pay121 (F := Ideal) k0_pay41 m v x107 x108 (Scalar.ofBits .f32 0#32)
    have x110 := k0_pay104 (F := Ideal) lw x21 kn r
    have x111 := k0_pay105 (F := Ideal) m x21 b
    have x112 := k0_pay106 (F := Ideal) x110 x111
    have x113 := k0_pay118 (F := Ideal) k0_pay40 x112
    have x114 := k0_pay122 (F := Ideal) m x113
    have x115 := k0_pay132 (F := Ideal) m x113
    have x116 := k0_pay145 (F := Ideal) m x113 x114 x115
    have x117 := k0_pay146 (F := Ideal) m x113 x114 x115
    have x118 := k0_pay159 (F := Ideal) m x116 x117
    have x119 := k0_pay160 (F := Ideal) m x116 x117
    have x120 := k0_pay170 (F := Ideal) m x118 x119
    have x121 := k0_pay171 (F := Ideal) m x118 x119
    have x122 := k0_pay176 (F := Ideal) m x120 x121
    have x123 := k0_pay194 (F := Ideal) x122
    have x124 := k0_pay200 (F := Ideal) m x105 s
    have x125 := k0_pay209 (F := Ideal) m x109 x123 x124
    have x126 := k0_pay220 (F := Ideal) x125
    have x127 := k0_pay222 (F := Ideal) v
    have x128 := k0_pay223 (F := Ideal)
    have x129 := k0_pay224 (F := Ideal) m x40 x42 s x126 x127 x128
    x129

theorem gs3 (m : Mk) (lw k v kn b r s : T) : rs3 m lw k v kn b r s = sall m k0_pay40 k0_pay41 (k0_pay38 (F := Ideal)) lw k v kn b r s :=
  (rfl : _ = shapeCast S64x256 (sall m k0_pay40 k0_pay41 (k0_pay38 (F := Ideal)) lw k v kn b r s) shapeCasts_S64x256_S64x256).trans (cast_self _)

end Cert.Mixer
-- ==== Proof.Mix.Chain.lean ====
/-
  The kernel's scratch arrays of one grid step and its two recurrent results, as functions of the step's input blocks.
-/
module

public import proofs.«01_k».proof.Proof.Mix.Kern
public import proofs.«01_k».proof.Proof.Mix.Trees

@[expose] public section

set_option maxRecDepth 16384

noncomputable section

open Idealize.ShloMosaic Idealize.ShloMosaic.TcCoe Idealize.SL.Sem

namespace Cert.Mixer

open Cert.KernelIdeal Cert.KernelIdeal.Gen

/-- The head mask, with its scalars evaluated. -/
def msk : Mk :=
  cmpi .eq
    (select (andi (cmpi .ne k0_pay43 (broadcast S256x256 1#32))
        (cmpi .ne (remsi (iota .tc S256x256 32 [0] iota_S256x256_d0_w32) (broadcast S256x256 64#32)) (broadcast S256x256 0#32)))
      (subi k0_pay42 (broadcast S256x256 1#32)) k0_pay42)
    (select (andi (cmpi .ne (subi (extui 32 (cmpi .sgt (iota .tc S256x256 32 [1] iota_S256x256_d1_w32) (broadcast S256x256 0#32)) natLt_1_32)
          (extui 32 (cmpi .slt (iota .tc S256x256 32 [1] iota_S256x256_d1_w32) (broadcast S256x256 0#32)) natLt_1_32)) (broadcast S256x256 1#32))
        (cmpi .ne (remsi (iota .tc S256x256 32 [1] iota_S256x256_d1_w32) (broadcast S256x256 64#32)) (broadcast S256x256 0#32)))
      (subi (divsi (iota .tc S256x256 32 [1] iota_S256x256_d1_w32) (broadcast S256x256 64#32)) (broadcast S256x256 1#32))
      (divsi (iota .tc S256x256 32 [1] iota_S256x256_d1_w32) (broadcast S256x256 64#32)))

theorem msk_eq : msk = own := rfl

/-- The input blocks that the recurrence reads at one grid step. -/
structure Blks where
  x3 : S1x64x1024.Idx → EReal
  x4 : S1x64x1024.Idx → EReal
  x5 : S1x64x1024.Idx → EReal
  x6 : S1x64x512.Idx → EReal
  x8 : S1x1x3584.Idx → EReal
  x9 : S1x16x64x64.Idx → EReal
  x11 : S1x3584.Idx → EReal
  x12 : S1x1024.Idx → EReal
  x13 : S128x1024.Idx → EReal
  x14 : S1x1024.Idx → EReal
  x15 : S128x1024.Idx → EReal
  x16 : S256x1024.Idx → EReal
  x17 : S1x1024.Idx → EReal
  x18 : S1x1024.Idx → EReal
  x19 : S1x1024.Idx → EReal
  x20 : S1x1024.Idx → EReal
  x21 : S1x1024.Idx → EReal
  x22 : S256x256.Idx → EReal

abbrev Row := View.Piece (Elt Ideal) S1x3584 .f32
abbrev Pl := View.Piece (Elt Ideal) S64x1024 .f32
abbrev Wide := S64x1024.Idx → EReal

namespace Blks
variable (B : Blks)

def r0 : Row :=
  ⟨Rect.unit ![0, 0] ![1, 3584] (by decide), shapeCast S1x3584 (shapeCast S1x3584 B.x8 shapeCasts_S1x1x3584_S1x3584) shapeCasts_S1x3584_S1x3584⟩

def r6 : Row :=
  ⟨Rect.unit ![0, 3072] ![1, 512] (by decide), k0_pay52 (F := Ideal) B.x6⟩

def r4 : Row :=
  ⟨Rect.unit ![0, 1024] ![1, 1024] (by decide), k0_pay60 (F := Ideal) B.x4⟩

def r3 : Row :=
  ⟨Rect.unit ![0, 0] ![1, 1024] (by decide), k0_pay68 (F := Ideal) B.x3⟩

def y6 : S1x512.Idx → EReal :=
  ((View.whole cc0_scratch1).readCov (Val := Elt Ideal) [B.r0] (Rect.unit ![0, 3072] ![1, 512] (by decide)).toLoadRect :)

def y4 : S1x1024.Idx → EReal :=
  ((View.whole cc0_scratch1).readCov (Val := Elt Ideal) [B.r6, B.r0] (Rect.unit ![0, 1024] ![1, 1024] (by decide)).toLoadRect :)

def y3 : S1x1024.Idx → EReal :=
  ((View.whole cc0_scratch1).readCov (Val := Elt Ideal) [B.r4, B.r6, B.r0] (Rect.unit ![0, 0] ![1, 1024] (by decide)).toLoadRect :)

def y5 : S1x1024.Idx → EReal :=
  ((View.whole cc0_scratch1).readCov (Val := Elt Ideal) [B.r3, B.r4, B.r6, B.r0] (Rect.unit ![0, 2048] ![1, 1024] (by decide)).toLoadRect :)

def mu6 : S1x512.Idx → EReal :=
  (View.ld (Val := Elt Ideal) (e' := .f32) B.x11 (Rect.unit ![0, 3072] ![1, 512] (by decide)) :)

def mu4 : S1x1024.Idx → EReal :=
  (View.ld (Val := Elt Ideal) (e' := .f32) B.x11 (Rect.unit ![0, 1024] ![1, 1024] (by decide)) :)

def mu3 : S1x1024.Idx → EReal :=
  (View.ld (Val := Elt Ideal) (e' := .f32) B.x11 (Rect.unit ![0, 0] ![1, 1024] (by decide)) :)

def mu5 : S1x1024.Idx → EReal :=
  (View.ld (Val := Elt Ideal) (e' := .f32) B.x11 (Rect.unit ![0, 2048] ![1, 1024] (by decide)) :)

def bd : S256x256.Idx → EReal :=
  k0_pay37 (F := Ideal) B.x22

def stp : Wide :=
  k0_pay55 (F := Ideal) (k0_pay53 (F := Ideal) B.x6 B.y6 B.mu6) B.x14 B.x15

def key : Wide :=
  k0_pay59 (F := Ideal) B.x4 B.y4 B.mu4

def nrm : Wide :=
  k0_pay61 (F := Ideal) B.bd B.x4 B.y4 B.mu4 B.x17

def rcp : Wide :=
  k0_pay67 (F := Ideal) B.x3 B.y3 B.mu3

def val : Wide :=
  k0_pay72 (F := Ideal) B.x5 B.y5 B.mu5

def aLw : Wide :=
  k0_pay57 (F := Ideal) (k0_pay54 (F := Ideal) B.x6 B.y6 B.mu6 B.x12 B.x13)

def aKn : Wide :=
  k0_pay62 (F := Ideal) B.nrm

def aR : Wide :=
  k0_pay69 (F := Ideal) B.rcp

def aB : Wide :=
  k0_pay63 (F := Ideal) B.stp B.nrm

def aV : Wide :=
  k0_pay74 (F := Ideal) B.val

def aK : Wide :=
  k0_pay65 (F := Ideal) B.stp B.key B.x18

def aBo : Wide :=
  k0_pay75 (F := Ideal) (k0_pay70 (F := Ideal) B.bd (k0_pay64 (F := Ideal) B.stp B.key B.x18) B.rcp B.x19) B.val

def aGa : Wide :=
  k0_pay56 (F := Ideal) (k0_pay51 (F := Ideal) B.x6 B.y6 B.mu6) B.x16

def gLw0 : T :=
  ((View.whole cc0_scratch4).readCov (Val := Elt Ideal) [⟨Rect.unit ![0, 0] ![64, 1024] (by decide), B.aLw⟩] (Rect.unit ![0, 0] ![64, 256] (by decide)).toLoadRect :)

def gLw1 : T :=
  ((View.whole cc0_scratch4).readCov (Val := Elt Ideal) [⟨Rect.unit ![0, 0] ![64, 1024] (by decide), B.aLw⟩] (Rect.unit ![0, 256] ![64, 256] (by decide)).toLoadRect :)

def gLw2 : T :=
  ((View.whole cc0_scratch4).readCov (Val := Elt Ideal) [⟨Rect.unit ![0, 0] ![64, 1024] (by decide), B.aLw⟩] (Rect.unit ![0, 512] ![64, 256] (by decide)).toLoadRect :)

def gLw3 : T :=
  ((View.whole cc0_scratch4).readCov (Val := Elt Ideal) [⟨Rect.unit ![0, 0] ![64, 1024] (by decide), B.aLw⟩] (Rect.unit ![0, 768] ![64, 256] (by decide)).toLoadRect :)

def gK0 : T :=
  ((View.whole cc0_scratch5).readCov (Val := Elt Ideal) [⟨Rect.unit ![0, 0] ![64, 1024] (by decide), B.aK⟩] (Rect.unit ![0, 0] ![64, 256] (by decide)).toLoadRect :)

def gK1 : T :=
  ((View.whole cc0_scratch5).readCov (Val := Elt Ideal) [⟨Rect.unit ![0, 0] ![64, 1024] (by decide), B.aK⟩] (Rect.unit ![0, 256] ![64, 256] (by decide)).toLoadRect :)

def gK2 : T :=
  ((View.whole cc0_scratch5).readCov (Val := Elt Ideal) [⟨Rect.unit ![0, 0] ![64, 1024] (by decide), B.aK⟩] (Rect.unit ![0, 512] ![64, 256] (by decide)).toLoadRect :)

def gK3 : T :=
  ((View.whole cc0_scratch5).readCov (Val := Elt Ideal) [⟨Rect.unit ![0, 0] ![64, 1024] (by decide), B.aK⟩] (Rect.unit ![0, 768] ![64, 256] (by decide)).toLoadRect :)

def gV0 : T :=
  ((View.whole cc0_scratch6).readCov (Val := Elt Ideal) [⟨Rect.unit ![0, 0] ![64, 1024] (by decide), B.aV⟩] (Rect.unit ![0, 0] ![64, 256] (by decide)).toLoadRect :)

def gV1 : T :=
  ((View.whole cc0_scratch6).readCov (Val := Elt Ideal) [⟨Rect.unit ![0, 0] ![64, 1024] (by decide), B.aV⟩] (Rect.unit ![0, 256] ![64, 256] (by decide)).toLoadRect :)

def gV2 : T :=
  ((View.whole cc0_scratch6).readCov (Val := Elt Ideal) [⟨Rect.unit ![0, 0] ![64, 1024] (by decide), B.aV⟩] (Rect.unit ![0, 512] ![64, 256] (by decide)).toLoadRect :)

def gV3 : T :=
  ((View.whole cc0_scratch6).readCov (Val := Elt Ideal) [⟨Rect.unit ![0, 0] ![64, 1024] (by decide), B.aV⟩] (Rect.unit ![0, 768] ![64, 256] (by decide)).toLoadRect :)

def gKn0 : T :=
  ((View.whole cc0_scratch7).readCov (Val := Elt Ideal) [⟨Rect.unit ![0, 0] ![64, 1024] (by decide), B.aKn⟩] (Rect.unit ![0, 0] ![64, 256] (by decide)).toLoadRect :)

def gKn1 : T :=
  ((View.whole cc0_scratch7).readCov (Val := Elt Ideal) [⟨Rect.unit ![0, 0] ![64, 1024] (by decide), B.aKn⟩] (Rect.unit ![0, 256] ![64, 256] (by decide)).toLoadRect :)

def gKn2 : T :=
  ((View.whole cc0_scratch7).readCov (Val := Elt Ideal) [⟨Rect.unit ![0, 0] ![64, 1024] (by decide), B.aKn⟩] (Rect.unit ![0, 512] ![64, 256] (by decide)).toLoadRect :)

def gKn3 : T :=
  ((View.whole cc0_scratch7).readCov (Val := Elt Ideal) [⟨Rect.unit ![0, 0] ![64, 1024] (by decide), B.aKn⟩] (Rect.unit ![0, 768] ![64, 256] (by decide)).toLoadRect :)

def gB0 : T :=
  ((View.whole cc0_scratch8).readCov (Val := Elt Ideal) [⟨Rect.unit ![0, 0] ![64, 1024] (by decide), B.aB⟩] (Rect.unit ![0, 0] ![64, 256] (by decide)).toLoadRect :)

def gB1 : T :=
  ((View.whole cc0_scratch8).readCov (Val := Elt Ideal) [⟨Rect.unit ![0, 0] ![64, 1024] (by decide), B.aB⟩] (Rect.unit ![0, 256] ![64, 256] (by decide)).toLoadRect :)

def gB2 : T :=
  ((View.whole cc0_scratch8).readCov (Val := Elt Ideal) [⟨Rect.unit ![0, 0] ![64, 1024] (by decide), B.aB⟩] (Rect.unit ![0, 512] ![64, 256] (by decide)).toLoadRect :)

def gB3 : T :=
  ((View.whole cc0_scratch8).readCov (Val := Elt Ideal) [⟨Rect.unit ![0, 0] ![64, 1024] (by decide), B.aB⟩] (Rect.unit ![0, 768] ![64, 256] (by decide)).toLoadRect :)

def gR0 : T :=
  ((View.whole cc0_scratch3).readCov (Val := Elt Ideal) [⟨Rect.unit ![0, 0] ![64, 1024] (by decide), B.aR⟩] (Rect.unit ![0, 0] ![64, 256] (by decide)).toLoadRect :)

def gR1 : T :=
  ((View.whole cc0_scratch3).readCov (Val := Elt Ideal) [⟨Rect.unit ![0, 0] ![64, 1024] (by decide), B.aR⟩] (Rect.unit ![0, 256] ![64, 256] (by decide)).toLoadRect :)

def gR2 : T :=
  ((View.whole cc0_scratch3).readCov (Val := Elt Ideal) [⟨Rect.unit ![0, 0] ![64, 1024] (by decide), B.aR⟩] (Rect.unit ![0, 512] ![64, 256] (by decide)).toLoadRect :)

def gR3 : T :=
  ((View.whole cc0_scratch3).readCov (Val := Elt Ideal) [⟨Rect.unit ![0, 0] ![64, 1024] (by decide), B.aR⟩] (Rect.unit ![0, 768] ![64, 256] (by decide)).toLoadRect :)

def p0 : Pl :=
  ⟨Rect.unit ![0, 0] ![64, 64] (by decide), shapeCast S64x64 (shapeCast S64x64 (View.ld (Val := Elt Ideal) (e' := .f32) B.x9 (Rect.unit ![0, 0, 0, 0] ![1, 1, 64, 64] (by decide))) shapeCasts_S1x1x64x64_S64x64) shapeCasts_S64x64_S64x64⟩

def p1 : Pl :=
  ⟨Rect.unit ![0, 64] ![64, 64] (by decide), shapeCast S64x64 (shapeCast S64x64 (View.ld (Val := Elt Ideal) (e' := .f32) B.x9 (Rect.unit ![0, 1, 0, 0] ![1, 1, 64, 64] (by decide))) shapeCasts_S1x1x64x64_S64x64) shapeCasts_S64x64_S64x64⟩

def p2 : Pl :=
  ⟨Rect.unit ![0, 128] ![64, 64] (by decide), shapeCast S64x64 (shapeCast S64x64 (View.ld (Val := Elt Ideal) (e' := .f32) B.x9 (Rect.unit ![0, 2, 0, 0] ![1, 1, 64, 64] (by decide))) shapeCasts_S1x1x64x64_S64x64) shapeCasts_S64x64_S64x64⟩

def p3 : Pl :=
  ⟨Rect.unit ![0, 192] ![64, 64] (by decide), shapeCast S64x64 (shapeCast S64x64 (View.ld (Val := Elt Ideal) (e' := .f32) B.x9 (Rect.unit ![0, 3, 0, 0] ![1, 1, 64, 64] (by decide))) shapeCasts_S1x1x64x64_S64x64) shapeCasts_S64x64_S64x64⟩

def p4 : Pl :=
  ⟨Rect.unit ![0, 256] ![64, 64] (by decide), shapeCast S64x64 (shapeCast S64x64 (View.ld (Val := Elt Ideal) (e' := .f32) B.x9 (Rect.unit ![0, 4, 0, 0] ![1, 1, 64, 64] (by decide))) shapeCasts_S1x1x64x64_S64x64) shapeCasts_S64x64_S64x64⟩

def p5 : Pl :=
  ⟨Rect.unit ![0, 320] ![64, 64] (by decide), shapeCast S64x64 (shapeCast S64x64 (View.ld (Val := Elt Ideal) (e' := .f32) B.x9 (Rect.unit ![0, 5, 0, 0] ![1, 1, 64, 64] (by decide))) shapeCasts_S1x1x64x64_S64x64) shapeCasts_S64x64_S64x64⟩

def p6 : Pl :=
  ⟨Rect.unit ![0, 384] ![64, 64] (by decide), shapeCast S64x64 (shapeCast S64x64 (View.ld (Val := Elt Ideal) (e' := .f32) B.x9 (Rect.unit ![0, 6, 0, 0] ![1, 1, 64, 64] (by decide))) shapeCasts_S1x1x64x64_S64x64) shapeCasts_S64x64_S64x64⟩

def p7 : Pl :=
  ⟨Rect.unit ![0, 448] ![64, 64] (by decide), shapeCast S64x64 (shapeCast S64x64 (View.ld (Val := Elt Ideal) (e' := .f32) B.x9 (Rect.unit ![0, 7, 0, 0] ![1, 1, 64, 64] (by decide))) shapeCasts_S1x1x64x64_S64x64) shapeCasts_S64x64_S64x64⟩

def p8 : Pl :=
  ⟨Rect.unit ![0, 512] ![64, 64] (by decide), shapeCast S64x64 (shapeCast S64x64 (View.ld (Val := Elt Ideal) (e' := .f32) B.x9 (Rect.unit ![0, 8, 0, 0] ![1, 1, 64, 64] (by decide))) shapeCasts_S1x1x64x64_S64x64) shapeCasts_S64x64_S64x64⟩

def p9 : Pl :=
  ⟨Rect.unit ![0, 576] ![64, 64] (by decide), shapeCast S64x64 (shapeCast S64x64 (View.ld (Val := Elt Ideal) (e' := .f32) B.x9 (Rect.unit ![0, 9, 0, 0] ![1, 1, 64, 64] (by decide))) shapeCasts_S1x1x64x64_S64x64) shapeCasts_S64x64_S64x64⟩

def p10 : Pl :=
  ⟨Rect.unit ![0, 640] ![64, 64] (by decide), shapeCast S64x64 (shapeCast S64x64 (View.ld (Val := Elt Ideal) (e' := .f32) B.x9 (Rect.unit ![0, 10, 0, 0] ![1, 1, 64, 64] (by decide))) shapeCasts_S1x1x64x64_S64x64) shapeCasts_S64x64_S64x64⟩

def p11 : Pl :=
  ⟨Rect.unit ![0, 704] ![64, 64] (by decide), shapeCast S64x64 (shapeCast S64x64 (View.ld (Val := Elt Ideal) (e' := .f32) B.x9 (Rect.unit ![0, 11, 0, 0] ![1, 1, 64, 64] (by decide))) shapeCasts_S1x1x64x64_S64x64) shapeCasts_S64x64_S64x64⟩

def p12 : Pl :=
  ⟨Rect.unit ![0, 768] ![64, 64] (by decide), shapeCast S64x64 (shapeCast S64x64 (View.ld (Val := Elt Ideal) (e' := .f32) B.x9 (Rect.unit ![0, 12, 0, 0] ![1, 1, 64, 64] (by decide))) shapeCasts_S1x1x64x64_S64x64) shapeCasts_S64x64_S64x64⟩

def p13 : Pl :=
  ⟨Rect.unit ![0, 832] ![64, 64] (by decide), k0_pay34 (F := Ideal) (View.ld (Val := Elt Ideal) (e' := .f32) B.x9 (Rect.unit ![0, 13, 0, 0] ![1, 1, 64, 64] (by decide)))⟩

def p14 : Pl :=
  ⟨Rect.unit ![0, 896] ![64, 64] (by decide), k0_pay35 (F := Ideal) (View.ld (Val := Elt Ideal) (e' := .f32) B.x9 (Rect.unit ![0, 14, 0, 0] ![1, 1, 64, 64] (by decide)))⟩

def p15 : Pl :=
  ⟨Rect.unit ![0, 960] ![64, 64] (by decide), k0_pay36 (F := Ideal) (View.ld (Val := Elt Ideal) (e' := .f32) B.x9 (Rect.unit ![0, 15, 0, 0] ![1, 1, 64, 64] (by decide)))⟩

def init : List Pl :=
  [B.p15, B.p14, B.p13, B.p12, B.p11, B.p10, B.p9, B.p8, B.p7, B.p6, B.p5, B.p4, B.p3, B.p2, B.p1, B.p0]

def gS0 : T :=
  ((View.whole cc0_scratch2).readCov (Val := Elt Ideal) B.init (Rect.unit ![0, 0] ![64, 256] (by decide)).toLoadRect :)

def gS1 : T :=
  ((View.whole cc0_scratch2).readCov (Val := Elt Ideal) B.init (Rect.unit ![0, 256] ![64, 256] (by decide)).toLoadRect :)

def gS2 : T :=
  ((View.whole cc0_scratch2).readCov (Val := Elt Ideal) B.init (Rect.unit ![0, 512] ![64, 256] (by decide)).toLoadRect :)

def gS3 : T :=
  ((View.whole cc0_scratch2).readCov (Val := Elt Ideal) B.init (Rect.unit ![0, 768] ![64, 256] (by decide)).toLoadRect :)

def yg0 : T :=
  ry0 msk B.gLw0 B.gK0 B.gV0 B.gKn0 B.gB0 B.gR0 B.gS0

def sg0 : T :=
  rs0 msk B.gLw0 B.gK0 B.gV0 B.gKn0 B.gB0 B.gR0 B.gS0

def yp0 : Pl :=
  ⟨Rect.unit ![0, 0] ![64, 256] (by decide), B.yg0⟩

def sp0 : Pl :=
  ⟨Rect.unit ![0, 0] ![64, 256] (by decide), B.sg0⟩

def yg1 : T :=
  ry1 msk B.gLw1 B.gK1 B.gV1 B.gKn1 B.gB1 B.gR1 B.gS1

def sg1 : T :=
  rs1 msk B.gLw1 B.gK1 B.gV1 B.gKn1 B.gB1 B.gR1 B.gS1

def yp1 : Pl :=
  ⟨Rect.unit ![0, 256] ![64, 256] (by decide), B.yg1⟩

def sp1 : Pl :=
  ⟨Rect.unit ![0, 256] ![64, 256] (by decide), B.sg1⟩

def yg2 : T :=
  ry2 msk B.gLw2 B.gK2 B.gV2 B.gKn2 B.gB2 B.gR2 B.gS2

def sg2 : T :=
  rs2 msk B.gLw2 B.gK2 B.gV2 B.gKn2 B.gB2 B.gR2 B.gS2

def yp2 : Pl :=
  ⟨Rect.unit ![0, 512] ![64, 256] (by decide), B.yg2⟩

def sp2 : Pl :=
  ⟨Rect.unit ![0, 512] ![64, 256] (by decide), B.sg2⟩

def yg3 : T :=
  ry3 msk B.gLw3 B.gK3 B.gV3 B.gKn3 B.gB3 B.gR3 B.gS3

def sg3 : T :=
  rs3 msk B.gLw3 B.gK3 B.gV3 B.gKn3 B.gB3 B.gR3 B.gS3

def yp3 : Pl :=
  ⟨Rect.unit ![0, 768] ![64, 256] (by decide), B.yg3⟩

def sp3 : Pl :=
  ⟨Rect.unit ![0, 768] ![64, 256] (by decide), B.sg3⟩

def ys : Wide :=
  ((View.whole cc0_scratch9).readCov (Val := Elt Ideal) [B.yp3, B.yp2, B.yp1, B.yp0] (Rect.unit ![0, 0] ![64, 1024] (by decide)).toLoadRect :)

def mixr : S1x64x1024.Idx → EReal :=
  k0_pay227 (F := Ideal) (k0_pay225 (F := Ideal) B.bd B.ys) (k0_pay226 (F := Ideal) B.bd B.ys) B.x20 B.x21 B.aBo B.aGa

def fin : List Pl :=
  B.sp3 :: B.sp2 :: B.sp1 :: B.sp0 :: B.init

def hs0 : S64x64.Idx → EReal :=
  ((View.whole cc0_scratch2).readCov (Val := Elt Ideal) B.fin (Rect.unit ![0, 0] ![64, 64] (by decide)).toLoadRect :)

def hs1 : S64x64.Idx → EReal :=
  ((View.whole cc0_scratch2).readCov (Val := Elt Ideal) B.fin (Rect.unit ![0, 64] ![64, 64] (by decide)).toLoadRect :)

def hs2 : S64x64.Idx → EReal :=
  ((View.whole cc0_scratch2).readCov (Val := Elt Ideal) B.fin (Rect.unit ![0, 128] ![64, 64] (by decide)).toLoadRect :)

def hs3 : S64x64.Idx → EReal :=
  ((View.whole cc0_scratch2).readCov (Val := Elt Ideal) B.fin (Rect.unit ![0, 192] ![64, 64] (by decide)).toLoadRect :)

def hs4 : S64x64.Idx → EReal :=
  ((View.whole cc0_scratch2).readCov (Val := Elt Ideal) B.fin (Rect.unit ![0, 256] ![64, 64] (by decide)).toLoadRect :)

def hs5 : S64x64.Idx → EReal :=
  ((View.whole cc0_scratch2).readCov (Val := Elt Ideal) B.fin (Rect.unit ![0, 320] ![64, 64] (by decide)).toLoadRect :)

def hs6 : S64x64.Idx → EReal :=
  ((View.whole cc0_scratch2).readCov (Val := Elt Ideal) B.fin (Rect.unit ![0, 384] ![64, 64] (by decide)).toLoadRect :)

def hs7 : S64x64.Idx → EReal :=
  ((View.whole cc0_scratch2).readCov (Val := Elt Ideal) B.fin (Rect.unit ![0, 448] ![64, 64] (by decide)).toLoadRect :)

def hs8 : S64x64.Idx → EReal :=
  ((View.whole cc0_scratch2).readCov (Val := Elt Ideal) B.fin (Rect.unit ![0, 512] ![64, 64] (by decide)).toLoadRect :)

def hs9 : S64x64.Idx → EReal :=
  ((View.whole cc0_scratch2).readCov (Val := Elt Ideal) B.fin (Rect.unit ![0, 576] ![64, 64] (by decide)).toLoadRect :)

def hs10 : S64x64.Idx → EReal :=
  ((View.whole cc0_scratch2).readCov (Val := Elt Ideal) B.fin (Rect.unit ![0, 640] ![64, 64] (by decide)).toLoadRect :)

def hs11 : S64x64.Idx → EReal :=
  ((View.whole cc0_scratch2).readCov (Val := Elt Ideal) B.fin (Rect.unit ![0, 704] ![64, 64] (by decide)).toLoadRect :)

def hs12 : S64x64.Idx → EReal :=
  ((View.whole cc0_scratch2).readCov (Val := Elt Ideal) B.fin (Rect.unit ![0, 768] ![64, 64] (by decide)).toLoadRect :)

def hs13 : S64x64.Idx → EReal :=
  ((View.whole cc0_scratch2).readCov (Val := Elt Ideal) B.fin (Rect.unit ![0, 832] ![64, 64] (by decide)).toLoadRect :)

def hs14 : S64x64.Idx → EReal :=
  ((View.whole cc0_scratch2).readCov (Val := Elt Ideal) B.fin (Rect.unit ![0, 896] ![64, 64] (by decide)).toLoadRect :)

def hs15 : S64x64.Idx → EReal :=
  ((View.whole cc0_scratch2).readCov (Val := Elt Ideal) B.fin (Rect.unit ![0, 960] ![64, 64] (by decide)).toLoadRect :)

def wkv : S1x16x64x64.Idx → EReal :=
  View.canon (Val := Elt Ideal) (e := .f32) [⟨Rect.unit ![0, 15, 0, 0] ![1, 1, 64, 64] (by decide), k0_pay2 (F := Ideal) B.hs15⟩,
    ⟨Rect.unit ![0, 14, 0, 0] ![1, 1, 64, 64] (by decide), k0_pay1 (F := Ideal) B.hs14⟩,
    ⟨Rect.unit ![0, 13, 0, 0] ![1, 1, 64, 64] (by decide), k0_pay33 (F := Ideal) B.hs13⟩,
    ⟨Rect.unit ![0, 12, 0, 0] ![1, 1, 64, 64] (by decide), k0_pay32 (F := Ideal) B.hs12⟩,
    ⟨Rect.unit ![0, 11, 0, 0] ![1, 1, 64, 64] (by decide), k0_pay31 (F := Ideal) B.hs11⟩,
    ⟨Rect.unit ![0, 10, 0, 0] ![1, 1, 64, 64] (by decide), k0_pay30 (F := Ideal) B.hs10⟩,
    ⟨Rect.unit ![0, 9, 0, 0] ![1, 1, 64, 64] (by decide), k0_pay29 (F := Ideal) B.hs9⟩,
    ⟨Rect.unit ![0, 8, 0, 0] ![1, 1, 64, 64] (by decide), k0_pay28 (F := Ideal) B.hs8⟩,
    ⟨Rect.unit ![0, 7, 0, 0] ![1, 1, 64, 64] (by decide), k0_pay27 (F := Ideal) B.hs7⟩,
    ⟨Rect.unit ![0, 6, 0, 0] ![1, 1, 64, 64] (by decide), k0_pay26 (F := Ideal) B.hs6⟩,
    ⟨Rect.unit ![0, 5, 0, 0] ![1, 1, 64, 64] (by decide), k0_pay25 (F := Ideal) B.hs5⟩,
    ⟨Rect.unit ![0, 4, 0, 0] ![1, 1, 64, 64] (by decide), k0_pay24 (F := Ideal) B.hs4⟩,
    ⟨Rect.unit ![0, 3, 0, 0] ![1, 1, 64, 64] (by decide), k0_pay23 (F := Ideal) B.hs3⟩,
    ⟨Rect.unit ![0, 2, 0, 0] ![1, 1, 64, 64] (by decide), k0_pay22 (F := Ideal) B.hs2⟩,
    ⟨Rect.unit ![0, 1, 0, 0] ![1, 1, 64, 64] (by decide), k0_pay21 (F := Ideal) B.hs1⟩,
    ⟨Rect.unit ![0, 0, 0, 0] ![1, 1, 64, 64] (by decide), k0_pay20 (F := Ideal) B.hs0⟩]

end Blks

variable (m : (ℓ : Loc nD τ sig) → Buf (Elt Ideal) ℓ) (c : Dev nD)

/-- The blocks that the grid step reads. -/
def blks (t : Fin cfg0.N) : Blks where
  x3 := X0_3 m c t
  x4 := X0_4 m c t
  x5 := X0_5 m c t
  x6 := iblk m c 6 t
  x8 := iblk m c 8 t
  x9 := iblk m c 9 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t

set_option maxHeartbeats 4000000 in
theorem out_mixr (t : Fin cfg0.N) : (outsAt0 m c t).2.1 = (blks m c t).mixr := by
  unfold outsAt0
  frame_out
  conv_rhs => dsimp only [blks, Blks.r0, Blks.r6, Blks.r4, Blks.r3, Blks.y6, Blks.y4, Blks.y3, Blks.y5, Blks.mu6, Blks.mu4, Blks.mu3, Blks.mu5, Blks.bd, Blks.stp, Blks.key, Blks.nrm, Blks.rcp, Blks.val, Blks.aLw, Blks.aKn, Blks.aR, Blks.aB, Blks.aV, Blks.aK, Blks.aBo, Blks.aGa, Blks.gLw0, Blks.gLw1, Blks.gLw2, Blks.gLw3, Blks.gK0, Blks.gK1, Blks.gK2, Blks.gK3, Blks.gV0, Blks.gV1, Blks.gV2, Blks.gV3, Blks.gKn0, Blks.gKn1, Blks.gKn2, Blks.gKn3, Blks.gB0, Blks.gB1, Blks.gB2, Blks.gB3, Blks.gR0, Blks.gR1, Blks.gR2, Blks.gR3, Blks.p0, Blks.p1, Blks.p2, Blks.p3, Blks.p4, Blks.p5, Blks.p6, Blks.p7, Blks.p8, Blks.p9, Blks.p10, Blks.p11, Blks.p12, Blks.p13, Blks.p14, Blks.p15, Blks.init, Blks.gS0, Blks.gS1, Blks.gS2, Blks.gS3, Blks.yg0, Blks.sg0, Blks.yp0, Blks.sp0, Blks.yg1, Blks.sg1, Blks.yp1, Blks.sp1, Blks.yg2, Blks.sg2, Blks.yp2, Blks.sp2, Blks.yg3, Blks.sg3, Blks.yp3, Blks.sp3, Blks.ys, Blks.mixr, Blks.fin, Blks.hs0, Blks.hs1, Blks.hs2, Blks.hs3, Blks.hs4, Blks.hs5, Blks.hs6, Blks.hs7, Blks.hs8, Blks.hs9, Blks.hs10, Blks.hs11, Blks.hs12, Blks.hs13, Blks.hs14, Blks.hs15, Blks.wkv, ry0, ry1, ry2, ry3, msk]

set_option maxHeartbeats 4000000 in
theorem out_wkv (t : Fin cfg0.N) : (outsAt0 m c t).2.2.2.2 = (blks m c t).wkv := by
  unfold outsAt0
  frame_out
  conv_rhs => dsimp only [blks, Blks.r0, Blks.r6, Blks.r4, Blks.r3, Blks.y6, Blks.y4, Blks.y3, Blks.y5, Blks.mu6, Blks.mu4, Blks.mu3, Blks.mu5, Blks.bd, Blks.stp, Blks.key, Blks.nrm, Blks.rcp, Blks.val, Blks.aLw, Blks.aKn, Blks.aR, Blks.aB, Blks.aV, Blks.aK, Blks.aBo, Blks.aGa, Blks.gLw0, Blks.gLw1, Blks.gLw2, Blks.gLw3, Blks.gK0, Blks.gK1, Blks.gK2, Blks.gK3, Blks.gV0, Blks.gV1, Blks.gV2, Blks.gV3, Blks.gKn0, Blks.gKn1, Blks.gKn2, Blks.gKn3, Blks.gB0, Blks.gB1, Blks.gB2, Blks.gB3, Blks.gR0, Blks.gR1, Blks.gR2, Blks.gR3, Blks.p0, Blks.p1, Blks.p2, Blks.p3, Blks.p4, Blks.p5, Blks.p6, Blks.p7, Blks.p8, Blks.p9, Blks.p10, Blks.p11, Blks.p12, Blks.p13, Blks.p14, Blks.p15, Blks.init, Blks.gS0, Blks.gS1, Blks.gS2, Blks.gS3, Blks.yg0, Blks.sg0, Blks.yp0, Blks.sp0, Blks.yg1, Blks.sg1, Blks.yp1, Blks.sp1, Blks.yg2, Blks.sg2, Blks.yp2, Blks.sp2, Blks.yg3, Blks.sg3, Blks.yp3, Blks.sp3, Blks.ys, Blks.mixr, Blks.fin, Blks.hs0, Blks.hs1, Blks.hs2, Blks.hs3, Blks.hs4, Blks.hs5, Blks.hs6, Blks.hs7, Blks.hs8, Blks.hs9, Blks.hs10, Blks.hs11, Blks.hs12, Blks.hs13, Blks.hs14, Blks.hs15, Blks.wkv, rs0, rs1, rs2, rs3, msk]

end Cert.Mixer
-- ==== Proof.Mix.Entry.lean ====
/-
  The entries of the kernel's scratch arrays at one grid step: they are the layer's quantities at that step's sequence.
-/
module

public import proofs.«01_k».proof.Proof.Mix.Chain

@[expose] public section

set_option maxRecDepth 16384

noncomputable section

open Idealize.ShloMosaic Idealize.ShloMosaic.TcCoe Idealize.SL.Sem

namespace Cert.Mixer

open Cert.KernelIdeal Cert.KernelIdeal.Gen

/-- The blocks of one grid step hold the layer's arguments for sequence `n`. -/
structure Holds (A : Args) (S0 : S16x16x64x64.Idx → EReal) (n : Fin 16) (B : Blks) : Prop where
  h3 : ∀ (r : Fin 64) (j : Fin 1024), B.x3 (ix3 0 r j) = A.A0 (ix3 n r ⟨3072 + j, by omega⟩)
  h4 : ∀ (r : Fin 64) (j : Fin 1024), B.x4 (ix3 0 r j) = A.A0 (ix3 n r ⟨4096 + j, by omega⟩)
  h5 : ∀ (r : Fin 64) (j : Fin 1024), B.x5 (ix3 0 r j) = A.A0 (ix3 n r ⟨5120 + j, by omega⟩)
  h6 : ∀ (r : Fin 64) (j : Fin 512), B.x6 (ix3 0 r j) = A.A0 (ix3 n r ⟨6144 + j, by omega⟩)
  h8 : ∀ (j : Fin 3584) (hj : j.val < 3360), B.x8 (ix3 0 0 j) = A.A2 (ix3 n 0 ⟨j.val, hj⟩)
  h9 : ∀ (h : Fin 16) (i j : Fin 64), B.x9 (ix4 0 h i j) = S0 (ix4 n h i j)
  h11 : ∀ (j : Fin 3584) (hj : j.val < 3360), B.x11 (ix2 0 j) = A.A5 (ix1 ⟨j.val, hj⟩)
  h12 : ∀ j : Fin 1024, B.x12 (ix2 0 j) = A.A6 (ix1 j)
  h13 : ∀ (k : Fin 128) (j : Fin 1024), B.x13 (ix2 k j) = if h : k.val < 64 then A.A7 (ix2 ⟨k.val, h⟩ j) else 0
  h14 : ∀ j : Fin 1024, B.x14 (ix2 0 j) = A.A8 (ix1 j)
  h15 : ∀ (k : Fin 128) (j : Fin 1024), B.x15 (ix2 k j) = if h : 64 ≤ k.val then A.A9 (ix2 ⟨k.val - 64, by omega⟩ j) else 0
  h16 : ∀ (k : Fin 256) (j : Fin 1024), B.x16 (ix2 k j) = if h : k.val < 160 then A.A10 (ix2 ⟨k.val, h⟩ j) else 0
  h17 : ∀ j : Fin 1024, B.x17 (ix2 0 j) = A.A11 (ix1 j)
  h18 : ∀ j : Fin 1024, B.x18 (ix2 0 j) = A.A12 (ix1 j)
  h19 : ∀ (h : Fin 16) (d : Fin 64), B.x19 (ix2 0 (col h d)) = A.A13 (ix2 h d)
  h20 : ∀ j : Fin 1024, B.x20 (ix2 0 j) = A.A14 (ix1 j)
  h21 : ∀ j : Fin 1024, B.x21 (ix2 0 j) = A.A15 (ix1 j)
  h22 : ∀ (h : Fin 4) (d : Fin 64) (h' : Fin 4) (d' : Fin 64), B.x22 (ix2 (lane h d) (lane h' d')) = if h = h' then 1 else 0

section Shifted
variable (x : S1x1x3584.Idx → EReal) (z : S1x3584.Idx → EReal)

theorem rd512 (inb : _) (j : Fin 512) :
    View.ld (Val := Elt Ideal) (e' := .f32) (shapeCast S1x3584 (shapeCast S1x3584 x shapeCasts_S1x1x3584_S1x3584) shapeCasts_S1x3584_S1x3584) (Rect.unit ![0, 3072] ![1, 512] inb) (ix2 0 j)
      = x (ix3 0 0 ⟨3072 + j, by omega⟩) := by
  pointwise
theorem rd1024 (off : ℕ) (ho : off + 1024 ≤ 3584) (inb : _) (j : Fin 1024) :
    View.ld (Val := Elt Ideal) (e' := .f32) (shapeCast S1x3584 (shapeCast S1x3584 x shapeCasts_S1x1x3584_S1x3584) shapeCasts_S1x3584_S1x3584) (Rect.unit ![0, off] ![1, 1024] inb) (ix2 0 j)
      = x (ix3 0 0 ⟨off + j, by omega⟩) := by
  pointwise
theorem rm512 (inb : _) (j : Fin 512) :
    View.ld (Val := Elt Ideal) (e' := .f32) z (Rect.unit ![0, 3072] ![1, 512] inb) (ix2 0 j) = z (ix2 0 ⟨3072 + j, by omega⟩) := by
  pointwise
theorem rm1024 (off : ℕ) (ho : off + 1024 ≤ 3584) (inb : _) (j : Fin 1024) :
    View.ld (Val := Elt Ideal) (e' := .f32) z (Rect.unit ![0, off] ![1, 1024] inb) (ix2 0 j) = z (ix2 0 ⟨off + j, by omega⟩) := by
  pointwise
end Shifted

theorem fillr (Z : S1x3584.Idx → EReal) (r : Rect S1x3584) (inb : ∀ a, (![0, 0] : Fin 2 → ℕ) a + (![1, 3584] : Fin 2 → ℕ) a ≤ S1x3584.size a) :
    (View.whole cc0_scratch1).readCov (Val := Elt Ideal) [⟨Rect.unit ![0, 0] ![1, 3584] inb, Z⟩] r.toLoadRect = View.ld (Val := Elt Ideal) (e' := .f32) Z r := by
  funext y
  rw [View.readCov_eq_canon']
  refine (canon_hit (s := S1x3584) (e := .f32) (Val := Elt Ideal) inb Z [] (r.toLoadRect.idx y) (r.toLoadRect.idx y) (fun a => ?_)).trans rfl
  match a with
  | 0 => exact (Nat.zero_add _).symm
  | 1 => exact (Nat.zero_add _).symm

theorem sum128 (f : Fin 128 → EReal) : ∑ k, f k = ∑ k : Fin 64, f ⟨k, by omega⟩ + ∑ k : Fin 64, f ⟨64 + k, by omega⟩ :=
  Fin.sum_univ_add (a := 64) (b := 64) f
theorem sum256 (f : Fin 256 → EReal) : ∑ k, f k = ∑ k : Fin 160, f ⟨k, by omega⟩ + ∑ k : Fin 96, f ⟨160 + k, by omega⟩ :=
  Fin.sum_univ_add (a := 160) (b := 96) f

theorem at2 {a b : ℕ} {X : Sort*} (f : (Shape.Idx ⟨2, ![a, b]⟩) → X) (r : Fin a) {j j' : Fin b} (h : j.val = j'.val) : f (ix2 r j) = f (ix2 r j') := by rw [Fin.ext h]

namespace Holds
variable {A : Args} {S0 : S16x16x64x64.Idx → EReal} {n : Fin 16} {B : Blks} (H : Holds A S0 n B)
include H

theorem y6_at (j : Fin 512) (hj : 3072 + j.val < 3360) : B.y6 (ix2 0 j) = A.A2 (ix3 n 0 ⟨3072 + j, hj⟩) := by
  unfold Blks.y6 Blks.r0
  rw [fillr, rd512, H.h8 _ hj]
theorem y4_at (j : Fin 1024) : B.y4 (ix2 0 j) = A.A2 (ix3 n 0 ⟨1024 + j, by omega⟩) := by
  unfold Blks.y4 Blks.r0 Blks.r6
  rw [View.readCov_skip _ _ _ _ _ (by decide), fillr, rd1024 _ 1024 (by omega), H.h8 _ (by show 1024 + j.val < 3360; omega)]
theorem y3_at (j : Fin 1024) : B.y3 (ix2 0 j) = A.A2 (ix3 n 0 ⟨j, by omega⟩) := by
  unfold Blks.y3 Blks.r0 Blks.r6 Blks.r4
  rw [View.readCov_skip _ _ _ _ _ (by decide), View.readCov_skip _ _ _ _ _ (by decide), fillr, rd1024 _ 0 (by omega), H.h8 _ (by show 0 + j.val < 3360; omega)]
  exact congrArg _ (ix3_lane _ _ (Nat.zero_add _))
theorem y5_at (j : Fin 1024) : B.y5 (ix2 0 j) = A.A2 (ix3 n 0 ⟨2048 + j, by omega⟩) := by
  unfold Blks.y5 Blks.r0 Blks.r6 Blks.r4 Blks.r3
  rw [View.readCov_skip _ _ _ _ _ (by decide), View.readCov_skip _ _ _ _ _ (by decide), View.readCov_skip _ _ _ _ _ (by decide), fillr, rd1024 _ 2048 (by omega), H.h8 _ (by show 2048 + j.val < 3360; omega)]
theorem mu6_at (j : Fin 512) (hj : 3072 + j.val < 3360) : B.mu6 (ix2 0 j) = A.A5 (ix1 ⟨3072 + j, hj⟩) := by
  unfold Blks.mu6
  rw [rm512, H.h11 _ hj]
theorem mu4_at (j : Fin 1024) : B.mu4 (ix2 0 j) = A.A5 (ix1 ⟨1024 + j, by omega⟩) := by
  unfold Blks.mu4
  rw [rm1024 _ 1024 (by omega), H.h11 _ (by show 1024 + j.val < 3360; omega)]
theorem mu3_at (j : Fin 1024) : B.mu3 (ix2 0 j) = A.A5 (ix1 ⟨j, by omega⟩) := by
  unfold Blks.mu3
  rw [rm1024 _ 0 (by omega), H.h11 _ (by show 0 + j.val < 3360; omega)]
  exact congrArg (fun q => A.A5 (ix1 q)) (Fin.ext (Nat.zero_add _))
theorem mu5_at (j : Fin 1024) : B.mu5 (ix2 0 j) = A.A5 (ix1 ⟨2048 + j, by omega⟩) := by
  unfold Blks.mu5
  rw [rm1024 _ 2048 (by omega), H.h11 _ (by show 2048 + j.val < 3360; omega)]

variable (t : Fin 64) (j : Fin 1024)

theorem rcp_at : B.rcp (ix2 t j) = A.rx n t j := by
  unfold Blks.rcp
  rw [pay67_at]
  exact sh_of A n t j (by omega) (fun r => B.x3 (ix3 0 r j)) _ _ (fun r => H.h3 r j) (H.y3_at j) (H.mu3_at j)
theorem key_at : B.key (ix2 t j) = A.kx n t j := by
  unfold Blks.key
  rw [pay59_at]
  exact sh_of A n t (1024 + j) (by omega) (fun r => B.x4 (ix3 0 r j)) _ _ (fun r => (H.h4 r j).trans (congrArg _ (ix3_lane _ _ (show 4096 + j.val = 3072 + (1024 + j.val) by omega)))) (H.y4_at j) (H.mu4_at j)
theorem val_at : B.val (ix2 t j) = A.vx n t j := by
  unfold Blks.val
  rw [pay72_at]
  exact sh_of A n t (2048 + j) (by omega) (fun r => B.x5 (ix3 0 r j)) _ _ (fun r => (H.h5 r j).trans (congrArg _ (ix3_lane _ _ (show 5120 + j.val = 3072 + (2048 + j.val) by omega)))) (H.y5_at j) (H.mu5_at j)
theorem sh6_at (k : Fin 512) (hk : 3072 + k.val < 3360) : k0_pay51 (F := Ideal) B.x6 B.y6 B.mu6 (ix2 t k) = A.sh n t (3072 + k) hk := by
  rw [pay51_at]
  exact sh_of A n t (3072 + k) hk (fun r => B.x6 (ix3 0 r k)) _ _ (fun r => (H.h6 r k).trans (congrArg _ (ix3_lane _ _ (show 6144 + k.val = 3072 + (3072 + k.val) by omega)))) (H.y6_at k hk) (H.mu6_at k hk)

theorem wx_at : k0_pay54 (F := Ideal) B.x6 B.y6 B.mu6 B.x12 B.x13 (ix2 t j) = A.wx n t j := by
  rw [pay54_at, sum128, H.h12]
  unfold Args.wx
  congr 1
  have z : ∑ k : Fin 64, Ideal.tanh (k0_pay53 (F := Ideal) B.x6 B.y6 B.mu6 (ix2 t ⟨64 + k, by omega⟩)) * B.x13 (ix2 ⟨64 + k, by omega⟩ j) = 0 := by
    refine Finset.sum_eq_zero fun k _ => ?_
    rw [H.h13, dif_neg (by show ¬ 64 + k.val < 64; omega), mul_zero (M₀ := EReal)]
  rw [z, add_zero]
  refine Finset.sum_congr rfl fun k _ => ?_
  rw [H.h13, dif_pos k.isLt, pay53_at, H.sh6_at t ⟨0 + k.val, by omega⟩ (by show 3072 + (0 + k.val) < 3360; omega)]
  simp only [zero_add]

theorem aa_at : B.stp (ix2 t j) = A.aa n t j := by
  unfold Blks.stp
  rw [pay55_at, sum128, H.h14]
  have z : ∑ k : Fin 64, k0_pay53 (F := Ideal) B.x6 B.y6 B.mu6 (ix2 t ⟨k, by omega⟩) * B.x15 (ix2 ⟨k, by omega⟩ j) = 0 := by
    refine Finset.sum_eq_zero fun k _ => ?_
    rw [H.h15, dif_neg (by show ¬ 64 ≤ k.val; omega), mul_zero (M₀ := EReal)]
  rw [z, zero_add]
  unfold Args.aa Args.ax Ideal.logistic
  have e : ∑ k : Fin 64, k0_pay53 (F := Ideal) B.x6 B.y6 B.mu6 (ix2 t ⟨64 + k, by omega⟩) * B.x15 (ix2 ⟨64 + k, by omega⟩ j) = ∑ x : Fin 64, A.sh n t (3136 + x) (by omega) * A.A9 (ix2 x j) := by
    refine Finset.sum_congr rfl fun k _ => ?_
    rw [H.h15, dif_pos (by show 64 ≤ 64 + k.val; omega), pay53_at, H.sh6_at t ⟨0 + (64 + k.val), by omega⟩ (by show 3072 + (0 + (64 + k.val)) < 3360; omega)]
    have e1 : (3072 + (0 + (64 + k.val))) = 3136 + k.val := by omega
    have e2 : (⟨64 + k.val - 64, by omega⟩ : Fin 64) = k := Fin.ext (by show 64 + k.val - 64 = k.val; omega)
    simp only [e1, e2]
  rw [e]

theorem ga_at : B.aGa (ix2 t j) = A.ga n t j := by
  unfold Blks.aGa
  rw [pay56_at, sum256]
  have z : ∑ k : Fin 96, Ideal.logistic (k0_pay51 (F := Ideal) B.x6 B.y6 B.mu6 (ix2 t ⟨128 + (160 + k.val), by omega⟩)) * B.x16 (ix2 ⟨160 + k, by omega⟩ j) = 0 := by
    refine Finset.sum_eq_zero fun k _ => ?_
    rw [H.h16, dif_neg (by show ¬ 160 + k.val < 160; omega), mul_zero (M₀ := EReal)]
  rw [z, add_zero]
  unfold Args.ga
  refine Finset.sum_congr rfl fun k _ => ?_
  rw [H.h16, dif_pos k.isLt, H.sh6_at t ⟨128 + k.val, by omega⟩ (by show 3072 + (128 + k.val) < 3360; omega)]
  have e1 : (3072 + (128 + k.val)) = 3200 + k.val := by omega
  simp only [e1]
  rfl

theorem lw_at : B.aLw (ix2 t j) = A.ld n t j := by
  unfold Blks.aLw
  rw [pay57_at, H.wx_at]
  rfl

theorem bd_at (h : Fin 4) (d : Fin 64) (h' : Fin 4) (d' : Fin 64) : B.bd (ix2 (lane h d) (lane h' d')) = if h = h' then 1 else 0 := by
  unfold Blks.bd
  rw [pay37_at, H.h22]

theorem nrm_at (h : Fin 16) (d : Fin 64) : B.nrm (ix2 t (col h d)) = A.kn n t h d := by
  have e (j : Fin 1024) : moved B.x4 B.y4 B.mu4 t j = A.kx n t j := by
    rw [← pay59_at]; exact H.key_at t j
  unfold Blks.nrm
  rw [pay61_at _ H.bd_at]
  simp only [e, H.h17]
  rfl
theorem kn_at (h : Fin 16) (d : Fin 64) : B.aKn (ix2 t (col h d)) = A.kn n t h d := by
  unfold Blks.aKn
  rw [pay62_at, H.nrm_at]
theorem r_at : B.aR (ix2 t j) = A.rx n t j := by
  unfold Blks.aR
  rw [pay69_at, H.rcp_at]
theorem v_at : B.aV (ix2 t j) = A.vx n t j := by
  unfold Blks.aV
  rw [pay74_at, H.val_at]
theorem b_at (h : Fin 16) (d : Fin 64) : B.aB (ix2 t (col h d)) = A.kn n t h d * A.aa n t (col h d) := by
  unfold Blks.aB
  rw [pay63_at, H.nrm_at, H.aa_at]
theorem k_at : B.aK (ix2 t j) = A.ky n t j := by
  unfold Blks.aK
  rw [pay65_at, H.key_at, H.aa_at, H.h18]
  rfl
theorem bo_at (h : Fin 16) (d : Fin 64) : B.aBo (ix2 t (col h d)) = A.bo n t h d := by
  have e (j : Fin 1024) : k0_pay64 (F := Ideal) B.stp B.key B.x18 (ix2 t j) = A.ky n t j := by
    rw [pay64_at, H.key_at, H.aa_at, H.h18]
    rfl
  unfold Blks.aBo
  rw [pay75_at, pay70_at _ H.bd_at, H.val_at]
  simp only [e, H.rcp_at, H.h19]
  rfl

end Holds

variable (m : (ℓ : Loc nD τ sig) → Buf (Elt Ideal) ℓ) (c : Dev nD)

/-- The layer's arguments as the memory holds them. -/
def args : Args where
  A0 := m ((c : Thread nD τ).loc main_arg0)
  A2 := m ((c : Thread nD τ).loc main_arg2)
  A5 := m ((c : Thread nD τ).loc main_arg5)
  A6 := m ((c : Thread nD τ).loc main_arg6)
  A7 := m ((c : Thread nD τ).loc main_arg7)
  A8 := m ((c : Thread nD τ).loc main_arg8)
  A9 := m ((c : Thread nD τ).loc main_arg9)
  A10 := m ((c : Thread nD τ).loc main_arg10)
  A11 := m ((c : Thread nD τ).loc main_arg11)
  A12 := m ((c : Thread nD τ).loc main_arg12)
  A13 := m ((c : Thread nD τ).loc main_arg13)
  A14 := m ((c : Thread nD τ).loc main_arg14)
  A15 := m ((c : Thread nD τ).loc main_arg15)

/-- The carried states. -/
abbrev arg3 : S16x16x64x64.Idx → EReal := m ((c : Thread nD τ).loc main_arg3)

theorem holds (t : Fin cfg0.N) : Holds (args m c) (arg3 m c) (bt t) (blks m c t) := by
  constructor <;> dsimp only [blks, args]
  · exact blk3 m c t
  · exact blk4 m c t
  · exact blk5 m c t
  · exact blk6 m c t
  · exact blk8 m c t
  · exact blk9 m c t
  · exact blk11 m c t
  · exact blk12 m c t
  · exact blk13 m c t
  · exact blk14 m c t
  · exact blk15 m c t
  · exact blk16 m c t
  · exact blk17 m c t
  · exact blk18 m c t
  · exact fun h d => (congrArg (fun q => iblk m c 19 t (ix2 0 q)) (Fin.ext (by show h.val * 64 + d.val = 64 * h.val + d.val; omega))).trans (blk19 m c t h d)
  · exact blk20 m c t
  · exact blk21 m c t
  · exact fun h d h' d' => (blk22 m c t _ _).trans (bdm_at h d h' d')

end Cert.Mixer
-- ==== Proof.Mix.Fine.lean ====
/-
  Where the arguments are numbers, so are the layer's quantities.
-/
module

public import proofs.«01_k».proof.Proof.Mix.Prep
public import proofs.«01_k».proof.Proof.Mix.Group

@[expose] public section

noncomputable section

open Idealize.ShloMosaic Idealize.ShloMosaic.TcCoe

namespace Cert.Mixer

/-- A number. -/
def Fine (x : EReal) : Prop := ∃ r : ℝ, x = ↑r

namespace Fine
variable {x y : EReal}

theorem coe (r : ℝ) : Fine (r : EReal) := ⟨r, rfl⟩
theorem zero : Fine 0 := ⟨0, rfl⟩
theorem one : Fine 1 := ⟨1, rfl⟩
theorem add : Fine x → Fine y → Fine (x + y) := by
  rintro ⟨a, rfl⟩ ⟨b, rfl⟩; exact ⟨a + b, (EReal.coe_add a b).symm⟩
theorem sub : Fine x → Fine y → Fine (x - y) := by
  rintro ⟨a, rfl⟩ ⟨b, rfl⟩; exact ⟨a - b, (EReal.coe_sub a b).symm⟩
theorem mul : Fine x → Fine y → Fine (x * y) := by
  rintro ⟨a, rfl⟩ ⟨b, rfl⟩; exact ⟨a * b, (EReal.coe_mul a b).symm⟩
theorem neg : Fine x → Fine (-x) := by
  rintro ⟨a, rfl⟩; exact ⟨-a, (EReal.coe_neg a).symm⟩
theorem exp : Fine x → Fine (Ideal.exp x) := by
  rintro ⟨a, rfl⟩; exact ⟨_, Ideal.exp_coe a⟩
theorem tanh : Fine x → Fine (Ideal.tanh x) := by
  rintro ⟨a, rfl⟩; exact ⟨_, Ideal.tanh_coe a⟩
theorem max : Fine x → Fine y → Fine (max x y) := fun hx hy => by
  rcases max_choice x y with h | h <;> rw [h] <;> assumption
theorem abs : Fine x → Fine (FloatOps.absf (F := Ideal) (φ := .f32) x) := fun hx => hx.max hx.neg
theorem sum {ι : Type} [Fintype ι] {f : ι → EReal} (h : ∀ i, Fine (f i)) : Fine (∑ i, f i) := by
  choose g hg using h
  exact ⟨∑ i, g i, by simp only [hg]; exact (coe_sum _ g).symm⟩
theorem half : Fine (Ideal.ofBits FTy.f32 1056964608#32) := ⟨1 / 2, by
  simp [Ideal.ofBits, Ideal.ieee, -EReal.coe_mul]; norm_num⟩
theorem log1p_exp : Fine x → Fine (Ideal.log1p (Ideal.exp x)) := by
  rintro ⟨a, rfl⟩
  have h : ¬ (1 + Real.exp a ≤ 0) := by have := Real.exp_pos a; intro h; linarith
  refine ⟨Real.log (1 + Real.exp a), ?_⟩
  have e : Ideal.log1p (Ideal.exp a) = Ideal.log ((1 + Real.exp a : ℝ) : EReal) := by
    rw [Ideal.exp_coe, EReal.coe_add]; rfl
  rw [e, Ideal.log_coe, if_neg h]
theorem logistic : Fine x → Fine (Ideal.div 1 (1 + Ideal.exp (-x))) := by
  rintro ⟨a, rfl⟩
  exact ⟨_, Ideal.logistic_coe a⟩

/-- A number over a length that is kept away from zero. -/
theorem over {ι : Type} [Fintype ι] {f : ι → EReal} (h : ∀ i, Fine (f i)) (i : ι) :
    Fine (Ideal.div (f i) (Max.max (Ideal.sqrt (∑ e, f e * f e)) (Ideal.ofBits FTy.f32 730643660#32))) := by
  obtain ⟨c, hc, hb⟩ : ∃ c : ℝ, 0 < c ∧ Ideal.ofBits FTy.f32 730643660#32 = c := by
    refine ⟨9223372 / 2 ^ 63, by norm_num, ?_⟩
    simp [Ideal.ofBits, Ideal.ieee, -EReal.coe_mul]; norm_num
  choose g hg using h
  have hs : ∑ e, f e * f e = ((∑ e, g e * g e : ℝ) : EReal) := by
    simp only [hg, ← EReal.coe_mul]; exact (coe_sum _ _).symm
  have hn : ¬ (∑ e, g e * g e < 0) := not_lt.mpr (Finset.sum_nonneg fun e _ => mul_self_nonneg _)
  rw [hs, Ideal.sqrt_coe, if_neg hn, hb, hg i, ← EReal.coe_strictMono.monotone.map_max]
  have hp : Max.max (Real.sqrt (∑ e, g e * g e)) c ≠ 0 := (lt_of_lt_of_le hc (le_max_right _ _)).ne'
  rw [Ideal.div_coe hp]
  exact (coe _).mul (coe _)
end Fine

/-- The arguments that enter the recurrence are numbers. -/
structure Args.Num (A : Args) : Prop where
  n0 : ∀ n t (j : Fin 6656), 3072 ≤ j.val → j.val < 6272 → Fine (A.A0 (ix3 n t j))
  n2 : ∀ n (j : Fin 3360), j.val < 3200 → Fine (A.A2 (ix3 n 0 j))
  n5 : ∀ j : Fin 3360, j.val < 3200 → Fine (A.A5 (ix1 j))
  n6 : ∀ j, Fine (A.A6 (ix1 j))
  n7 : ∀ i j, Fine (A.A7 (ix2 i j))
  n8 : ∀ j, Fine (A.A8 (ix1 j))
  n9 : ∀ i j, Fine (A.A9 (ix2 i j))
  n11 : ∀ j, Fine (A.A11 (ix1 j))
  n12 : ∀ j, Fine (A.A12 (ix1 j))

namespace Args.Num
variable {A : Args} (N : A.Num) (n : Fin 16) (t : Fin 64)
include N

theorem sh (j : ℕ) (hj : j < 3200) : Fine (A.sh n t j (by omega)) := by
  unfold Args.sh
  refine (N.n0 _ _ _ (by show 3072 ≤ 3072 + j; omega) (by show 3072 + j < 6272; omega)).add
    (Fine.mul (Fine.sub ?_ (N.n0 _ _ _ (by show 3072 ≤ 3072 + j; omega) (by show 3072 + j < 6272; omega))) (N.n5 _ hj))
  split
  · next h =>
    have e : (⟨t, h⟩ : Fin 1) = 0 := Subsingleton.elim _ _
    rw [e]; exact N.n2 _ _ hj
  · exact N.n0 _ _ _ (by show 3072 ≤ 3072 + j; omega) (by show 3072 + j < 6272; omega)

theorem rx (j : Fin 1024) : Fine (A.rx n t j) := N.sh n t _ (by omega)
theorem kx (j : Fin 1024) : Fine (A.kx n t j) := N.sh n t _ (by omega)
theorem vx (j : Fin 1024) : Fine (A.vx n t j) := N.sh n t _ (by omega)
theorem wx (j : Fin 1024) : Fine (A.wx n t j) :=
  (N.n6 j).add (Fine.sum fun x => (N.sh n t _ (by omega)).tanh.mul (N.n7 x j))
theorem ax (j : Fin 1024) : Fine (A.ax n t j) := (N.n8 j).add (Fine.sum fun x => (N.sh n t _ (by omega)).mul (N.n9 x j))
theorem aa (j : Fin 1024) : Fine (A.aa n t j) := (N.ax n t j).logistic
theorem ld (j : Fin 1024) : Fine (A.ld n t j) :=
  ((((N.wx n t j).neg.max Fine.zero).add (N.wx n t j).neg.abs.neg.log1p_exp).neg.sub Fine.half).exp.neg
theorem kd (j : Fin 1024) : Fine (A.kd n t j) := (N.kx n t j).mul (N.n11 j)
theorem kn (h : Fin 16) (d : Fin 64) : Fine (A.kn n t h d) := Fine.over (fun e => N.kd n t (col h e)) d
theorem ky (j : Fin 1024) : Fine (A.ky n t j) := (N.kx n t j).mul (Fine.one.add (((N.aa n t j).sub Fine.one).mul (N.n12 j)))
theorem kb (h : Fin 16) (d : Fin 64) : Fine (A.kn n t h d * A.aa n t (col h d)) := (N.kn n t h d).mul (N.aa n t _)
end Args.Num

/-- A quantity's numbers, row by row. -/
def nums (f : Fin 64 → Fin 64 → EReal) : ℕ → Fin 64 → ℝ := fun t d => (f ⟨t % 64, Nat.mod_lt _ (by decide)⟩ d).toReal

theorem nums_coe {f : Fin 64 → Fin 64 → EReal} (h : ∀ t d, Fine (f t d)) (t d : Fin 64) : ((nums f t d : ℝ) : EReal) = f t d := by
  obtain ⟨r, hr⟩ := h t d
  have e : (⟨(t : ℕ) % 64, Nat.mod_lt _ (by decide)⟩ : Fin 64) = t := Fin.ext (Nat.mod_eq_of_lt t.isLt)
  show (((f ⟨(t : ℕ) % 64, _⟩ d).toReal : ℝ) : EReal) = f t d
  rw [e, hr]; rfl

namespace Args
variable (A : Args) (n : Fin 16) (h : Fin 16)
/-- The log decays of one head of one sequence, as numbers; likewise the keys, the values, the normalised keys, what is
taken away along them, and the readings. -/
def LW := nums fun t d => A.ld n t (col h d)
def KK := nums fun t d => A.ky n t (col h d)
def VV := nums fun t d => A.vx n t (col h d)
def NN := nums fun t d => A.kn n t h d
def BB := nums fun t d => A.kn n t h d * A.aa n t (col h d)
def RR := nums fun t d => A.rx n t (col h d)
end Args

namespace Args.Num
variable {A : Args} (N : A.Num) (n h : Fin 16) (t d : Fin 64)
include N
theorem LW : A.ld n t (col h d) = (A.LW n h t d : ℝ) := (nums_coe (fun t d => N.ld n t (col h d)) t d).symm
theorem KK : A.ky n t (col h d) = (A.KK n h t d : ℝ) := (nums_coe (fun t d => N.ky n t (col h d)) t d).symm
theorem VV : A.vx n t (col h d) = (A.VV n h t d : ℝ) := (nums_coe (fun t d => N.vx n t (col h d)) t d).symm
theorem NN : A.kn n t h d = (A.NN n h t d : ℝ) := (nums_coe (fun t d => N.kn n t h d) t d).symm
theorem BB : A.kn n t h d * A.aa n t (col h d) = (A.BB n h t d : ℝ) := (nums_coe (fun t d => N.kb n t h d) t d).symm
theorem RR : A.rx n t (col h d) = (A.RR n h t d : ℝ) := (nums_coe (fun t d => N.rx n t (col h d)) t d).symm
end Args.Num

end Cert.Mixer

end
-- ==== Proof.Mix.Scan.lean ====
/-
  The reference's recurrence: after so many trips the state is the recurrence's, and each earlier row holds its reading.
-/
module

public import proofs.«01_k».proof.Proof.Mix.Fine
public import proofs.«01_k».proof.Proof.Mix.Wkv
public import Idealize.ShloMosaic.Lib.WordCmp
public import Idealize.ShloMosaic.Lib.DynamicIndex

@[expose] public section

set_option maxRecDepth 16384

noncomputable section

open Idealize.ShloMosaic Idealize.ShloMosaic.TcCoe Idealize.SL.Sem

namespace Cert.Mixer

open Cert.ReferenceIdeal Cert.ReferenceIdeal.Gen Cert.ReferenceIdeal.Step

section
variable (x : S64x16x16x64.Idx → EReal) (a : BitVec 32) (j : ℕ) (hj : j < 64) (ha : a.toInt = j)
include hj ha

theorem slab_at (hs : _) (n h : Fin 16) (d : Fin 64) : Host.dynamicSlice (α := EReal) S1x16x16x64 x (fun k => ((![constantI S_ 32 a, constantI S_ 32 0#32, constantI S_ 32 0#32, constantI S_ 32 0#32] : Fin 4 → IVec S_ 32) k (Shape.Idx.first h_S_)).toInt) hs (ix4 0 n h d)
    = x (ix4 ⟨j, hj⟩ n h d) := by
  have ha' : (constantI S_ 32 a (Shape.Idx.first h_S_)).toInt = (j : ℤ) := ha
  refine congrArg x (funext fun k => ?_)
  fin_cases k <;> apply Fin.ext <;> simp [Host.dynamicSlice, ix4] <;> omega

theorem put_at (u : S1x16x16x64.Idx → EReal) (hs : _) (t : Fin 64) (n h : Fin 16) (d : Fin 64) :
    Host.dynamicUpdateSlice (α := EReal) x u (fun k => ((![constantI S_ 32 a, constantI S_ 32 0#32, constantI S_ 32 0#32, constantI S_ 32 0#32] : Fin 4 → IVec S_ 32) k (Shape.Idx.first h_S_)).toInt) hs (ix4 t n h d)
      = if t.val = j then u (ix4 0 n h d) else x (ix4 t n h d) := by
  have ha' : (constantI S_ 32 a (Shape.Idx.first h_S_)).toInt = (j : ℤ) := ha
  have hk : S64x16x16x64.Slices (![j, 0, 0, 0] : Fin 4 → ℕ) S1x16x16x64 := ⟨rfl, fun b => by fin_cases b <;> simp <;> omega⟩
  rw [WordCmp.dynamicUpdateSlice_eq_update x u _ hs ![j, 0, 0, 0] hk (fun b => by fin_cases b <;> simp [ha, constantI])]
  unfold updateSlice
  by_cases e : t.val = j
  · rw [if_pos e, dif_pos (fun b => by fin_cases b <;> simp [ix4] <;> omega)]
    refine congrArg u (funext fun b => ?_)
    fin_cases b <;> apply Fin.ext <;> simp [ix4] <;> omega
  · rw [if_neg e, dif_neg]
    intro hin
    have := hin 0
    simp [ix4] at this
    omega
end

section Trip
variable (s : State Ideal) (j : ℕ) (hj : j < 64) (n h : Fin 16) (i d : Fin 64)
include hj

theorem num_lt : (BitVec.ofNat 32 j).toInt = (j : ℤ) := toInt_ofNat_of_lt (by omega)

theorem b4_at : (b4 (F := Ideal) j s (ix3 n h d) : EReal) = s.main_v69_0 (ix4 ⟨j, hj⟩ n h d) :=
  (by unfold b4; pointwise : (b4 (F := Ideal) j s (ix3 n h d) : EReal) = b3 j s (ix4 0 n h d)).trans
    (slab_at _ _ j hj (num_lt j hj) _ n h d)
theorem b9_at : (b9 (F := Ideal) j s (ix3 n h d) : EReal) = s.main_v69_1 (ix4 ⟨j, hj⟩ n h d) :=
  (by unfold b9; pointwise : (b9 (F := Ideal) j s (ix3 n h d) : EReal) = b8 j s (ix4 0 n h d)).trans
    (slab_at _ _ j hj (num_lt j hj) _ n h d)
theorem b14_at : (b14 (F := Ideal) j s (ix3 n h d) : EReal) = s.main_v69_2 (ix4 ⟨j, hj⟩ n h d) :=
  (by unfold b14; pointwise : (b14 (F := Ideal) j s (ix3 n h d) : EReal) = b13 j s (ix4 0 n h d)).trans
    (slab_at _ _ j hj (num_lt j hj) _ n h d)
theorem b19_at : (b19 (F := Ideal) j s (ix3 n h d) : EReal) = s.main_v69_3 (ix4 ⟨j, hj⟩ n h d) :=
  (by unfold b19; pointwise : (b19 (F := Ideal) j s (ix3 n h d) : EReal) = b18 j s (ix4 0 n h d)).trans
    (slab_at _ _ j hj (num_lt j hj) _ n h d)
theorem b24_at : (b24 (F := Ideal) j s (ix3 n h d) : EReal) = s.main_v69_4 (ix4 ⟨j, hj⟩ n h d) :=
  (by unfold b24; pointwise : (b24 (F := Ideal) j s (ix3 n h d) : EReal) = b23 j s (ix4 0 n h d)).trans
    (slab_at _ _ j hj (num_lt j hj) _ n h d)
theorem b29_at : (b29 (F := Ideal) j s (ix3 n h d) : EReal) = s.main_v69_5 (ix4 ⟨j, hj⟩ n h d) :=
  (by unfold b29; pointwise : (b29 (F := Ideal) j s (ix3 n h d) : EReal) = b28 j s (ix4 0 n h d)).trans
    (slab_at _ _ j hj (num_lt j hj) _ n h d)

omit hj in
theorem b46_raw : (b46 (F := Ideal) j s (ix4 n h i d) : EReal) = (s.main_v69_7 (ix4 n h i d) : EReal) * b9 (F := Ideal) j s (ix3 n h d)
    - (∑ l : Fin 64, (s.main_v69_7 (ix4 n h i l) : EReal) * b24 (F := Ideal) j s (ix3 n h l)) * (b24 (F := Ideal) j s (ix3 n h d) * b29 (F := Ideal) j s (ix3 n h d))
    + b19 (F := Ideal) j s (ix3 n h i) * b14 (F := Ideal) j s (ix3 n h d) := by
  unfold b46 b45 b44 b43 b42 b41 b40 b39 b38 b37 b36 b35 b34 b33 b32 b31 b30
  generalize b9 j s = x9
  generalize b24 j s = x24
  generalize b29 j s = x29
  generalize b19 j s = x19
  generalize b14 j s = x14
  generalize s.main_v69_7 = x7
  pointwise

omit hj in
theorem b48_raw : (b48 (F := Ideal) j s (ix4 0 n h i) : EReal) = ∑ l : Fin 64, (b46 (F := Ideal) j s (ix4 n h i l) : EReal) * b4 (F := Ideal) j s (ix3 n h l) := by
  unfold b48 b47
  generalize b46 j s = x
  generalize b4 j s = y
  pointwise
end Trip

/-- The loop's arrays hold the layer's quantities. -/
structure Loaded (A : Args) (s : State Ideal) : Prop where
  f0 : ∀ t n h d, (s.main_v69_0 (ix4 t n h d) : EReal) = A.rx n t (col h d)
  f1 : ∀ t n h d, (s.main_v69_1 (ix4 t n h d) : EReal) = Ideal.exp (A.ld n t (col h d))
  f2 : ∀ t n h d, (s.main_v69_2 (ix4 t n h d) : EReal) = A.ky n t (col h d)
  f3 : ∀ t n h d, (s.main_v69_3 (ix4 t n h d) : EReal) = A.vx n t (col h d)
  f4 : ∀ t n h d, (s.main_v69_4 (ix4 t n h d) : EReal) = A.kn n t h d
  f5 : ∀ t n h d, (s.main_v69_5 (ix4 t n h d) : EReal) = A.aa n t (col h d)

theorem loaded_init (A : Args) (S0 : S16x16x64x64.Idx → EReal) :
    Loaded A (Step.init (F := Ideal) S0 A.A0 A.A2 A.A5 A.A6 A.A7 A.A8 A.A9 A.A11 A.A12) where
  f0 t n h d := ref_r A n t h d
  f1 t n h d := ref_w A n t h d
  f2 t n h d := ref_k A n t h d
  f3 t n h d := ref_v A n t h d
  f4 t n h d := ref_kn A n t h d
  f5 t n h d := ref_a A n t h d

theorem Loaded.step {A : Args} {s : State Ideal} (L : Loaded A s) (j : ℕ) : Loaded A (Step.step j s) := by
  unfold Step.step
  exact ⟨L.f0, L.f1, L.f2, L.f3, L.f4, L.f5⟩

namespace Args
variable (A : Args) (S0 : S16x16x64x64.Idx → EReal) (n h : Fin 16)
/-- The state a sequence's head begins with, as numbers. -/
def Z0 : Fin 64 → Fin 64 → ℝ := fun i j => (S0 (ix4 n h i j)).toReal
/-- The state of one head of one sequence after so many rows. -/
def St : ℕ → Fin 64 → Fin 64 → ℝ := Wkv.S (A.LW n h) (A.KK n h) (A.VV n h) (A.NN n h) (A.BB n h) (Z0 S0 n h)
/-- What a row reads of the state after it. -/
def Yt (t i : Fin 64) : ℝ := ∑ j, A.St S0 n h (t + 1) i j * A.RR n h t j
end Args

section
variable {A : Args} (N : A.Num) {S0 : S16x16x64x64.Idx → EReal}
include N

theorem trip {s : State Ideal} (L : Loaded A s) (j : ℕ) (hj : j < 64) (n h : Fin 16)
    (hs : ∀ i d, (s.main_v69_7 (ix4 n h i d) : EReal) = (A.St S0 n h j i d : ℝ)) (i d : Fin 64) :
    (b46 (F := Ideal) j s (ix4 n h i d) : EReal) = (A.St S0 n h (j + 1) i d : ℝ) := by
  have e1 : ∀ l, (A.NN n h j l : ℝ) = A.kn n ⟨j, hj⟩ h l := fun l => (N.NN n h ⟨j, hj⟩ l).symm
  rw [b46_raw, b9_at s j hj, b14_at s j hj, b19_at s j hj, b24_at s j hj, b29_at s j hj, L.f1, L.f2, L.f3, L.f4, L.f5]
  have e2 : (∑ l : Fin 64, (s.main_v69_7 (ix4 n h i l) : EReal) * b24 (F := Ideal) j s (ix3 n h l))
      = ((∑ l, A.St S0 n h j i l * A.NN n h j l : ℝ) : EReal) := by
    rw [coe_sum]
    exact Finset.sum_congr rfl fun l _ => by
      rw [hs, b24_at s j hj, L.f4, EReal.coe_mul]; exact congrArg _ (N.NN n h ⟨j, hj⟩ l)
  rw [e2, hs, N.BB, N.VV, N.KK, N.LW, Ideal.exp_coe, ← EReal.coe_mul, ← EReal.coe_mul, ← EReal.coe_mul, ← EReal.coe_sub, ← EReal.coe_add]
  rfl

theorem read {s : State Ideal} (L : Loaded A s) (j : ℕ) (hj : j < 64) (n h : Fin 16)
    (hs : ∀ i d, (s.main_v69_7 (ix4 n h i d) : EReal) = (A.St S0 n h j i d : ℝ)) (i : Fin 64) :
    (b48 (F := Ideal) j s (ix4 0 n h i) : EReal) = (A.Yt S0 n h ⟨j, hj⟩ i : ℝ) := by
  rw [b48_raw]
  unfold Args.Yt
  rw [coe_sum]
  exact Finset.sum_congr rfl fun l _ => by
    rw [trip N L j hj n h hs, b4_at s j hj, L.f0, N.RR, EReal.coe_mul]

/-- After so many trips. -/
theorem trips (it : ℕ → State Ideal) (h0 : it 0 = Step.init (F := Ideal) S0 A.A0 A.A2 A.A5 A.A6 A.A7 A.A8 A.A9 A.A11 A.A12)
    (hstep : ∀ k, it (k + 1) = Step.step k (it k)) (hS : ∀ n h i j, Fine (S0 (ix4 n h i j))) (k : ℕ) (hk : k ≤ 64) :
    Loaded A (it k) ∧ (∀ n h i d, ((it k).main_v69_7 (ix4 n h i d) : EReal) = (A.St S0 n h k i d : ℝ))
      ∧ (∀ (t : Fin 64) n h i, t.val < k → ((it k).main_v69_8 (ix4 t n h i) : EReal) = (A.Yt S0 n h t i : ℝ)) := by
  induction k with
  | zero =>
    rw [h0]
    refine ⟨loaded_init A S0, fun n h i d => ?_, fun t n h i ht => absurd ht (by omega)⟩
    obtain ⟨r, hr⟩ := hS n h i d
    show S0 (ix4 n h i d) = (((S0 (ix4 n h i d)).toReal : ℝ) : EReal)
    rw [hr]; rfl
  | succ k ih =>
    obtain ⟨L, a, b⟩ := ih (by omega)
    rw [hstep]
    refine ⟨L.step k, fun n h i d => ?_, fun t n h i ht => ?_⟩
    · rw [step_main_v69_7]; exact trip N L k (by omega) n h (a n h) i d
    · rw [step_main_v69_8]
      refine (put_at _ _ k (by omega) (num_lt k (by omega)) _ _ t n h i).trans ?_
      split
      · next e =>
        have et : t = ⟨k, by omega⟩ := Fin.ext e
        rw [et]
        exact read N L k _ n h (a n h) i
      · next e => exact b t n h i (by omega)
end
end Cert.Mixer

end
-- ==== Proof.Mix.State.lean ====
/-
  The recurrent results of one grid step: each head's readings and last state are the recurrence's.
-/
module

public import proofs.«01_k».proof.Proof.Mix.Entry
public import proofs.«01_k».proof.Proof.Mix.Scan

@[expose] public section

set_option maxRecDepth 16384

noncomputable section

open Idealize.ShloMosaic Idealize.ShloMosaic.TcCoe Idealize.SL.Sem

namespace Cert.Mixer

open Cert.KernelIdeal Cert.KernelIdeal.Gen

theorem idx_cols {n : ℕ} (off : ℕ) (inb : ∀ a, (![0, off] : Fin 2 → ℕ) a + (![64, n] : Fin 2 → ℕ) a ≤ S64x1024.size a) (t : Fin 64) (y : Fin n) (z : Fin 1024)
    (hz : z.val = off + y.val) : (Rect.unit (s := S64x1024) ![0, off] ![64, n] inb).toLoadRect.idx (ix2 t y) = ix2 t z := by
  funext a
  apply Fin.ext
  match a with
  | 0 => show 0 + 1 * t.val = t.val; omega
  | 1 => show off + 1 * y.val = z.val; omega

theorem whole_at (inb : ∀ a, (![0, 0] : Fin 2 → ℕ) a + (![64, 1024] : Fin 2 → ℕ) a ≤ S64x1024.size a) (X : S64x1024.Idx → EReal) (t : Fin 64) (z : Fin 1024) :
    View.canon (s := S64x1024) (e := .f32) (Val := Elt Ideal) [⟨Rect.unit ![0, 0] ![64, 1024] inb, X⟩] (ix2 t z) = X (ix2 t z) :=
  canon_hit (s := S64x1024) (e := .f32) (Val := Elt Ideal) inb X [] (ix2 t z) (ix2 t z) (fun a => by
    match a with
    | 0 => exact (Nat.zero_add _).symm
    | 1 => exact (Nat.zero_add _).symm)

theorem col_lane (g h : Fin 4) (d : Fin 64) (off : ℕ) (ho : off = 256 * g.val) : (col (head g h) d).val = off + (lane h d).val := by
  show (4 * g.val + h.val) * 64 + d.val = off + (64 * h.val + d.val)
  omega

theorem hit2 {n off : ℕ} (inb : ∀ a, (![0, off] : Fin 2 → ℕ) a + (![64, n] : Fin 2 → ℕ) a ≤ S64x1024.size a)
    (P : (Rect.unit (s := S64x1024) ![0, off] ![64, n] inb).shape.Idx → EReal) (L : List Pl) (t : Fin 64) (y : Fin n) (z : Fin 1024) (hz : z.val = off + y.val) :
    View.canon (s := S64x1024) (e := .f32) (Val := Elt Ideal) (⟨Rect.unit ![0, off] ![64, n] inb, P⟩ :: L) (ix2 t z) = P (ix2 t y) :=
  canon_hit (s := S64x1024) (e := .f32) (Val := Elt Ideal) inb P L (ix2 t z) (ix2 t y) (fun a => by
    match a with
    | 0 => exact (Nat.zero_add _).symm
    | 1 => exact hz)

theorem miss2 {n off : ℕ} (inb : ∀ a, (![0, off] : Fin 2 → ℕ) a + (![64, n] : Fin 2 → ℕ) a ≤ S64x1024.size a)
    (P : (Rect.unit (s := S64x1024) ![0, off] ![64, n] inb).shape.Idx → EReal) (L : List Pl) (t : Fin 64) (z : Fin 1024) (hz : z.val < off) :
    View.canon (s := S64x1024) (e := .f32) (Val := Elt Ideal) (⟨Rect.unit ![0, off] ![64, n] inb, P⟩ :: L) (ix2 t z) = View.canon L (ix2 t z) :=
  canon_miss (s := S64x1024) (e := .f32) (Val := Elt Ideal) inb P L (ix2 t z) 1 (Or.inl hz)

abbrev Pq := View.Piece (Elt Ideal) S1x16x64x64 .f32

theorem hit4 {k : ℕ} (hk : k < 16) (inb : ∀ a, (![0, k, 0, 0] : Fin 4 → ℕ) a + (![1, 1, 64, 64] : Fin 4 → ℕ) a ≤ S1x16x64x64.size a)
    (P : (Rect.unit (s := S1x16x64x64) ![0, k, 0, 0] ![1, 1, 64, 64] inb).shape.Idx → EReal) (L : List Pq) (i j : Fin 64) :
    View.canon (s := S1x16x64x64) (e := .f32) (Val := Elt Ideal) (⟨Rect.unit ![0, k, 0, 0] ![1, 1, 64, 64] inb, P⟩ :: L) (ix4 0 ⟨k, hk⟩ i j) = P (ix4 0 0 i j) :=
  canon_hit (s := S1x16x64x64) (e := .f32) (Val := Elt Ideal) inb P L (ix4 0 ⟨k, hk⟩ i j) (ix4 0 0 i j) (fun a => by
    match a with
    | 0 => rfl
    | 1 => rfl
    | 2 => exact (Nat.zero_add _).symm
    | 3 => exact (Nat.zero_add _).symm)

theorem miss4 {k q : ℕ} (hk : k < 16) (hq : k < q) (inb : ∀ a, (![0, q, 0, 0] : Fin 4 → ℕ) a + (![1, 1, 64, 64] : Fin 4 → ℕ) a ≤ S1x16x64x64.size a)
    (P : (Rect.unit (s := S1x16x64x64) ![0, q, 0, 0] ![1, 1, 64, 64] inb).shape.Idx → EReal) (L : List Pq) (i j : Fin 64) :
    View.canon (s := S1x16x64x64) (e := .f32) (Val := Elt Ideal) (⟨Rect.unit ![0, q, 0, 0] ![1, 1, 64, 64] inb, P⟩ :: L) (ix4 0 ⟨k, hk⟩ i j) = View.canon L (ix4 0 ⟨k, hk⟩ i j) :=
  canon_miss (s := S1x16x64x64) (e := .f32) (Val := Elt Ideal) inb P L (ix4 0 ⟨k, hk⟩ i j) 1 (Or.inl hq)

theorem down_cast (y : S1x1x64x64.Idx → EReal) (i j : Fin 64) :
    shapeCast S64x64 (shapeCast S64x64 y shapeCasts_S1x1x64x64_S64x64) shapeCasts_S64x64_S64x64 (ix2 i j) = y (ix4 0 0 i j) := by
  pointwise

theorem state_ld (x : S1x16x64x64.Idx → EReal) (k : ℕ) (hk : k < 16) (inb : _) (i j : Fin 64) :
    View.ld (Val := Elt Ideal) (e' := .f32) x (Rect.unit ![0, k, 0, 0] ![1, 1, 64, 64] inb) (ix4 0 0 i j) = x (ix4 0 ⟨k, hk⟩ i j) := by
  refine congrArg x (funext fun a => Fin.ext ?_)
  match a with
  | 0 => rfl
  | 1 => rfl
  | 2 => show 0 + 1 * i.val = i.val; omega
  | 3 => show 0 + 1 * j.val = j.val; omega

theorem state_cast (x : S1x16x64x64.Idx → EReal) (k : ℕ) (hk : k < 16) (inb : _) (i j : Fin 64) :
    shapeCast S64x64 (shapeCast S64x64 (View.ld (Val := Elt Ideal) (e' := .f32) x (Rect.unit ![0, k, 0, 0] ![1, 1, 64, 64] inb)) shapeCasts_S1x1x64x64_S64x64) shapeCasts_S64x64_S64x64 (ix2 i j)
      = x (ix4 0 ⟨k, hk⟩ i j) :=
  (down_cast _ i j).trans (state_ld x k hk inb i j)

theorem state_up (x : S64x64.Idx → EReal) (i j : Fin 64) : shapeCast S1x1x64x64 x shapeCasts_S64x64_S1x1x64x64 (ix4 0 0 i j) = x (ix2 i j) := by
  pointwise

theorem toReal_coe {x : EReal} (h : Fine x) : x = (x.toReal : ℝ) := by
  obtain ⟨r, rfl⟩ := h; rfl

namespace Blks
variable (B : Blks) (t i j d : Fin 64) (h : Fin 4)

theorem gLw0_at : B.gLw0 (ix2 t (lane h d)) = B.aLw (ix2 t (col (head 0 h) d)) := by
  unfold gLw0
  rw [View.readCov_eq_canon']
  show View.canon _ _ = _
  rw [idx_cols 0 _ t (lane h d) (col (head 0 h) d) (col_lane 0 h d 0 rfl)]
  exact whole_at _ _ _ _

theorem gK0_at : B.gK0 (ix2 t (lane h d)) = B.aK (ix2 t (col (head 0 h) d)) := by
  unfold gK0
  rw [View.readCov_eq_canon']
  show View.canon _ _ = _
  rw [idx_cols 0 _ t (lane h d) (col (head 0 h) d) (col_lane 0 h d 0 rfl)]
  exact whole_at _ _ _ _

theorem gV0_at : B.gV0 (ix2 t (lane h d)) = B.aV (ix2 t (col (head 0 h) d)) := by
  unfold gV0
  rw [View.readCov_eq_canon']
  show View.canon _ _ = _
  rw [idx_cols 0 _ t (lane h d) (col (head 0 h) d) (col_lane 0 h d 0 rfl)]
  exact whole_at _ _ _ _

theorem gKn0_at : B.gKn0 (ix2 t (lane h d)) = B.aKn (ix2 t (col (head 0 h) d)) := by
  unfold gKn0
  rw [View.readCov_eq_canon']
  show View.canon _ _ = _
  rw [idx_cols 0 _ t (lane h d) (col (head 0 h) d) (col_lane 0 h d 0 rfl)]
  exact whole_at _ _ _ _

theorem gB0_at : B.gB0 (ix2 t (lane h d)) = B.aB (ix2 t (col (head 0 h) d)) := by
  unfold gB0
  rw [View.readCov_eq_canon']
  show View.canon _ _ = _
  rw [idx_cols 0 _ t (lane h d) (col (head 0 h) d) (col_lane 0 h d 0 rfl)]
  exact whole_at _ _ _ _

theorem gR0_at : B.gR0 (ix2 t (lane h d)) = B.aR (ix2 t (col (head 0 h) d)) := by
  unfold gR0
  rw [View.readCov_eq_canon']
  show View.canon _ _ = _
  rw [idx_cols 0 _ t (lane h d) (col (head 0 h) d) (col_lane 0 h d 0 rfl)]
  exact whole_at _ _ _ _

theorem gLw1_at : B.gLw1 (ix2 t (lane h d)) = B.aLw (ix2 t (col (head 1 h) d)) := by
  unfold gLw1
  rw [View.readCov_eq_canon']
  show View.canon _ _ = _
  rw [idx_cols 256 _ t (lane h d) (col (head 1 h) d) (col_lane 1 h d 256 rfl)]
  exact whole_at _ _ _ _

theorem gK1_at : B.gK1 (ix2 t (lane h d)) = B.aK (ix2 t (col (head 1 h) d)) := by
  unfold gK1
  rw [View.readCov_eq_canon']
  show View.canon _ _ = _
  rw [idx_cols 256 _ t (lane h d) (col (head 1 h) d) (col_lane 1 h d 256 rfl)]
  exact whole_at _ _ _ _

theorem gV1_at : B.gV1 (ix2 t (lane h d)) = B.aV (ix2 t (col (head 1 h) d)) := by
  unfold gV1
  rw [View.readCov_eq_canon']
  show View.canon _ _ = _
  rw [idx_cols 256 _ t (lane h d) (col (head 1 h) d) (col_lane 1 h d 256 rfl)]
  exact whole_at _ _ _ _

theorem gKn1_at : B.gKn1 (ix2 t (lane h d)) = B.aKn (ix2 t (col (head 1 h) d)) := by
  unfold gKn1
  rw [View.readCov_eq_canon']
  show View.canon _ _ = _
  rw [idx_cols 256 _ t (lane h d) (col (head 1 h) d) (col_lane 1 h d 256 rfl)]
  exact whole_at _ _ _ _

theorem gB1_at : B.gB1 (ix2 t (lane h d)) = B.aB (ix2 t (col (head 1 h) d)) := by
  unfold gB1
  rw [View.readCov_eq_canon']
  show View.canon _ _ = _
  rw [idx_cols 256 _ t (lane h d) (col (head 1 h) d) (col_lane 1 h d 256 rfl)]
  exact whole_at _ _ _ _

theorem gR1_at : B.gR1 (ix2 t (lane h d)) = B.aR (ix2 t (col (head 1 h) d)) := by
  unfold gR1
  rw [View.readCov_eq_canon']
  show View.canon _ _ = _
  rw [idx_cols 256 _ t (lane h d) (col (head 1 h) d) (col_lane 1 h d 256 rfl)]
  exact whole_at _ _ _ _

theorem gLw2_at : B.gLw2 (ix2 t (lane h d)) = B.aLw (ix2 t (col (head 2 h) d)) := by
  unfold gLw2
  rw [View.readCov_eq_canon']
  show View.canon _ _ = _
  rw [idx_cols 512 _ t (lane h d) (col (head 2 h) d) (col_lane 2 h d 512 rfl)]
  exact whole_at _ _ _ _

theorem gK2_at : B.gK2 (ix2 t (lane h d)) = B.aK (ix2 t (col (head 2 h) d)) := by
  unfold gK2
  rw [View.readCov_eq_canon']
  show View.canon _ _ = _
  rw [idx_cols 512 _ t (lane h d) (col (head 2 h) d) (col_lane 2 h d 512 rfl)]
  exact whole_at _ _ _ _

theorem gV2_at : B.gV2 (ix2 t (lane h d)) = B.aV (ix2 t (col (head 2 h) d)) := by
  unfold gV2
  rw [View.readCov_eq_canon']
  show View.canon _ _ = _
  rw [idx_cols 512 _ t (lane h d) (col (head 2 h) d) (col_lane 2 h d 512 rfl)]
  exact whole_at _ _ _ _

theorem gKn2_at : B.gKn2 (ix2 t (lane h d)) = B.aKn (ix2 t (col (head 2 h) d)) := by
  unfold gKn2
  rw [View.readCov_eq_canon']
  show View.canon _ _ = _
  rw [idx_cols 512 _ t (lane h d) (col (head 2 h) d) (col_lane 2 h d 512 rfl)]
  exact whole_at _ _ _ _

theorem gB2_at : B.gB2 (ix2 t (lane h d)) = B.aB (ix2 t (col (head 2 h) d)) := by
  unfold gB2
  rw [View.readCov_eq_canon']
  show View.canon _ _ = _
  rw [idx_cols 512 _ t (lane h d) (col (head 2 h) d) (col_lane 2 h d 512 rfl)]
  exact whole_at _ _ _ _

theorem gR2_at : B.gR2 (ix2 t (lane h d)) = B.aR (ix2 t (col (head 2 h) d)) := by
  unfold gR2
  rw [View.readCov_eq_canon']
  show View.canon _ _ = _
  rw [idx_cols 512 _ t (lane h d) (col (head 2 h) d) (col_lane 2 h d 512 rfl)]
  exact whole_at _ _ _ _

theorem gLw3_at : B.gLw3 (ix2 t (lane h d)) = B.aLw (ix2 t (col (head 3 h) d)) := by
  unfold gLw3
  rw [View.readCov_eq_canon']
  show View.canon _ _ = _
  rw [idx_cols 768 _ t (lane h d) (col (head 3 h) d) (col_lane 3 h d 768 rfl)]
  exact whole_at _ _ _ _

theorem gK3_at : B.gK3 (ix2 t (lane h d)) = B.aK (ix2 t (col (head 3 h) d)) := by
  unfold gK3
  rw [View.readCov_eq_canon']
  show View.canon _ _ = _
  rw [idx_cols 768 _ t (lane h d) (col (head 3 h) d) (col_lane 3 h d 768 rfl)]
  exact whole_at _ _ _ _

theorem gV3_at : B.gV3 (ix2 t (lane h d)) = B.aV (ix2 t (col (head 3 h) d)) := by
  unfold gV3
  rw [View.readCov_eq_canon']
  show View.canon _ _ = _
  rw [idx_cols 768 _ t (lane h d) (col (head 3 h) d) (col_lane 3 h d 768 rfl)]
  exact whole_at _ _ _ _

theorem gKn3_at : B.gKn3 (ix2 t (lane h d)) = B.aKn (ix2 t (col (head 3 h) d)) := by
  unfold gKn3
  rw [View.readCov_eq_canon']
  show View.canon _ _ = _
  rw [idx_cols 768 _ t (lane h d) (col (head 3 h) d) (col_lane 3 h d 768 rfl)]
  exact whole_at _ _ _ _

theorem gB3_at : B.gB3 (ix2 t (lane h d)) = B.aB (ix2 t (col (head 3 h) d)) := by
  unfold gB3
  rw [View.readCov_eq_canon']
  show View.canon _ _ = _
  rw [idx_cols 768 _ t (lane h d) (col (head 3 h) d) (col_lane 3 h d 768 rfl)]
  exact whole_at _ _ _ _

theorem gR3_at : B.gR3 (ix2 t (lane h d)) = B.aR (ix2 t (col (head 3 h) d)) := by
  unfold gR3
  rw [View.readCov_eq_canon']
  show View.canon _ _ = _
  rw [idx_cols 768 _ t (lane h d) (col (head 3 h) d) (col_lane 3 h d 768 rfl)]
  exact whole_at _ _ _ _

theorem init0_at : View.canon B.init (ix2 i (col ⟨0, by omega⟩ j)) = B.x9 (ix4 0 ⟨0, by omega⟩ i j) := by
  have e : (col ⟨0, by omega⟩ j).val = 0 + j.val := by show 0 * 64 + j.val = _; omega
  unfold init p15 p14 p13 p12 p11 p10 p9 p8 p7 p6 p5 p4 p3 p2 p1 p0
  rw [miss2 _ _ _ _ _ (by omega : (col ⟨0, by omega⟩ j).val < 960)]
  rw [miss2 _ _ _ _ _ (by omega : (col ⟨0, by omega⟩ j).val < 896)]
  rw [miss2 _ _ _ _ _ (by omega : (col ⟨0, by omega⟩ j).val < 832)]
  rw [miss2 _ _ _ _ _ (by omega : (col ⟨0, by omega⟩ j).val < 768)]
  rw [miss2 _ _ _ _ _ (by omega : (col ⟨0, by omega⟩ j).val < 704)]
  rw [miss2 _ _ _ _ _ (by omega : (col ⟨0, by omega⟩ j).val < 640)]
  rw [miss2 _ _ _ _ _ (by omega : (col ⟨0, by omega⟩ j).val < 576)]
  rw [miss2 _ _ _ _ _ (by omega : (col ⟨0, by omega⟩ j).val < 512)]
  rw [miss2 _ _ _ _ _ (by omega : (col ⟨0, by omega⟩ j).val < 448)]
  rw [miss2 _ _ _ _ _ (by omega : (col ⟨0, by omega⟩ j).val < 384)]
  rw [miss2 _ _ _ _ _ (by omega : (col ⟨0, by omega⟩ j).val < 320)]
  rw [miss2 _ _ _ _ _ (by omega : (col ⟨0, by omega⟩ j).val < 256)]
  rw [miss2 _ _ _ _ _ (by omega : (col ⟨0, by omega⟩ j).val < 192)]
  rw [miss2 _ _ _ _ _ (by omega : (col ⟨0, by omega⟩ j).val < 128)]
  rw [miss2 _ _ _ _ _ (by omega : (col ⟨0, by omega⟩ j).val < 64)]
  exact (hit2 _ _ _ _ j _ e).trans (state_cast B.x9 0 (by omega) _ i j)

theorem init1_at : View.canon B.init (ix2 i (col ⟨1, by omega⟩ j)) = B.x9 (ix4 0 ⟨1, by omega⟩ i j) := by
  have e : (col ⟨1, by omega⟩ j).val = 64 + j.val := by show 1 * 64 + j.val = _; omega
  unfold init p15 p14 p13 p12 p11 p10 p9 p8 p7 p6 p5 p4 p3 p2 p1
  rw [miss2 _ _ _ _ _ (by omega : (col ⟨1, by omega⟩ j).val < 960)]
  rw [miss2 _ _ _ _ _ (by omega : (col ⟨1, by omega⟩ j).val < 896)]
  rw [miss2 _ _ _ _ _ (by omega : (col ⟨1, by omega⟩ j).val < 832)]
  rw [miss2 _ _ _ _ _ (by omega : (col ⟨1, by omega⟩ j).val < 768)]
  rw [miss2 _ _ _ _ _ (by omega : (col ⟨1, by omega⟩ j).val < 704)]
  rw [miss2 _ _ _ _ _ (by omega : (col ⟨1, by omega⟩ j).val < 640)]
  rw [miss2 _ _ _ _ _ (by omega : (col ⟨1, by omega⟩ j).val < 576)]
  rw [miss2 _ _ _ _ _ (by omega : (col ⟨1, by omega⟩ j).val < 512)]
  rw [miss2 _ _ _ _ _ (by omega : (col ⟨1, by omega⟩ j).val < 448)]
  rw [miss2 _ _ _ _ _ (by omega : (col ⟨1, by omega⟩ j).val < 384)]
  rw [miss2 _ _ _ _ _ (by omega : (col ⟨1, by omega⟩ j).val < 320)]
  rw [miss2 _ _ _ _ _ (by omega : (col ⟨1, by omega⟩ j).val < 256)]
  rw [miss2 _ _ _ _ _ (by omega : (col ⟨1, by omega⟩ j).val < 192)]
  rw [miss2 _ _ _ _ _ (by omega : (col ⟨1, by omega⟩ j).val < 128)]
  exact (hit2 _ _ _ _ j _ e).trans (state_cast B.x9 1 (by omega) _ i j)

theorem init2_at : View.canon B.init (ix2 i (col ⟨2, by omega⟩ j)) = B.x9 (ix4 0 ⟨2, by omega⟩ i j) := by
  have e : (col ⟨2, by omega⟩ j).val = 128 + j.val := by show 2 * 64 + j.val = _; omega
  unfold init p15 p14 p13 p12 p11 p10 p9 p8 p7 p6 p5 p4 p3 p2
  rw [miss2 _ _ _ _ _ (by omega : (col ⟨2, by omega⟩ j).val < 960)]
  rw [miss2 _ _ _ _ _ (by omega : (col ⟨2, by omega⟩ j).val < 896)]
  rw [miss2 _ _ _ _ _ (by omega : (col ⟨2, by omega⟩ j).val < 832)]
  rw [miss2 _ _ _ _ _ (by omega : (col ⟨2, by omega⟩ j).val < 768)]
  rw [miss2 _ _ _ _ _ (by omega : (col ⟨2, by omega⟩ j).val < 704)]
  rw [miss2 _ _ _ _ _ (by omega : (col ⟨2, by omega⟩ j).val < 640)]
  rw [miss2 _ _ _ _ _ (by omega : (col ⟨2, by omega⟩ j).val < 576)]
  rw [miss2 _ _ _ _ _ (by omega : (col ⟨2, by omega⟩ j).val < 512)]
  rw [miss2 _ _ _ _ _ (by omega : (col ⟨2, by omega⟩ j).val < 448)]
  rw [miss2 _ _ _ _ _ (by omega : (col ⟨2, by omega⟩ j).val < 384)]
  rw [miss2 _ _ _ _ _ (by omega : (col ⟨2, by omega⟩ j).val < 320)]
  rw [miss2 _ _ _ _ _ (by omega : (col ⟨2, by omega⟩ j).val < 256)]
  rw [miss2 _ _ _ _ _ (by omega : (col ⟨2, by omega⟩ j).val < 192)]
  exact (hit2 _ _ _ _ j _ e).trans (state_cast B.x9 2 (by omega) _ i j)

theorem init3_at : View.canon B.init (ix2 i (col ⟨3, by omega⟩ j)) = B.x9 (ix4 0 ⟨3, by omega⟩ i j) := by
  have e : (col ⟨3, by omega⟩ j).val = 192 + j.val := by show 3 * 64 + j.val = _; omega
  unfold init p15 p14 p13 p12 p11 p10 p9 p8 p7 p6 p5 p4 p3
  rw [miss2 _ _ _ _ _ (by omega : (col ⟨3, by omega⟩ j).val < 960)]
  rw [miss2 _ _ _ _ _ (by omega : (col ⟨3, by omega⟩ j).val < 896)]
  rw [miss2 _ _ _ _ _ (by omega : (col ⟨3, by omega⟩ j).val < 832)]
  rw [miss2 _ _ _ _ _ (by omega : (col ⟨3, by omega⟩ j).val < 768)]
  rw [miss2 _ _ _ _ _ (by omega : (col ⟨3, by omega⟩ j).val < 704)]
  rw [miss2 _ _ _ _ _ (by omega : (col ⟨3, by omega⟩ j).val < 640)]
  rw [miss2 _ _ _ _ _ (by omega : (col ⟨3, by omega⟩ j).val < 576)]
  rw [miss2 _ _ _ _ _ (by omega : (col ⟨3, by omega⟩ j).val < 512)]
  rw [miss2 _ _ _ _ _ (by omega : (col ⟨3, by omega⟩ j).val < 448)]
  rw [miss2 _ _ _ _ _ (by omega : (col ⟨3, by omega⟩ j).val < 384)]
  rw [miss2 _ _ _ _ _ (by omega : (col ⟨3, by omega⟩ j).val < 320)]
  rw [miss2 _ _ _ _ _ (by omega : (col ⟨3, by omega⟩ j).val < 256)]
  exact (hit2 _ _ _ _ j _ e).trans (state_cast B.x9 3 (by omega) _ i j)

theorem init4_at : View.canon B.init (ix2 i (col ⟨4, by omega⟩ j)) = B.x9 (ix4 0 ⟨4, by omega⟩ i j) := by
  have e : (col ⟨4, by omega⟩ j).val = 256 + j.val := by show 4 * 64 + j.val = _; omega
  unfold init p15 p14 p13 p12 p11 p10 p9 p8 p7 p6 p5 p4
  rw [miss2 _ _ _ _ _ (by omega : (col ⟨4, by omega⟩ j).val < 960)]
  rw [miss2 _ _ _ _ _ (by omega : (col ⟨4, by omega⟩ j).val < 896)]
  rw [miss2 _ _ _ _ _ (by omega : (col ⟨4, by omega⟩ j).val < 832)]
  rw [miss2 _ _ _ _ _ (by omega : (col ⟨4, by omega⟩ j).val < 768)]
  rw [miss2 _ _ _ _ _ (by omega : (col ⟨4, by omega⟩ j).val < 704)]
  rw [miss2 _ _ _ _ _ (by omega : (col ⟨4, by omega⟩ j).val < 640)]
  rw [miss2 _ _ _ _ _ (by omega : (col ⟨4, by omega⟩ j).val < 576)]
  rw [miss2 _ _ _ _ _ (by omega : (col ⟨4, by omega⟩ j).val < 512)]
  rw [miss2 _ _ _ _ _ (by omega : (col ⟨4, by omega⟩ j).val < 448)]
  rw [miss2 _ _ _ _ _ (by omega : (col ⟨4, by omega⟩ j).val < 384)]
  rw [miss2 _ _ _ _ _ (by omega : (col ⟨4, by omega⟩ j).val < 320)]
  exact (hit2 _ _ _ _ j _ e).trans (state_cast B.x9 4 (by omega) _ i j)

theorem init5_at : View.canon B.init (ix2 i (col ⟨5, by omega⟩ j)) = B.x9 (ix4 0 ⟨5, by omega⟩ i j) := by
  have e : (col ⟨5, by omega⟩ j).val = 320 + j.val := by show 5 * 64 + j.val = _; omega
  unfold init p15 p14 p13 p12 p11 p10 p9 p8 p7 p6 p5
  rw [miss2 _ _ _ _ _ (by omega : (col ⟨5, by omega⟩ j).val < 960)]
  rw [miss2 _ _ _ _ _ (by omega : (col ⟨5, by omega⟩ j).val < 896)]
  rw [miss2 _ _ _ _ _ (by omega : (col ⟨5, by omega⟩ j).val < 832)]
  rw [miss2 _ _ _ _ _ (by omega : (col ⟨5, by omega⟩ j).val < 768)]
  rw [miss2 _ _ _ _ _ (by omega : (col ⟨5, by omega⟩ j).val < 704)]
  rw [miss2 _ _ _ _ _ (by omega : (col ⟨5, by omega⟩ j).val < 640)]
  rw [miss2 _ _ _ _ _ (by omega : (col ⟨5, by omega⟩ j).val < 576)]
  rw [miss2 _ _ _ _ _ (by omega : (col ⟨5, by omega⟩ j).val < 512)]
  rw [miss2 _ _ _ _ _ (by omega : (col ⟨5, by omega⟩ j).val < 448)]
  rw [miss2 _ _ _ _ _ (by omega : (col ⟨5, by omega⟩ j).val < 384)]
  exact (hit2 _ _ _ _ j _ e).trans (state_cast B.x9 5 (by omega) _ i j)

theorem init6_at : View.canon B.init (ix2 i (col ⟨6, by omega⟩ j)) = B.x9 (ix4 0 ⟨6, by omega⟩ i j) := by
  have e : (col ⟨6, by omega⟩ j).val = 384 + j.val := by show 6 * 64 + j.val = _; omega
  unfold init p15 p14 p13 p12 p11 p10 p9 p8 p7 p6
  rw [miss2 _ _ _ _ _ (by omega : (col ⟨6, by omega⟩ j).val < 960)]
  rw [miss2 _ _ _ _ _ (by omega : (col ⟨6, by omega⟩ j).val < 896)]
  rw [miss2 _ _ _ _ _ (by omega : (col ⟨6, by omega⟩ j).val < 832)]
  rw [miss2 _ _ _ _ _ (by omega : (col ⟨6, by omega⟩ j).val < 768)]
  rw [miss2 _ _ _ _ _ (by omega : (col ⟨6, by omega⟩ j).val < 704)]
  rw [miss2 _ _ _ _ _ (by omega : (col ⟨6, by omega⟩ j).val < 640)]
  rw [miss2 _ _ _ _ _ (by omega : (col ⟨6, by omega⟩ j).val < 576)]
  rw [miss2 _ _ _ _ _ (by omega : (col ⟨6, by omega⟩ j).val < 512)]
  rw [miss2 _ _ _ _ _ (by omega : (col ⟨6, by omega⟩ j).val < 448)]
  exact (hit2 _ _ _ _ j _ e).trans (state_cast B.x9 6 (by omega) _ i j)

theorem init7_at : View.canon B.init (ix2 i (col ⟨7, by omega⟩ j)) = B.x9 (ix4 0 ⟨7, by omega⟩ i j) := by
  have e : (col ⟨7, by omega⟩ j).val = 448 + j.val := by show 7 * 64 + j.val = _; omega
  unfold init p15 p14 p13 p12 p11 p10 p9 p8 p7
  rw [miss2 _ _ _ _ _ (by omega : (col ⟨7, by omega⟩ j).val < 960)]
  rw [miss2 _ _ _ _ _ (by omega : (col ⟨7, by omega⟩ j).val < 896)]
  rw [miss2 _ _ _ _ _ (by omega : (col ⟨7, by omega⟩ j).val < 832)]
  rw [miss2 _ _ _ _ _ (by omega : (col ⟨7, by omega⟩ j).val < 768)]
  rw [miss2 _ _ _ _ _ (by omega : (col ⟨7, by omega⟩ j).val < 704)]
  rw [miss2 _ _ _ _ _ (by omega : (col ⟨7, by omega⟩ j).val < 640)]
  rw [miss2 _ _ _ _ _ (by omega : (col ⟨7, by omega⟩ j).val < 576)]
  rw [miss2 _ _ _ _ _ (by omega : (col ⟨7, by omega⟩ j).val < 512)]
  exact (hit2 _ _ _ _ j _ e).trans (state_cast B.x9 7 (by omega) _ i j)

theorem init8_at : View.canon B.init (ix2 i (col ⟨8, by omega⟩ j)) = B.x9 (ix4 0 ⟨8, by omega⟩ i j) := by
  have e : (col ⟨8, by omega⟩ j).val = 512 + j.val := by show 8 * 64 + j.val = _; omega
  unfold init p15 p14 p13 p12 p11 p10 p9 p8
  rw [miss2 _ _ _ _ _ (by omega : (col ⟨8, by omega⟩ j).val < 960)]
  rw [miss2 _ _ _ _ _ (by omega : (col ⟨8, by omega⟩ j).val < 896)]
  rw [miss2 _ _ _ _ _ (by omega : (col ⟨8, by omega⟩ j).val < 832)]
  rw [miss2 _ _ _ _ _ (by omega : (col ⟨8, by omega⟩ j).val < 768)]
  rw [miss2 _ _ _ _ _ (by omega : (col ⟨8, by omega⟩ j).val < 704)]
  rw [miss2 _ _ _ _ _ (by omega : (col ⟨8, by omega⟩ j).val < 640)]
  rw [miss2 _ _ _ _ _ (by omega : (col ⟨8, by omega⟩ j).val < 576)]
  exact (hit2 _ _ _ _ j _ e).trans (state_cast B.x9 8 (by omega) _ i j)

theorem init9_at : View.canon B.init (ix2 i (col ⟨9, by omega⟩ j)) = B.x9 (ix4 0 ⟨9, by omega⟩ i j) := by
  have e : (col ⟨9, by omega⟩ j).val = 576 + j.val := by show 9 * 64 + j.val = _; omega
  unfold init p15 p14 p13 p12 p11 p10 p9
  rw [miss2 _ _ _ _ _ (by omega : (col ⟨9, by omega⟩ j).val < 960)]
  rw [miss2 _ _ _ _ _ (by omega : (col ⟨9, by omega⟩ j).val < 896)]
  rw [miss2 _ _ _ _ _ (by omega : (col ⟨9, by omega⟩ j).val < 832)]
  rw [miss2 _ _ _ _ _ (by omega : (col ⟨9, by omega⟩ j).val < 768)]
  rw [miss2 _ _ _ _ _ (by omega : (col ⟨9, by omega⟩ j).val < 704)]
  rw [miss2 _ _ _ _ _ (by omega : (col ⟨9, by omega⟩ j).val < 640)]
  exact (hit2 _ _ _ _ j _ e).trans (state_cast B.x9 9 (by omega) _ i j)

theorem init10_at : View.canon B.init (ix2 i (col ⟨10, by omega⟩ j)) = B.x9 (ix4 0 ⟨10, by omega⟩ i j) := by
  have e : (col ⟨10, by omega⟩ j).val = 640 + j.val := by show 10 * 64 + j.val = _; omega
  unfold init p15 p14 p13 p12 p11 p10
  rw [miss2 _ _ _ _ _ (by omega : (col ⟨10, by omega⟩ j).val < 960)]
  rw [miss2 _ _ _ _ _ (by omega : (col ⟨10, by omega⟩ j).val < 896)]
  rw [miss2 _ _ _ _ _ (by omega : (col ⟨10, by omega⟩ j).val < 832)]
  rw [miss2 _ _ _ _ _ (by omega : (col ⟨10, by omega⟩ j).val < 768)]
  rw [miss2 _ _ _ _ _ (by omega : (col ⟨10, by omega⟩ j).val < 704)]
  exact (hit2 _ _ _ _ j _ e).trans (state_cast B.x9 10 (by omega) _ i j)

theorem init11_at : View.canon B.init (ix2 i (col ⟨11, by omega⟩ j)) = B.x9 (ix4 0 ⟨11, by omega⟩ i j) := by
  have e : (col ⟨11, by omega⟩ j).val = 704 + j.val := by show 11 * 64 + j.val = _; omega
  unfold init p15 p14 p13 p12 p11
  rw [miss2 _ _ _ _ _ (by omega : (col ⟨11, by omega⟩ j).val < 960)]
  rw [miss2 _ _ _ _ _ (by omega : (col ⟨11, by omega⟩ j).val < 896)]
  rw [miss2 _ _ _ _ _ (by omega : (col ⟨11, by omega⟩ j).val < 832)]
  rw [miss2 _ _ _ _ _ (by omega : (col ⟨11, by omega⟩ j).val < 768)]
  exact (hit2 _ _ _ _ j _ e).trans (state_cast B.x9 11 (by omega) _ i j)

theorem init12_at : View.canon B.init (ix2 i (col ⟨12, by omega⟩ j)) = B.x9 (ix4 0 ⟨12, by omega⟩ i j) := by
  have e : (col ⟨12, by omega⟩ j).val = 768 + j.val := by show 12 * 64 + j.val = _; omega
  unfold init p15 p14 p13 p12
  rw [miss2 _ _ _ _ _ (by omega : (col ⟨12, by omega⟩ j).val < 960)]
  rw [miss2 _ _ _ _ _ (by omega : (col ⟨12, by omega⟩ j).val < 896)]
  rw [miss2 _ _ _ _ _ (by omega : (col ⟨12, by omega⟩ j).val < 832)]
  exact (hit2 _ _ _ _ j _ e).trans (state_cast B.x9 12 (by omega) _ i j)

theorem init13_at : View.canon B.init (ix2 i (col ⟨13, by omega⟩ j)) = B.x9 (ix4 0 ⟨13, by omega⟩ i j) := by
  have e : (col ⟨13, by omega⟩ j).val = 832 + j.val := by show 13 * 64 + j.val = _; omega
  unfold init p15 p14 p13
  rw [miss2 _ _ _ _ _ (by omega : (col ⟨13, by omega⟩ j).val < 960)]
  rw [miss2 _ _ _ _ _ (by omega : (col ⟨13, by omega⟩ j).val < 896)]
  exact (hit2 _ _ _ _ j _ e).trans (state_cast B.x9 13 (by omega) _ i j)

theorem init14_at : View.canon B.init (ix2 i (col ⟨14, by omega⟩ j)) = B.x9 (ix4 0 ⟨14, by omega⟩ i j) := by
  have e : (col ⟨14, by omega⟩ j).val = 896 + j.val := by show 14 * 64 + j.val = _; omega
  unfold init p15 p14
  rw [miss2 _ _ _ _ _ (by omega : (col ⟨14, by omega⟩ j).val < 960)]
  exact (hit2 _ _ _ _ j _ e).trans (state_cast B.x9 14 (by omega) _ i j)

theorem init15_at : View.canon B.init (ix2 i (col ⟨15, by omega⟩ j)) = B.x9 (ix4 0 ⟨15, by omega⟩ i j) := by
  have e : (col ⟨15, by omega⟩ j).val = 960 + j.val := by show 15 * 64 + j.val = _; omega
  unfold init p15
  exact (hit2 _ _ _ _ j _ e).trans (state_cast B.x9 15 (by omega) _ i j)

theorem init_at (H : Fin 16) : View.canon B.init (ix2 i (col H j)) = B.x9 (ix4 0 H i j) := by
  match H with
  | ⟨0, _⟩ => exact B.init0_at i j
  | ⟨1, _⟩ => exact B.init1_at i j
  | ⟨2, _⟩ => exact B.init2_at i j
  | ⟨3, _⟩ => exact B.init3_at i j
  | ⟨4, _⟩ => exact B.init4_at i j
  | ⟨5, _⟩ => exact B.init5_at i j
  | ⟨6, _⟩ => exact B.init6_at i j
  | ⟨7, _⟩ => exact B.init7_at i j
  | ⟨8, _⟩ => exact B.init8_at i j
  | ⟨9, _⟩ => exact B.init9_at i j
  | ⟨10, _⟩ => exact B.init10_at i j
  | ⟨11, _⟩ => exact B.init11_at i j
  | ⟨12, _⟩ => exact B.init12_at i j
  | ⟨13, _⟩ => exact B.init13_at i j
  | ⟨14, _⟩ => exact B.init14_at i j
  | ⟨15, _⟩ => exact B.init15_at i j
  | ⟨q + 16, hq⟩ => exact absurd hq (by omega)

theorem gS0_at : B.gS0 (ix2 i (lane h j)) = B.x9 (ix4 0 (head 0 h) i j) := by
  unfold gS0
  rw [View.readCov_eq_canon']
  show View.canon _ _ = _
  rw [idx_cols 0 _ i (lane h j) (col (head 0 h) j) (col_lane 0 h j 0 rfl)]
  exact B.init_at i j _

theorem gS1_at : B.gS1 (ix2 i (lane h j)) = B.x9 (ix4 0 (head 1 h) i j) := by
  unfold gS1
  rw [View.readCov_eq_canon']
  show View.canon _ _ = _
  rw [idx_cols 256 _ i (lane h j) (col (head 1 h) j) (col_lane 1 h j 256 rfl)]
  exact B.init_at i j _

theorem gS2_at : B.gS2 (ix2 i (lane h j)) = B.x9 (ix4 0 (head 2 h) i j) := by
  unfold gS2
  rw [View.readCov_eq_canon']
  show View.canon _ _ = _
  rw [idx_cols 512 _ i (lane h j) (col (head 2 h) j) (col_lane 2 h j 512 rfl)]
  exact B.init_at i j _

theorem gS3_at : B.gS3 (ix2 i (lane h j)) = B.x9 (ix4 0 (head 3 h) i j) := by
  unfold gS3
  rw [View.readCov_eq_canon']
  show View.canon _ _ = _
  rw [idx_cols 768 _ i (lane h j) (col (head 3 h) j) (col_lane 3 h j 768 rfl)]
  exact B.init_at i j _

theorem ys0_at : View.canon [B.yp3, B.yp2, B.yp1, B.yp0] (ix2 i (col (head 0 h) j)) = B.yg0 (ix2 i (lane h j)) := by
  have e := col_lane 0 h j 0 rfl
  unfold yp3 yp2 yp1 yp0
  rw [miss2 _ _ _ _ _ (by have : (lane h j).val < 256 := (lane h j).isLt; omega : (col (head 0 h) j).val < 768)]
  rw [miss2 _ _ _ _ _ (by have : (lane h j).val < 256 := (lane h j).isLt; omega : (col (head 0 h) j).val < 512)]
  rw [miss2 _ _ _ _ _ (by have : (lane h j).val < 256 := (lane h j).isLt; omega : (col (head 0 h) j).val < 256)]
  exact hit2 _ _ _ _ (lane h j) _ e

theorem ys1_at : View.canon [B.yp3, B.yp2, B.yp1, B.yp0] (ix2 i (col (head 1 h) j)) = B.yg1 (ix2 i (lane h j)) := by
  have e := col_lane 1 h j 256 rfl
  unfold yp3 yp2 yp1
  rw [miss2 _ _ _ _ _ (by have : (lane h j).val < 256 := (lane h j).isLt; omega : (col (head 1 h) j).val < 768)]
  rw [miss2 _ _ _ _ _ (by have : (lane h j).val < 256 := (lane h j).isLt; omega : (col (head 1 h) j).val < 512)]
  exact hit2 _ _ _ _ (lane h j) _ e

theorem ys2_at : View.canon [B.yp3, B.yp2, B.yp1, B.yp0] (ix2 i (col (head 2 h) j)) = B.yg2 (ix2 i (lane h j)) := by
  have e := col_lane 2 h j 512 rfl
  unfold yp3 yp2
  rw [miss2 _ _ _ _ _ (by have : (lane h j).val < 256 := (lane h j).isLt; omega : (col (head 2 h) j).val < 768)]
  exact hit2 _ _ _ _ (lane h j) _ e

theorem ys3_at : View.canon [B.yp3, B.yp2, B.yp1, B.yp0] (ix2 i (col (head 3 h) j)) = B.yg3 (ix2 i (lane h j)) := by
  have e := col_lane 3 h j 768 rfl
  unfold yp3
  exact hit2 _ _ _ _ (lane h j) _ e

theorem fin0_at : View.canon B.fin (ix2 i (col (head 0 h) j)) = B.sg0 (ix2 i (lane h j)) := by
  have e := col_lane 0 h j 0 rfl
  unfold fin sp3 sp2 sp1 sp0
  rw [miss2 _ _ _ _ _ (by have : (lane h j).val < 256 := (lane h j).isLt; omega : (col (head 0 h) j).val < 768)]
  rw [miss2 _ _ _ _ _ (by have : (lane h j).val < 256 := (lane h j).isLt; omega : (col (head 0 h) j).val < 512)]
  rw [miss2 _ _ _ _ _ (by have : (lane h j).val < 256 := (lane h j).isLt; omega : (col (head 0 h) j).val < 256)]
  exact hit2 _ _ _ _ (lane h j) _ e

theorem fin1_at : View.canon B.fin (ix2 i (col (head 1 h) j)) = B.sg1 (ix2 i (lane h j)) := by
  have e := col_lane 1 h j 256 rfl
  unfold fin sp3 sp2 sp1
  rw [miss2 _ _ _ _ _ (by have : (lane h j).val < 256 := (lane h j).isLt; omega : (col (head 1 h) j).val < 768)]
  rw [miss2 _ _ _ _ _ (by have : (lane h j).val < 256 := (lane h j).isLt; omega : (col (head 1 h) j).val < 512)]
  exact hit2 _ _ _ _ (lane h j) _ e

theorem fin2_at : View.canon B.fin (ix2 i (col (head 2 h) j)) = B.sg2 (ix2 i (lane h j)) := by
  have e := col_lane 2 h j 512 rfl
  unfold fin sp3 sp2
  rw [miss2 _ _ _ _ _ (by have : (lane h j).val < 256 := (lane h j).isLt; omega : (col (head 2 h) j).val < 768)]
  exact hit2 _ _ _ _ (lane h j) _ e

theorem fin3_at : View.canon B.fin (ix2 i (col (head 3 h) j)) = B.sg3 (ix2 i (lane h j)) := by
  have e := col_lane 3 h j 768 rfl
  unfold fin sp3
  exact hit2 _ _ _ _ (lane h j) _ e

theorem ys_at (z : Fin 1024) : B.ys (ix2 i z) = View.canon [B.yp3, B.yp2, B.yp1, B.yp0] (ix2 i z) := by
  unfold ys
  rw [View.readCov_eq_canon']
  show View.canon _ _ = _
  rw [idx_cols 0 _ i z z (Nat.zero_add _).symm]

theorem hs0_at : B.hs0 (ix2 i j) = View.canon B.fin (ix2 i (col ⟨0, by omega⟩ j)) := by
  unfold hs0
  rw [View.readCov_eq_canon']
  show View.canon _ _ = _
  rw [idx_cols 0 _ i j (col ⟨0, by omega⟩ j) (by show 0 * 64 + j.val = _; omega)]

theorem hs1_at : B.hs1 (ix2 i j) = View.canon B.fin (ix2 i (col ⟨1, by omega⟩ j)) := by
  unfold hs1
  rw [View.readCov_eq_canon']
  show View.canon _ _ = _
  rw [idx_cols 64 _ i j (col ⟨1, by omega⟩ j) (by show 1 * 64 + j.val = _; omega)]

theorem hs2_at : B.hs2 (ix2 i j) = View.canon B.fin (ix2 i (col ⟨2, by omega⟩ j)) := by
  unfold hs2
  rw [View.readCov_eq_canon']
  show View.canon _ _ = _
  rw [idx_cols 128 _ i j (col ⟨2, by omega⟩ j) (by show 2 * 64 + j.val = _; omega)]

theorem hs3_at : B.hs3 (ix2 i j) = View.canon B.fin (ix2 i (col ⟨3, by omega⟩ j)) := by
  unfold hs3
  rw [View.readCov_eq_canon']
  show View.canon _ _ = _
  rw [idx_cols 192 _ i j (col ⟨3, by omega⟩ j) (by show 3 * 64 + j.val = _; omega)]

theorem hs4_at : B.hs4 (ix2 i j) = View.canon B.fin (ix2 i (col ⟨4, by omega⟩ j)) := by
  unfold hs4
  rw [View.readCov_eq_canon']
  show View.canon _ _ = _
  rw [idx_cols 256 _ i j (col ⟨4, by omega⟩ j) (by show 4 * 64 + j.val = _; omega)]

theorem hs5_at : B.hs5 (ix2 i j) = View.canon B.fin (ix2 i (col ⟨5, by omega⟩ j)) := by
  unfold hs5
  rw [View.readCov_eq_canon']
  show View.canon _ _ = _
  rw [idx_cols 320 _ i j (col ⟨5, by omega⟩ j) (by show 5 * 64 + j.val = _; omega)]

theorem hs6_at : B.hs6 (ix2 i j) = View.canon B.fin (ix2 i (col ⟨6, by omega⟩ j)) := by
  unfold hs6
  rw [View.readCov_eq_canon']
  show View.canon _ _ = _
  rw [idx_cols 384 _ i j (col ⟨6, by omega⟩ j) (by show 6 * 64 + j.val = _; omega)]

theorem hs7_at : B.hs7 (ix2 i j) = View.canon B.fin (ix2 i (col ⟨7, by omega⟩ j)) := by
  unfold hs7
  rw [View.readCov_eq_canon']
  show View.canon _ _ = _
  rw [idx_cols 448 _ i j (col ⟨7, by omega⟩ j) (by show 7 * 64 + j.val = _; omega)]

theorem hs8_at : B.hs8 (ix2 i j) = View.canon B.fin (ix2 i (col ⟨8, by omega⟩ j)) := by
  unfold hs8
  rw [View.readCov_eq_canon']
  show View.canon _ _ = _
  rw [idx_cols 512 _ i j (col ⟨8, by omega⟩ j) (by show 8 * 64 + j.val = _; omega)]

theorem hs9_at : B.hs9 (ix2 i j) = View.canon B.fin (ix2 i (col ⟨9, by omega⟩ j)) := by
  unfold hs9
  rw [View.readCov_eq_canon']
  show View.canon _ _ = _
  rw [idx_cols 576 _ i j (col ⟨9, by omega⟩ j) (by show 9 * 64 + j.val = _; omega)]

theorem hs10_at : B.hs10 (ix2 i j) = View.canon B.fin (ix2 i (col ⟨10, by omega⟩ j)) := by
  unfold hs10
  rw [View.readCov_eq_canon']
  show View.canon _ _ = _
  rw [idx_cols 640 _ i j (col ⟨10, by omega⟩ j) (by show 10 * 64 + j.val = _; omega)]

theorem hs11_at : B.hs11 (ix2 i j) = View.canon B.fin (ix2 i (col ⟨11, by omega⟩ j)) := by
  unfold hs11
  rw [View.readCov_eq_canon']
  show View.canon _ _ = _
  rw [idx_cols 704 _ i j (col ⟨11, by omega⟩ j) (by show 11 * 64 + j.val = _; omega)]

theorem hs12_at : B.hs12 (ix2 i j) = View.canon B.fin (ix2 i (col ⟨12, by omega⟩ j)) := by
  unfold hs12
  rw [View.readCov_eq_canon']
  show View.canon _ _ = _
  rw [idx_cols 768 _ i j (col ⟨12, by omega⟩ j) (by show 12 * 64 + j.val = _; omega)]

theorem hs13_at : B.hs13 (ix2 i j) = View.canon B.fin (ix2 i (col ⟨13, by omega⟩ j)) := by
  unfold hs13
  rw [View.readCov_eq_canon']
  show View.canon _ _ = _
  rw [idx_cols 832 _ i j (col ⟨13, by omega⟩ j) (by show 13 * 64 + j.val = _; omega)]

theorem hs14_at : B.hs14 (ix2 i j) = View.canon B.fin (ix2 i (col ⟨14, by omega⟩ j)) := by
  unfold hs14
  rw [View.readCov_eq_canon']
  show View.canon _ _ = _
  rw [idx_cols 896 _ i j (col ⟨14, by omega⟩ j) (by show 14 * 64 + j.val = _; omega)]

theorem hs15_at : B.hs15 (ix2 i j) = View.canon B.fin (ix2 i (col ⟨15, by omega⟩ j)) := by
  unfold hs15
  rw [View.readCov_eq_canon']
  show View.canon _ _ = _
  rw [idx_cols 960 _ i j (col ⟨15, by omega⟩ j) (by show 15 * 64 + j.val = _; omega)]

theorem wkv0_at : B.wkv (ix4 0 ⟨0, by omega⟩ i j) = B.hs0 (ix2 i j) := by
  unfold wkv
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs0 i j)

theorem wkv1_at : B.wkv (ix4 0 ⟨1, by omega⟩ i j) = B.hs1 (ix2 i j) := by
  unfold wkv
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs1 i j)

theorem wkv2_at : B.wkv (ix4 0 ⟨2, by omega⟩ i j) = B.hs2 (ix2 i j) := by
  unfold wkv
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs2 i j)

theorem wkv3_at : B.wkv (ix4 0 ⟨3, by omega⟩ i j) = B.hs3 (ix2 i j) := by
  unfold wkv
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs3 i j)

theorem wkv4_at : B.wkv (ix4 0 ⟨4, by omega⟩ i j) = B.hs4 (ix2 i j) := by
  unfold wkv
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs4 i j)

theorem wkv5_at : B.wkv (ix4 0 ⟨5, by omega⟩ i j) = B.hs5 (ix2 i j) := by
  unfold wkv
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs5 i j)

theorem wkv6_at : B.wkv (ix4 0 ⟨6, by omega⟩ i j) = B.hs6 (ix2 i j) := by
  unfold wkv
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs6 i j)

theorem wkv7_at : B.wkv (ix4 0 ⟨7, by omega⟩ i j) = B.hs7 (ix2 i j) := by
  unfold wkv
  rw [miss4 _ (by omega)]
  rw [miss4 _ (by omega)]
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs7 i j)

theorem wkv8_at : B.wkv (ix4 0 ⟨8, by omega⟩ i j) = B.hs8 (ix2 i j) := by
  unfold wkv
  rw [miss4 _ (by omega)]
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs8 i j)

theorem wkv9_at : B.wkv (ix4 0 ⟨9, by omega⟩ i j) = B.hs9 (ix2 i j) := by
  unfold wkv
  rw [miss4 _ (by omega)]
  rw [miss4 _ (by omega)]
  rw [miss4 _ (by omega)]
  rw [miss4 _ (by omega)]
  rw [miss4 _ (by omega)]
  rw [miss4 _ (by omega)]
  exact (hit4 _ _ _ _ i j).trans (state_up B.hs9 i j)

theorem wkv10_at : B.wkv (ix4 0 ⟨10, by omega⟩ i j) = B.hs10 (ix2 i j) := by
  unfold wkv
  rw [miss4 _ (by omega)]
  rw [miss4 _ (by omega)]
  rw [miss4 _ (by omega)]
  rw [miss4 _ (by omega)]
  rw [miss4 _ (by omega)]
  exact (hit4 _ _ _ _ i j).trans (state_up B.hs10 i j)

theorem wkv11_at : B.wkv (ix4 0 ⟨11, by omega⟩ i j) = B.hs11 (ix2 i j) := by
  unfold wkv
  rw [miss4 _ (by omega)]
  rw [miss4 _ (by omega)]
  rw [miss4 _ (by omega)]
  rw [miss4 _ (by omega)]
  exact (hit4 _ _ _ _ i j).trans (state_up B.hs11 i j)

theorem wkv12_at : B.wkv (ix4 0 ⟨12, by omega⟩ i j) = B.hs12 (ix2 i j) := by
  unfold wkv
  rw [miss4 _ (by omega)]
  rw [miss4 _ (by omega)]
  rw [miss4 _ (by omega)]
  exact (hit4 _ _ _ _ i j).trans (state_up B.hs12 i j)

theorem wkv13_at : B.wkv (ix4 0 ⟨13, by omega⟩ i j) = B.hs13 (ix2 i j) := by
  unfold wkv
  rw [miss4 _ (by omega)]
  rw [miss4 _ (by omega)]
  exact (hit4 _ _ _ _ i j).trans (state_up B.hs13 i j)

theorem wkv14_at : B.wkv (ix4 0 ⟨14, by omega⟩ i j) = B.hs14 (ix2 i j) := by
  unfold wkv
  rw [miss4 _ (by omega)]
  exact (hit4 _ _ _ _ i j).trans (state_up B.hs14 i j)

theorem wkv15_at : B.wkv (ix4 0 ⟨15, by omega⟩ i j) = B.hs15 (ix2 i j) := by
  unfold wkv
  exact (hit4 _ _ _ _ i j).trans (state_up B.hs15 i j)

theorem wkv_at (H : Fin 16) : B.wkv (ix4 0 H i j) = View.canon B.fin (ix2 i (col H j)) := by
  match H with
  | ⟨0, _⟩ => exact (B.wkv0_at i j).trans (B.hs0_at i j)
  | ⟨1, _⟩ => exact (B.wkv1_at i j).trans (B.hs1_at i j)
  | ⟨2, _⟩ => exact (B.wkv2_at i j).trans (B.hs2_at i j)
  | ⟨3, _⟩ => exact (B.wkv3_at i j).trans (B.hs3_at i j)
  | ⟨4, _⟩ => exact (B.wkv4_at i j).trans (B.hs4_at i j)
  | ⟨5, _⟩ => exact (B.wkv5_at i j).trans (B.hs5_at i j)
  | ⟨6, _⟩ => exact (B.wkv6_at i j).trans (B.hs6_at i j)
  | ⟨7, _⟩ => exact (B.wkv7_at i j).trans (B.hs7_at i j)
  | ⟨8, _⟩ => exact (B.wkv8_at i j).trans (B.hs8_at i j)
  | ⟨9, _⟩ => exact (B.wkv9_at i j).trans (B.hs9_at i j)
  | ⟨10, _⟩ => exact (B.wkv10_at i j).trans (B.hs10_at i j)
  | ⟨11, _⟩ => exact (B.wkv11_at i j).trans (B.hs11_at i j)
  | ⟨12, _⟩ => exact (B.wkv12_at i j).trans (B.hs12_at i j)
  | ⟨13, _⟩ => exact (B.wkv13_at i j).trans (B.hs13_at i j)
  | ⟨14, _⟩ => exact (B.wkv14_at i j).trans (B.hs14_at i j)
  | ⟨15, _⟩ => exact (B.wkv15_at i j).trans (B.hs15_at i j)
  | ⟨q + 16, hq⟩ => exact absurd hq (by omega)
end Blks

section
variable {A : Args} (N : A.Num) {S0 : S16x16x64x64.Idx → EReal} (hS : ∀ n h i j, Fine (S0 (ix4 n h i j))) {n : Fin 16} {B : Blks} (H : Holds A S0 n B)
include N hS H

theorem ups0 :
    (Up B.gLw0 (fun h => Wkv.rows (A.LW n (head 0 h))) ∧ Up B.gK0 (fun h => Wkv.rows (A.KK n (head 0 h))) ∧ Up B.gV0 (fun h => Wkv.rows (A.VV n (head 0 h))) ∧ Up B.gKn0 (fun h => Wkv.rows (A.NN n (head 0 h)))
      ∧ Up B.gB0 (fun h => Wkv.rows (A.BB n (head 0 h))) ∧ Up B.gR0 (fun h => Wkv.rows (A.RR n (head 0 h))) ∧ Up B.gS0 (fun h => Args.Z0 S0 n (head 0 h))) :=
  ⟨fun t h d => (B.gLw0_at t d h).trans ((H.lw_at t _).trans (N.LW n _ t d)),
    fun t h d => (B.gK0_at t d h).trans ((H.k_at t _).trans (N.KK n _ t d)),
    fun t h d => (B.gV0_at t d h).trans ((H.v_at t _).trans (N.VV n _ t d)),
    fun t h d => (B.gKn0_at t d h).trans ((H.kn_at t _ d).trans (N.NN n _ t d)),
    fun t h d => (B.gB0_at t d h).trans ((H.b_at t _ d).trans (N.BB n _ t d)),
    fun t h d => (B.gR0_at t d h).trans ((H.r_at t _).trans (N.RR n _ t d)),
    fun i h j => (B.gS0_at i j h).trans ((H.h9 _ i j).trans (toReal_coe (hS n _ i j)))⟩

theorem yg0_val (t i : Fin 64) (h : Fin 4) : B.yg0 (ix2 t (lane h i)) = (A.Yt S0 n (head 0 h) t i : ℝ) := by
  obtain ⟨a, b, c, d, e, f, s⟩ := ups0 N hS H
  unfold Blks.yg0
  rw [gy0, msk_eq]
  exact (up_y own_own str inc tri a b c d e f s t h i).trans (congrArg _ (Wkv.ym_eq _ _ _ _ _ _ _ t i))

theorem sg0_val (i j : Fin 64) (h : Fin 4) : B.sg0 (ix2 i (lane h j)) = (A.St S0 n (head 0 h) 64 i j : ℝ) := by
  obtain ⟨a, b, c, d, e, f, s⟩ := ups0 N hS H
  unfold Blks.sg0
  rw [gs0, msk_eq]
  exact (up_s own_own str inc tri a b c d e f s i h j).trans (congrArg _ (Wkv.sm_eq _ _ _ _ _ _ i j))

theorem ups1 :
    (Up B.gLw1 (fun h => Wkv.rows (A.LW n (head 1 h))) ∧ Up B.gK1 (fun h => Wkv.rows (A.KK n (head 1 h))) ∧ Up B.gV1 (fun h => Wkv.rows (A.VV n (head 1 h))) ∧ Up B.gKn1 (fun h => Wkv.rows (A.NN n (head 1 h)))
      ∧ Up B.gB1 (fun h => Wkv.rows (A.BB n (head 1 h))) ∧ Up B.gR1 (fun h => Wkv.rows (A.RR n (head 1 h))) ∧ Up B.gS1 (fun h => Args.Z0 S0 n (head 1 h))) :=
  ⟨fun t h d => (B.gLw1_at t d h).trans ((H.lw_at t _).trans (N.LW n _ t d)),
    fun t h d => (B.gK1_at t d h).trans ((H.k_at t _).trans (N.KK n _ t d)),
    fun t h d => (B.gV1_at t d h).trans ((H.v_at t _).trans (N.VV n _ t d)),
    fun t h d => (B.gKn1_at t d h).trans ((H.kn_at t _ d).trans (N.NN n _ t d)),
    fun t h d => (B.gB1_at t d h).trans ((H.b_at t _ d).trans (N.BB n _ t d)),
    fun t h d => (B.gR1_at t d h).trans ((H.r_at t _).trans (N.RR n _ t d)),
    fun i h j => (B.gS1_at i j h).trans ((H.h9 _ i j).trans (toReal_coe (hS n _ i j)))⟩

theorem yg1_val (t i : Fin 64) (h : Fin 4) : B.yg1 (ix2 t (lane h i)) = (A.Yt S0 n (head 1 h) t i : ℝ) := by
  obtain ⟨a, b, c, d, e, f, s⟩ := ups1 N hS H
  unfold Blks.yg1
  rw [gy1, msk_eq]
  exact (up_y own_own str inc tri a b c d e f s t h i).trans (congrArg _ (Wkv.ym_eq _ _ _ _ _ _ _ t i))

theorem sg1_val (i j : Fin 64) (h : Fin 4) : B.sg1 (ix2 i (lane h j)) = (A.St S0 n (head 1 h) 64 i j : ℝ) := by
  obtain ⟨a, b, c, d, e, f, s⟩ := ups1 N hS H
  unfold Blks.sg1
  rw [gs1, msk_eq]
  exact (up_s own_own str inc tri a b c d e f s i h j).trans (congrArg _ (Wkv.sm_eq _ _ _ _ _ _ i j))

theorem ups2 :
    (Up B.gLw2 (fun h => Wkv.rows (A.LW n (head 2 h))) ∧ Up B.gK2 (fun h => Wkv.rows (A.KK n (head 2 h))) ∧ Up B.gV2 (fun h => Wkv.rows (A.VV n (head 2 h))) ∧ Up B.gKn2 (fun h => Wkv.rows (A.NN n (head 2 h)))
      ∧ Up B.gB2 (fun h => Wkv.rows (A.BB n (head 2 h))) ∧ Up B.gR2 (fun h => Wkv.rows (A.RR n (head 2 h))) ∧ Up B.gS2 (fun h => Args.Z0 S0 n (head 2 h))) :=
  ⟨fun t h d => (B.gLw2_at t d h).trans ((H.lw_at t _).trans (N.LW n _ t d)),
    fun t h d => (B.gK2_at t d h).trans ((H.k_at t _).trans (N.KK n _ t d)),
    fun t h d => (B.gV2_at t d h).trans ((H.v_at t _).trans (N.VV n _ t d)),
    fun t h d => (B.gKn2_at t d h).trans ((H.kn_at t _ d).trans (N.NN n _ t d)),
    fun t h d => (B.gB2_at t d h).trans ((H.b_at t _ d).trans (N.BB n _ t d)),
    fun t h d => (B.gR2_at t d h).trans ((H.r_at t _).trans (N.RR n _ t d)),
    fun i h j => (B.gS2_at i j h).trans ((H.h9 _ i j).trans (toReal_coe (hS n _ i j)))⟩

theorem yg2_val (t i : Fin 64) (h : Fin 4) : B.yg2 (ix2 t (lane h i)) = (A.Yt S0 n (head 2 h) t i : ℝ) := by
  obtain ⟨a, b, c, d, e, f, s⟩ := ups2 N hS H
  unfold Blks.yg2
  rw [gy2, msk_eq]
  exact (up_y own_own str inc tri a b c d e f s t h i).trans (congrArg _ (Wkv.ym_eq _ _ _ _ _ _ _ t i))

theorem sg2_val (i j : Fin 64) (h : Fin 4) : B.sg2 (ix2 i (lane h j)) = (A.St S0 n (head 2 h) 64 i j : ℝ) := by
  obtain ⟨a, b, c, d, e, f, s⟩ := ups2 N hS H
  unfold Blks.sg2
  rw [gs2, msk_eq]
  exact (up_s own_own str inc tri a b c d e f s i h j).trans (congrArg _ (Wkv.sm_eq _ _ _ _ _ _ i j))

theorem ups3 :
    (Up B.gLw3 (fun h => Wkv.rows (A.LW n (head 3 h))) ∧ Up B.gK3 (fun h => Wkv.rows (A.KK n (head 3 h))) ∧ Up B.gV3 (fun h => Wkv.rows (A.VV n (head 3 h))) ∧ Up B.gKn3 (fun h => Wkv.rows (A.NN n (head 3 h)))
      ∧ Up B.gB3 (fun h => Wkv.rows (A.BB n (head 3 h))) ∧ Up B.gR3 (fun h => Wkv.rows (A.RR n (head 3 h))) ∧ Up B.gS3 (fun h => Args.Z0 S0 n (head 3 h))) :=
  ⟨fun t h d => (B.gLw3_at t d h).trans ((H.lw_at t _).trans (N.LW n _ t d)),
    fun t h d => (B.gK3_at t d h).trans ((H.k_at t _).trans (N.KK n _ t d)),
    fun t h d => (B.gV3_at t d h).trans ((H.v_at t _).trans (N.VV n _ t d)),
    fun t h d => (B.gKn3_at t d h).trans ((H.kn_at t _ d).trans (N.NN n _ t d)),
    fun t h d => (B.gB3_at t d h).trans ((H.b_at t _ d).trans (N.BB n _ t d)),
    fun t h d => (B.gR3_at t d h).trans ((H.r_at t _).trans (N.RR n _ t d)),
    fun i h j => (B.gS3_at i j h).trans ((H.h9 _ i j).trans (toReal_coe (hS n _ i j)))⟩

theorem yg3_val (t i : Fin 64) (h : Fin 4) : B.yg3 (ix2 t (lane h i)) = (A.Yt S0 n (head 3 h) t i : ℝ) := by
  obtain ⟨a, b, c, d, e, f, s⟩ := ups3 N hS H
  unfold Blks.yg3
  rw [gy3, msk_eq]
  exact (up_y own_own str inc tri a b c d e f s t h i).trans (congrArg _ (Wkv.ym_eq _ _ _ _ _ _ _ t i))

theorem sg3_val (i j : Fin 64) (h : Fin 4) : B.sg3 (ix2 i (lane h j)) = (A.St S0 n (head 3 h) 64 i j : ℝ) := by
  obtain ⟨a, b, c, d, e, f, s⟩ := ups3 N hS H
  unfold Blks.sg3
  rw [gs3, msk_eq]
  exact (up_s own_own str inc tri a b c d e f s i h j).trans (congrArg _ (Wkv.sm_eq _ _ _ _ _ _ i j))

/-- The readings of one grid step. -/
theorem ys_val (t i : Fin 64) (K : Fin 16) : B.ys (ix2 t (col K i)) = (A.Yt S0 n K t i : ℝ) := by
  obtain ⟨g, h, rfl⟩ := exists_head K
  rw [B.ys_at]
  match g with
  | 0 => exact (B.ys0_at t i h).trans (yg0_val N hS H t i h)
  | 1 => exact (B.ys1_at t i h).trans (yg1_val N hS H t i h)
  | 2 => exact (B.ys2_at t i h).trans (yg2_val N hS H t i h)
  | 3 => exact (B.ys3_at t i h).trans (yg3_val N hS H t i h)

/-- The last state of one grid step. -/
theorem wkv_val (i j : Fin 64) (K : Fin 16) : B.wkv (ix4 0 K i j) = (A.St S0 n K 64 i j : ℝ) := by
  obtain ⟨g, h, rfl⟩ := exists_head K
  rw [B.wkv_at]
  match g with
  | 0 => exact (B.fin0_at i j h).trans (sg0_val N hS H i j h)
  | 1 => exact (B.fin1_at i j h).trans (sg1_val N hS H i j h)
  | 2 => exact (B.fin2_at i j h).trans (sg2_val N hS H i j h)
  | 3 => exact (B.fin3_at i j h).trans (sg3_val N hS H i j h)
end

end Cert.Mixer

end
-- ==== Proof.Mix.MixAgree.lean ====
/-
  The mixer agrees with the plain one: its five results, from the blocks its grid steps write back.
-/
module

public import proofs.«01_k».proof.Proof.Mix.State
public import proofs.«01_k».proof.Proof.Mix.Conv
public import proofs.«01_k».proof.Defs
public import proofs.«01_k».proof.Proof.Gen.Pre_finite_args

@[expose] public section

set_option maxRecDepth 16384

noncomputable section

open Idealize.ShloMosaic Idealize.ShloMosaic.TcCoe Idealize.SL.Sem
open Idealize.ShloMosaic.Pipeline (Dat)

namespace Cert.Mixer

open Cert.KernelIdeal Cert.KernelIdeal.Gen Cert.ReferenceIdeal.Step

theorem e23 : ∀ t : Fin cfg0.N, win0_23.index t = ![(grid0.coords t 0).val, 0, 0] := (by decide +kernel : ∀ t : Fin grid0.N, _)
theorem e24 : ∀ t : Fin cfg0.N, win0_24.index t = ![(grid0.coords t 0).val, 0, 0] := (by decide +kernel : ∀ t : Fin grid0.N, _)
theorem e25 : ∀ t : Fin cfg0.N, win0_25.index t = ![(grid0.coords t 0).val, 0, 0] := (by decide +kernel : ∀ t : Fin grid0.N, _)
theorem e26 : ∀ t : Fin cfg0.N, win0_26.index t = ![(grid0.coords t 0).val, 0, 0] := (by decide +kernel : ∀ t : Fin grid0.N, _)
theorem e27 : ∀ t : Fin cfg0.N, win0_27.index t = ![(grid0.coords t 0).val, 0, 0, 0] := (by decide +kernel : ∀ t : Fin grid0.N, _)

variable (m : (ℓ : Loc nD τ sig) → Buf (Elt Ideal) ℓ) (c : Dev nD)

/-- The convolution's result. -/
theorem final23 (s : State Ideal) : (dats m 0 c).arrAt 23 cfg0.N = R_main_v175 (F := Ideal) s (arg0 m c) (arg1 m c) (arg4 m c) := by
  refine (dats m 0 c).arrAt_eq_of_covers 23 _ (by decide +kernel) fun t hf y => ?_
  blk_simp
  rw [after0_23]
  change S1x64x1024.Idx at y
  idx_vars y
  obtain rfl : y0 = 0 := Subsingleton.elim _ _
  have ey : ((View.whole main_v24_0).slice (win0_23.rect t)).emb (ix3 0 y1 y2) = ix3 (bt t) y1 y2 := by
    unfold bt; blk_ext [e23]
  rw [ey]
  exact out175 m c s t y1 y2

/-- The convolution's last rows. -/
theorem final25 (s : State Ideal) : (dats m 0 c).arrAt 25 cfg0.N = R_main_v177 (F := Ideal) s (arg0 m c) (arg1 m c) := by
  refine (dats m 0 c).arrAt_eq_of_covers 25 _ (by decide +kernel) fun t hf y => ?_
  blk_simp
  rw [after0_25]
  change S1x2x1024.Idx at y
  idx_vars y
  obtain rfl : y0 = 0 := Subsingleton.elim _ _
  have ey : ((View.whole main_v24_2).slice (win0_25.rect t)).emb (ix3 0 y1 y2) = ix3 (bt t) y1 y2 := by
    unfold bt; blk_ext [e25]
  rw [ey]
  exact out177 m c s t y1 y2

/-- The shifted columns' last row. -/
theorem final26 (s : State Ideal) : (dats m 0 c).arrAt 26 cfg0.N = R_main_v178 (F := Ideal) s (arg0 m c) := by
  refine (dats m 0 c).arrAt_eq_of_covers 26 _ (by decide +kernel) fun t hf y => ?_
  blk_simp
  rw [after0_26]
  change S1x1x3584.Idx at y
  idx_vars y
  obtain rfl : y0 = 0 := Subsingleton.elim _ _
  obtain rfl : y1 = 0 := Subsingleton.elim _ _
  have ey : ((View.whole main_v24_3).slice (win0_26.rect t)).emb (ix3 0 0 y2) = ix3 (bt t) 0 y2 := by
    unfold bt; blk_ext [e26]
  rw [ey]
  exact out178 m c s t y2

theorem exists_col' (j : Fin 1024) : ∃ h d, j = col h d :=
  ⟨⟨j / 64, by omega⟩, ⟨j % 64, by omega⟩, Fin.ext (by show j.val = j.val / 64 * 64 + j.val % 64; omega)⟩

section
variable (N : (args m c).Num) (hS : ∀ n h i j, Fine (arg3 m c (ix4 n h i j))) (s : State Ideal)
include N hS

theorem out176 (hy : ∀ (t : Fin 64) n h i, (s.main_v69_8 (ix4 t n h i) : EReal) = ((args m c).Yt (arg3 m c) n h t i : ℝ))
    (t : Fin cfg0.N) (r : Fin 64) (j : Fin 1024) :
    (outsAt0 m c t).2.1 (ix3 0 r j) = R_main_v176 (F := Ideal) s (args m c).A0 (args m c).A2 (args m c).A5 (args m c).A8 (args m c).A9
      (args m c).A10 (args m c).A12 (args m c).A13 (args m c).A14 (args m c).A15 (ix3 (bt t) r j) := by
  have H := holds m c t
  obtain ⟨h, d, rfl⟩ := exists_col' j
  rw [out_mixr, ref_post]
  refine (norm_at _ H.bd_at r h d _ _ _ _ _).trans ?_
  rw [H.h20, H.h21, H.bo_at, H.ga_at]
  exact congrArg (fun y => post y _ _ _ _ d) (funext fun e => (ys_val N hS H r e h).trans (hy r (bt t) h e).symm)

/-- The recurrence's result. -/
theorem final24 (hy : ∀ (t : Fin 64) n h i, (s.main_v69_8 (ix4 t n h i) : EReal) = ((args m c).Yt (arg3 m c) n h t i : ℝ)) :
    (dats m 0 c).arrAt 24 cfg0.N = R_main_v176 (F := Ideal) s (args m c).A0 (args m c).A2 (args m c).A5 (args m c).A8 (args m c).A9
      (args m c).A10 (args m c).A12 (args m c).A13 (args m c).A14 (args m c).A15 := by
  refine (dats m 0 c).arrAt_eq_of_covers 24 _ (by decide +kernel) fun t hf y => ?_
  blk_simp
  rw [after0_24]
  change S1x64x1024.Idx at y
  idx_vars y
  obtain rfl : y0 = 0 := Subsingleton.elim _ _
  have ey : ((View.whole main_v24_1).slice (win0_24.rect t)).emb (ix3 0 y1 y2) = ix3 (bt t) y1 y2 := by
    unfold bt; blk_ext [e24]
  rw [ey]
  exact out176 m c N hS s hy t y1 y2

/-- The last states. -/
theorem final27 (hy : ∀ n h i j, (s.main_v69_7 (ix4 n h i j) : EReal) = ((args m c).St (arg3 m c) n h 64 i j : ℝ)) :
    (dats m 0 c).arrAt 27 cfg0.N = s.main_v69_7 := by
  refine (dats m 0 c).arrAt_eq_of_covers 27 _ (by decide +kernel) fun t hf y => ?_
  blk_simp
  rw [after0_27]
  change S1x16x64x64.Idx at y
  idx_vars y
  obtain rfl : y0 = 0 := Subsingleton.elim _ _
  have ey : ((View.whole main_v24_4).slice (win0_27.rect t)).emb (ix4 0 y1 y2 y3) = ix4 (bt t) y1 y2 y3 := by
    unfold bt; blk_ext [e27]
  rw [ey, out_wkv]
  exact (wkv_val N hS (holds m c t) y2 y3 y1).trans (hy _ _ _ _).symm
end

section Precondition

theorem fine_of_lt {s : Shape} (x : FVec Ideal s .f32) (z : FVec Ideal s .f32) (i : s.Idx) (hz : z i = Ideal.ofBits .f32 0x7F800000#32)
    (h : cmpf .olt (Host.absf x) z i = 1#1) : Fine (x i) := by
  have e : Ideal.ofBits .f32 0x7F800000#32 = ⊤ := by simp [Ideal.ofBits, Ideal.ieee]
  have hx : max (x i) (-(x i)) < (⊤ : EReal) := by
    have h' : BitVec.ofBool (decide (max (x i) (-(x i)) < z i)) = 1#1 := h
    rw [hz, e] at h'
    by_contra hn
    rw [decide_eq_false hn] at h'
    exact absurd h' (by decide)
  have h1 : x i ≠ ⊤ := fun q => by rw [q] at hx; simp at hx
  have h2 : x i ≠ ⊥ := fun q => by rw [q] at hx; simp at hx
  exact ⟨(x i).toReal, (EReal.coe_toReal h1 h2).symm⟩

theorem num_of_pre (hp : Pre_KernelIdeal_finite_args (hPre_finite_args := Cert.Pre_finite_args.Gen.facts) m) :
    (args m c).Num ∧ ∀ n h i j, Fine (arg3 m c (ix4 n h i j)) := by
  obtain ⟨q0, q2, q3, q5, q6, q7, q8, q9, q11, q12⟩ := hp c
  refine ⟨⟨fun n t j h1 h2 => ?_, fun n j h1 => ?_, fun j h1 => ?_, fun j => ?_, fun i j => ?_, fun j => ?_, fun i j => ?_, fun j => ?_, fun j => ?_⟩, fun n h i j => ?_⟩
  · have g := fine_of_lt _ _ (ix3 n t ⟨j.val - 3072, by omega⟩) rfl (congrFun q0 _)
    have e : extractStridedSlice Cert.Pre_finite_args.S16x64x3200 ![0, 0, 3072] ((args m c).A0) (by decide) (ix3 n t ⟨j.val - 3072, by omega⟩) = (args m c).A0 (ix3 n t j) := by
      refine congrArg (args m c).A0 (funext fun a => Fin.ext ?_)
      match a with
      | 0 => show 0 + n.val = n.val; omega
      | 1 => show 0 + t.val = t.val; omega
      | 2 => show 3072 + (j.val - 3072) = j.val; omega
    exact e ▸ g
  · have g := fine_of_lt _ _ (ix3 n 0 ⟨j.val, h1⟩) rfl (congrFun q2 _)
    have e : extractStridedSlice Cert.Pre_finite_args.S16x1x3200 ![0, 0, 0] ((args m c).A2) (by decide) (ix3 n 0 ⟨j.val, h1⟩) = (args m c).A2 (ix3 n 0 j) := by
      refine congrArg (args m c).A2 (funext fun a => Fin.ext ?_)
      match a with
      | 0 => show 0 + n.val = n.val; omega
      | 1 => rfl
      | 2 => show 0 + j.val = j.val; omega
    exact e ▸ g
  · have g := fine_of_lt _ _ (ix1 ⟨j.val, h1⟩) rfl (congrFun q5 _)
    have e : extractStridedSlice Cert.Pre_finite_args.S3200 ![0] ((args m c).A5) (by decide) (ix1 ⟨j.val, h1⟩) = (args m c).A5 (ix1 j) := by
      refine congrArg (args m c).A5 (funext fun a => Fin.ext ?_)
      match a with
      | 0 => show 0 + j.val = j.val; omega
    exact e ▸ g
  · exact fine_of_lt _ _ (ix1 j) rfl (congrFun q6 _)
  · exact fine_of_lt _ _ (ix2 i j) rfl (congrFun q7 _)
  · exact fine_of_lt _ _ (ix1 j) rfl (congrFun q8 _)
  · exact fine_of_lt _ _ (ix2 i j) rfl (congrFun q9 _)
  · exact fine_of_lt _ _ (ix1 j) rfl (congrFun q11 _)
  · exact fine_of_lt _ _ (ix1 j) rfl (congrFun q12 _)
  · exact fine_of_lt _ _ (ix4 n h i j) rfl (congrFun q3 _)
end Precondition

/-- The recurrence's states, trip by trip. -/
def trail (A : Args) (S0 : Cert.ReferenceIdeal.S16x16x64x64.Idx → EReal) : ℕ → State Ideal
  | 0 => Cert.ReferenceIdeal.Step.init (F := Ideal) S0 A.A0 A.A2 A.A5 A.A6 A.A7 A.A8 A.A9 A.A11 A.A12
  | k + 1 => Cert.ReferenceIdeal.Step.step k (trail A S0 k)

end Cert.Mixer

namespace Cert.Proof

open Cert.Mixer

/-- From memories agreeing on the arguments, numbers where the recurrence reads them, the blocked mixer and the plain one
end with equal results. -/
theorem mix_agree : algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m g m' g' hp hag
  let it : Dev Cert.ReferenceIdeal.nD → ℕ → Cert.ReferenceIdeal.Step.State Ideal := fun c => trail (args m c) (arg3 m c)
  have h0 : ∀ c, it c 0 = Cert.ReferenceIdeal.StepRun.initState m' c := fun c => by
    obtain ⟨a0, a1, a2, a3, a4, a5, a6, a7, a8, a9, a10, a11, a12, a13, a14, a15⟩ := hag c
    show Cert.ReferenceIdeal.Step.init (F := Ideal) _ _ _ _ _ _ _ _ _ _ = Cert.ReferenceIdeal.Step.init (F := Ideal) _ _ _ _ _ _ _ _ _ _
    rw [a0, a2, a3, a5, a6, a7, a8, a9, a11, a12]
    rfl
  have key : ∀ c, (args m c).Num ∧ ∀ n h i j, Fine (arg3 m c (ix4 n h i j)) := fun c => num_of_pre m c hp
  have tr := fun c => trips (key c).1 (it c) rfl (fun _ => rfl) (key c).2 64 le_rfl
  refine ⟨_, _, _, _, _, Cert.KernelIdeal.Value.run_blocks m g, ?_⟩
  refine (θ_run (Cert.ReferenceIdeal.defs (F := Ideal)) _ _).mono (fun r h c => ?_)
    (Cert.ReferenceIdeal.StepRun.run_iter (F := Ideal) m' g' it h0 (fun _ _ => rfl))
  obtain ⟨a0, a1, a2, a3, a4, a5, a6, a7, a8, a9, a10, a11, a12, a13, a14, a15⟩ := hag c
  obtain ⟨r0, r1, r2, r3, r4, rest⟩ := h c
  refine ⟨r0.trans ?_, r1.trans ?_, r2.trans ?_, r3.trans ?_, r4.trans ?_, rest⟩
  · rw [a0, a1, a4]; exact (final23 m c _).symm
  · rw [a0, a2, a5, a8, a9, a10, a12, a13, a14, a15]
    exact (final24 m c (key c).1 (key c).2 _ (fun t n h i => (tr c).2.2 t n h i t.isLt)).symm
  · rw [a0, a1]; exact (final25 m c _).symm
  · rw [a0]; exact (final26 m c _).symm
  · exact (final27 m c (key c).1 (key c).2 _ (tr c).2.1).symm

end Cert.Proof

end
-- ==== Proof.Ffn.lean ====
/-
  The feed-forward block: what the blocked kernel leaves in its result array, and that this is what the plain program
  computes. A block of 512 rows is normalised once, at the first of its eleven points, and kept in a scratch; each of the
  first ten points adds the contribution of 512 of the hidden columns to an accumulator, the last adds that of the
  remaining 384, normalises the sum and adds it to the block of rows.
-/
module

public import proofs.«01_k».proof.Proof.Gen.FfnIdeal.Frame
public import proofs.«01_k».proof.Proof.Gen.FfnRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Proj

open Cert.FfnIdeal Cert.FfnIdeal.Gen

variable (m : (ℓ : Loc nD τ sig) → Buf (Elt Ideal) ℓ) (c : Dev nD)

/-- One entry of a row normalised by its root mean square and scaled. -/
def nrm (h : Fin 2048 → EReal) (g : EReal) (k : Fin 2048) : EReal :=
  h k * Ideal.rsqrt (Ideal.div (∑ x, h x * h x) (Ideal.ofBits FTy.f32 1157627904#32) + Ideal.ofBits FTy.f32 897988541#32) * g

/-- The gated activation of a gate and an up value. -/
def act (a b : EReal) : EReal := a * Ideal.logistic a * b

/-- The normalised block, entry by entry. -/
theorem pay1_apply (x : Vec Ideal S512x2048 .f32) (g : Vec Ideal S1x2048 .f32) (r : Fin 512) (k : Fin 2048) :
    k0_pay1 x g (ix2 r k) = nrm (fun x' => x (ix2 r x')) (g (ix2 0 k)) k := by
  pointwise [k0_pay1]
  rfl

/-- The accumulator starts from zero. -/
theorem pay2_apply (r : Fin 512) (k : Fin 2048) : k0_pay2 (F := Ideal) (ix2 r k) = 0 := by
  pointwise [k0_pay2]

/-- The accumulator with the contribution of 512 hidden columns added, entry by entry. -/
theorem pay3_apply (z : Vec Ideal S512x2048 .bf16) (wg wu : Vec Ideal S2048x512 .bf16) (acc : Vec Ideal S512x2048 .f32)
    (wd : Vec Ideal S512x2048 .bf16) (r : Fin 512) (d : Fin 2048) :
    k0_pay3 z wg wu acc wd (ix2 r d) = acc (ix2 r d)
      + ∑ f : Fin 512, act (∑ k, z (ix2 r k) * wg (ix2 k f)) (∑ k, z (ix2 r k) * wu (ix2 k f)) * wd (ix2 f d) := by
  pointwise [k0_pay3]
  rfl

/-- The accumulator with the contribution of the last 384 hidden columns added, entry by entry. -/
theorem pay4_apply (z : Vec Ideal S512x2048 .bf16) (wg wu : Vec Ideal S2048x384 .bf16) (acc : Vec Ideal S512x2048 .f32)
    (wd : Vec Ideal S384x2048 .bf16) (r : Fin 512) (d : Fin 2048) :
    k0_pay4 z wg wu acc wd (ix2 r d) = acc (ix2 r d)
      + ∑ f : Fin 384, act (∑ k, z (ix2 r k) * wg (ix2 k f)) (∑ k, z (ix2 r k) * wu (ix2 k f)) * wd (ix2 f d) := by
  pointwise [k0_pay4]
  rfl

/-- The stored block, entry by entry: the rows and half of the normalised sum. -/
theorem pay5_apply (acc x : Vec Ideal S512x2048 .f32) (g : Vec Ideal S1x2048 .f32) (r : Fin 512) (d : Fin 2048) :
    k0_pay5 acc x g (ix2 r d) = x (ix2 r d)
      + Ideal.ofBits FTy.f32 1056964608#32 * nrm (fun x' => acc (ix2 r x')) (g (ix2 0 d)) d := by
  pointwise [k0_pay5]
  rfl

/-- The plain program's normalised rows, entry by entry. -/
theorem ref_z (x0 : S16384x2048.Idx → EReal) (x1 : S2048.Idx → EReal) (i : Fin 16384) (k : Fin 2048) :
    FfnRefIdeal.Read.val_main_v12 (F := Ideal) x0 x1 (ix2 i k) = nrm (fun x => x0 (ix2 i x)) (x1 (ix1 k)) k := by
  pointwise [FfnRefIdeal.Read.val_main_v12, FfnRefIdeal.Read.val_main_v11, FfnRefIdeal.Read.val_main_v10,
    FfnRefIdeal.Read.val_main_v9, FfnRefIdeal.Read.val_main_v8, FfnRefIdeal.Read.val_main_v7,
    FfnRefIdeal.Read.val_main_v6, FfnRefIdeal.Read.val_main_v5, FfnRefIdeal.Read.val_main_v4,
    FfnRefIdeal.Read.val_main_v3, FfnRefIdeal.Read.val_main_v2, FfnRefIdeal.Read.val_main_v1,
    FfnRefIdeal.Read.val_main_v0, FfnRefIdeal.Read.val_main_cst, FfnRefIdeal.Read.val_main_cst_0,
    FfnRefIdeal.Read.val_main_cst_1]
  rfl

/-- One term of the second product: hidden column `f`'s activation times its weight. -/
def term (x0 : S16384x2048.Idx → EReal) (x1 : S2048.Idx → EReal) (x2 x3 : S2048x5504.Idx → EReal) (x4 : S5504x2048.Idx → EReal)
    (i : Fin 16384) (d : Fin 2048) (f : Fin 5504) : EReal :=
  act (∑ k : Fin 2048, nrm (fun x => x0 (ix2 i x)) (x1 (ix1 k)) k * x2 (ix2 k f))
    (∑ k : Fin 2048, nrm (fun x => x0 (ix2 i x)) (x1 (ix1 k)) k * x3 (ix2 k f)) * x4 (ix2 f d)

/-- The plain program's second product, entry by entry. -/
theorem ref_acc (x0 : S16384x2048.Idx → EReal) (x1 : S2048.Idx → EReal) (x2 x3 : S2048x5504.Idx → EReal)
    (x4 : S5504x2048.Idx → EReal) (i : Fin 16384) (d : Fin 2048) :
    FfnRefIdeal.Read.val_main_v17 (F := Ideal) x0 x1 x2 x3 x4 (ix2 i d) = ∑ f : Fin 5504, term x0 x1 x2 x3 x4 i d f := by
  pointwise [FfnRefIdeal.Read.val_main_v17, FfnRefIdeal.Read.val_main_v16, FfnRefIdeal.Read.val_main_v15,
    FfnRefIdeal.Read.val_main_v14, FfnRefIdeal.Read.val_main_call0_v5, FfnRefIdeal.Read.val_main_call0_v4,
    FfnRefIdeal.Read.val_main_call0_v3, FfnRefIdeal.Read.val_main_call0_v2, FfnRefIdeal.Read.val_main_call0_v1,
    FfnRefIdeal.Read.val_main_call0_v0, FfnRefIdeal.Read.val_main_call0_cst, FfnRefIdeal.Read.val_main_call0_cst_0,
    FfnRefIdeal.Read.val_main_v13]
  simp only [ref_z]
  rfl

/-- The plain program's result, entry by entry. -/
theorem ref_apply (x0 : S16384x2048.Idx → EReal) (x1 : S2048.Idx → EReal) (x2 x3 : S2048x5504.Idx → EReal)
    (x4 : S5504x2048.Idx → EReal) (x5 : S2048.Idx → EReal) (i : Fin 16384) (d : Fin 2048) :
    FfnRefIdeal.Read.val_main_v33 (F := Ideal) x0 x1 x2 x3 x4 x5 (ix2 i d) = x0 (ix2 i d)
      + Ideal.ofBits FTy.f32 1056964608#32
        * nrm (fun d' => ∑ f : Fin 5504, term x0 x1 x2 x3 x4 i d' f) (x5 (ix1 d)) d := by
  pointwise [FfnRefIdeal.Read.val_main_v33, FfnRefIdeal.Read.val_main_v32, FfnRefIdeal.Read.val_main_v31,
    FfnRefIdeal.Read.val_main_v30, FfnRefIdeal.Read.val_main_v29, FfnRefIdeal.Read.val_main_v28,
    FfnRefIdeal.Read.val_main_v27, FfnRefIdeal.Read.val_main_v26, FfnRefIdeal.Read.val_main_v25,
    FfnRefIdeal.Read.val_main_v24, FfnRefIdeal.Read.val_main_v23, FfnRefIdeal.Read.val_main_v22,
    FfnRefIdeal.Read.val_main_v21, FfnRefIdeal.Read.val_main_v20, FfnRefIdeal.Read.val_main_v19,
    FfnRefIdeal.Read.val_main_v18, FfnRefIdeal.Read.val_main_cst_2, FfnRefIdeal.Read.val_main_cst_3,
    FfnRefIdeal.Read.val_main_cst_4, FfnRefIdeal.Read.val_main_cst_5]
  simp only [ref_acc]
  rfl

/-- The region finds the scale of the first norm as a row. -/
theorem V_g : V m c main_v0 = shapeCast S1x2048 (m ((c : Thread nD τ).loc main_arg1) : S2048.Idx → EReal) shapeCasts_S2048_S1x2048 := by
  show StableHlo.after (hostOps0 : List (HloOp τ sig (Elt Ideal))) (fun b => m (c, b)) (Proc.devRef .tc main_v0) = _
  simp only [hostOps0]
  after_results
  rfl

/-- The region finds the scale of the second norm as a row. -/
theorem V_g' : V m c main_v4 = shapeCast S1x2048 (m ((c : Thread nD τ).loc main_arg5) : S2048.Idx → EReal) shapeCasts_S2048_S1x2048 := by
  show StableHlo.after (hostOps0 : List (HloOp τ sig (Elt Ideal))) (fun b => m (c, b)) (Proc.devRef .tc main_v4) = _
  simp only [hostOps0]
  after_results
  rfl

/-- The region finds the gate weight cast. -/
theorem V_wg : V m c main_v1 = truncf (F := Ideal) .bf16 (m ((c : Thread nD τ).loc main_arg2) : S2048x5504.Idx → EReal) bitsLt_bf16_f32 := by
  show StableHlo.after (hostOps0 : List (HloOp τ sig (Elt Ideal))) (fun b => m (c, b)) (Proc.devRef .tc main_v1) = _
  simp only [hostOps0]
  after_results

/-- The region finds the up weight cast. -/
theorem V_wu : V m c main_v2 = truncf (F := Ideal) .bf16 (m ((c : Thread nD τ).loc main_arg3) : S2048x5504.Idx → EReal) bitsLt_bf16_f32 := by
  show StableHlo.after (hostOps0 : List (HloOp τ sig (Elt Ideal))) (fun b => m (c, b)) (Proc.devRef .tc main_v2) = _
  simp only [hostOps0]
  after_results

/-- The region finds the down weight cast. -/
theorem V_wd : V m c main_v3 = truncf (F := Ideal) .bf16 (m ((c : Thread nD τ).loc main_arg4) : S5504x2048.Idx → EReal) bitsLt_bf16_f32 := by
  show StableHlo.after (hostOps0 : List (HloOp τ sig (Elt Ideal))) (fun b => m (c, b)) (Proc.devRef .tc main_v3) = _
  simp only [hostOps0]
  after_results

/-- The region finds the last columns of the gate weight. -/
theorem V_wg2 : V m c main_v5 = extractStridedSlice S2048x384 ![0, 5120] (truncf (F := Ideal) .bf16
    (m ((c : Thread nD τ).loc main_arg2) : S2048x5504.Idx → EReal) bitsLt_bf16_f32) slices_S2048x5504_S2048x384_0_5120 := by
  show StableHlo.after (hostOps0 : List (HloOp τ sig (Elt Ideal))) (fun b => m (c, b)) (Proc.devRef .tc main_v5) = _
  simp only [hostOps0]
  after_results

/-- The region finds the last columns of the up weight. -/
theorem V_wu2 : V m c main_v6 = extractStridedSlice S2048x384 ![0, 5120] (truncf (F := Ideal) .bf16
    (m ((c : Thread nD τ).loc main_arg3) : S2048x5504.Idx → EReal) bitsLt_bf16_f32) slices_S2048x5504_S2048x384_0_5120 := by
  show StableHlo.after (hostOps0 : List (HloOp τ sig (Elt Ideal))) (fun b => m (c, b)) (Proc.devRef .tc main_v6) = _
  simp only [hostOps0]
  after_results

/-- The region finds the last rows of the down weight. -/
theorem V_wd2 : V m c main_v7 = extractStridedSlice S384x2048 ![5120, 0] (truncf (F := Ideal) .bf16
    (m ((c : Thread nD τ).loc main_arg4) : S5504x2048.Idx → EReal) bitsLt_bf16_f32) slices_S5504x2048_S384x2048_5120_0 := by
  show StableHlo.after (hostOps0 : List (HloOp τ sig (Elt Ideal))) (fun b => m (c, b)) (Proc.devRef .tc main_v7) = _
  simp only [hostOps0]
  after_results

/-- The last columns of a weight, entry by entry. -/
theorem tail_w (x : S2048x5504.Idx → EReal) (k : Fin 2048) (f : Fin 384) :
    (extractStridedSlice S2048x384 ![0, 5120] (truncf (F := Ideal) .bf16 x bitsLt_bf16_f32)
      slices_S2048x5504_S2048x384_0_5120 : S2048x384.Idx → EReal) (ix2 k f) = x (ix2 k ⟨5120 + f.val, by omega⟩) := by
  pointwise

/-- The last rows of a weight, entry by entry. -/
theorem tail_d (x : S5504x2048.Idx → EReal) (f : Fin 384) (k : Fin 2048) :
    (extractStridedSlice S384x2048 ![5120, 0] (truncf (F := Ideal) .bf16 x bitsLt_bf16_f32)
      slices_S5504x2048_S384x2048_5120_0 : S384x2048.Idx → EReal) (ix2 f k) = x (ix2 ⟨5120 + f.val, by omega⟩ k) := by
  pointwise

theorem e0 : ∀ t : Fin cfg0.N, win0_0.index t = ![t.val / 11, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, min (t.val % 11) 9] := (by decide +kernel : ∀ t : Fin grid0.N, _)
theorem e3 : ∀ t : Fin cfg0.N, win0_3.index t = ![0, min (t.val % 11) 9] := (by decide +kernel : ∀ t : Fin grid0.N, _)
theorem e4 : ∀ t : Fin cfg0.N, win0_4.index t = ![min (t.val % 11) 9, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![t.val / 11, 0] := (by decide +kernel : ∀ t : Fin grid0.N, _)

/-- The row of the whole arrays that row `r` of point `t`'s block is. -/
def row (t : Fin cfg0.N) (r : Fin 512) : Fin 16384 := ⟨t.val / 11 * 512 + r.val, by
  have := lt_of_lt_of_eq t.isLt (show cfg0.N = 352 from N_0); omega⟩

/-- The hidden column that column `f` of point `t`'s block of the weights is. -/
def hid (t : Fin cfg0.N) (f : Fin 512) : Fin 5504 := ⟨min (t.val % 11) 9 * 512 + f.val, by omega⟩

theorem blk0 (t : Fin cfg0.N) (r : Fin 512) (j : Fin 2048) :
    iblk m c 0 t (ix2 r j) = m ((c : Thread nD τ).loc main_arg0) (ix2 (row t r) j) := by
  show V m c main_arg0 (((cfg0.win 0).blk t).view.emb (ix2 r j)) = _
  rw [V_main_arg0]; unfold row; congr 1; blk_ext [e0]

theorem blk1 (t : Fin cfg0.N) (j : Fin 2048) :
    iblk m c 1 t (ix2 0 j) = m ((c : Thread nD τ).loc main_arg1) (ix1 j) := by
  show V m c main_v0 (((cfg0.win 1).blk t).view.emb (ix2 0 j)) = _
  have e : ((cfg0.win 1).blk t).view.emb (ix2 0 j) = ix2 0 j := by blk_ext [e1]
  rw [V_g]
  refine (congrArg _ e).trans ?_
  pointwise

theorem blk8 (t : Fin cfg0.N) (j : Fin 2048) :
    iblk m c 8 t (ix2 0 j) = m ((c : Thread nD τ).loc main_arg5) (ix1 j) := by
  show V m c main_v4 (((cfg0.win 8).blk t).view.emb (ix2 0 j)) = _
  have e : ((cfg0.win 8).blk t).view.emb (ix2 0 j) = ix2 0 j := by blk_ext [e8]
  rw [V_g']
  refine (congrArg _ e).trans ?_
  pointwise

theorem blk2 (t : Fin cfg0.N) (k : Fin 2048) (f : Fin 512) :
    X0_2 m c t (ix2 k f) = m ((c : Thread nD τ).loc main_arg2) (ix2 k (hid t f)) := by
  unfold X0_2 Pipeline.Window.fill
  rw [dif_pos (moved0_2 t _)]
  refine (congrFun (V_wg m c) (((cfg0.win 2).blk t).view.emb _)).trans ?_
  show (m ((c : Thread nD τ).loc main_arg2)) _ = _
  unfold hid; congr 1; blk_ext [e2]

theorem blk3 (t : Fin cfg0.N) (k : Fin 2048) (f : Fin 512) :
    X0_3 m c t (ix2 k f) = m ((c : Thread nD τ).loc main_arg3) (ix2 k (hid t f)) := by
  unfold X0_3 Pipeline.Window.fill
  rw [dif_pos (moved0_3 t _)]
  refine (congrFun (V_wu m c) (((cfg0.win 3).blk t).view.emb _)).trans ?_
  show (m ((c : Thread nD τ).loc main_arg3)) _ = _
  unfold hid; congr 1; blk_ext [e3]

theorem blk4 (t : Fin cfg0.N) (f : Fin 512) (k : Fin 2048) :
    X0_4 m c t (ix2 f k) = m ((c : Thread nD τ).loc main_arg4) (ix2 (hid t f) k) := by
  unfold X0_4 Pipeline.Window.fill
  rw [dif_pos (moved0_4 t _)]
  refine (congrFun (V_wd m c) (((cfg0.win 4).blk t).view.emb _)).trans ?_
  show (m ((c : Thread nD τ).loc main_arg4)) _ = _
  unfold hid; congr 1; blk_ext [e4]

theorem blk5 (t : Fin cfg0.N) (k : Fin 2048) (f : Fin 384) :
    iblk m c 5 t (ix2 k f) = m ((c : Thread nD τ).loc main_arg2) (ix2 k ⟨5120 + f.val, by omega⟩) := by
  show V m c main_v5 (((cfg0.win 5).blk t).view.emb (ix2 k f)) = _
  have e : ((cfg0.win 5).blk t).view.emb (ix2 k f) = ix2 k f := by blk_ext [e5]
  rw [V_wg2]
  exact (congrArg _ e).trans (tail_w _ _ _)

theorem blk6 (t : Fin cfg0.N) (k : Fin 2048) (f : Fin 384) :
    iblk m c 6 t (ix2 k f) = m ((c : Thread nD τ).loc main_arg3) (ix2 k ⟨5120 + f.val, by omega⟩) := by
  show V m c main_v6 (((cfg0.win 6).blk t).view.emb (ix2 k f)) = _
  have e : ((cfg0.win 6).blk t).view.emb (ix2 k f) = ix2 k f := by blk_ext [e6]
  rw [V_wu2]
  exact (congrArg _ e).trans (tail_w _ _ _)

theorem blk7 (t : Fin cfg0.N) (f : Fin 384) (k : Fin 2048) :
    iblk m c 7 t (ix2 f k) = m ((c : Thread nD τ).loc main_arg4) (ix2 ⟨5120 + f.val, by omega⟩ k) := by
  show V m c main_v7 (((cfg0.win 7).blk t).view.emb (ix2 f k)) = _
  have e : ((cfg0.win 7).blk t).view.emb (ix2 f k) = ix2 f k := by blk_ext [e7]
  rw [V_wd2]
  exact (congrArg _ e).trans (tail_d _ _ _)

/-- A row of the whole arrays does not change between points of one block of rows. -/
theorem row_eq (s t : Fin cfg0.N) (h : s.val / 11 = t.val / 11) (r : Fin 512) : row s r = row t r :=
  Fin.ext (by unfold row; simp only [h])

/-- The first scratch after point `n` holds the normalised block of that point's rows. -/
theorem scratch : ∀ (n : ℕ) (h : n < cfg0.N), (outsAt0 m c n h).2.1 = k0_pay1 (iblk m c 0 ⟨n, h⟩) (iblk m c 1 ⟨n, h⟩) := by
  intro n
  induction n with
  | zero =>
    intro h
    rw [outsAt0_A m c ⟨0, h⟩ rfl (by norm_num) (by norm_num) (by norm_num)]
    frame_out
  | succ n ih =>
    intro h
    have hN := lt_of_lt_of_eq h (show cfg0.N = 352 from N_0)
    have key : ¬(n + 1) % 11 = 0 → (outsAt0 m c n (Nat.lt_of_succ_lt h)).2.1
        = k0_pay1 (iblk m c 0 ⟨n + 1, h⟩) (iblk m c 1 ⟨n + 1, h⟩) := fun h0 => by
      refine (ih (Nat.lt_of_succ_lt h)).trans ?_
      have hrow : ∀ r, row ⟨n, Nat.lt_of_succ_lt h⟩ r = row ⟨n + 1, h⟩ r := row_eq _ _ (by
        show n / 11 = (n + 1) / 11
        omega)
      funext y
      change S512x2048.Idx at y
      idx_vars y
      refine (pay1_apply _ _ y0 y1).trans ((pay1_apply _ _ y0 y1).trans ?_).symm
      simp only [blk0, blk1, hrow]
    by_cases h0 : (n + 1) % 11 = 0
    · rw [outsAt0_A m c ⟨n + 1, h⟩ h0 (by show (n + 1) % 11 ≤ 9; omega) (by show ¬(n + 1) % 11 = 10; omega)
        (by show ¬(n + 1) % 11 = 10; omega)]
      frame_out
    · by_cases h1 : (n + 1) % 11 ≤ 9
      · rw [outsAt0_B m c ⟨n + 1, h⟩ h0 h1 (by show ¬(n + 1) % 11 = 10; omega) (by show ¬(n + 1) % 11 = 10; omega)]
        unfold sout0_B_0
        exact key h0
      · rw [outsAt0_C m c ⟨n + 1, h⟩ h0 h1 (by show (n + 1) % 11 = 10; omega) (by show (n + 1) % 11 = 10; omega)]
        unfold sout0_C_0
        exact key h0

/-- The terms of the second product, by the number of the hidden column. -/
def termN (i : Fin 16384) (d : Fin 2048) (f : ℕ) : EReal :=
  if h : f < 5504 then term (m ((c : Thread nD τ).loc main_arg0)) (m ((c : Thread nD τ).loc main_arg1))
    (m ((c : Thread nD τ).loc main_arg2)) (m ((c : Thread nD τ).loc main_arg3)) (m ((c : Thread nD τ).loc main_arg4)) i d ⟨f, h⟩
  else 0

/-- The contribution of a point's 512 hidden columns. -/
theorem main_block (t : Fin cfg0.N) (h1 : t.val % 11 ≤ 9) (r : Fin 512) (d : Fin 2048) :
    ∑ f : Fin 512, act (∑ k, k0_pay1 (iblk m c 0 t) (iblk m c 1 t) (ix2 r k) * X0_2 m c t (ix2 k f))
      (∑ k, k0_pay1 (iblk m c 0 t) (iblk m c 1 t) (ix2 r k) * X0_3 m c t (ix2 k f)) * X0_4 m c t (ix2 f d)
      = ∑ f ∈ Finset.range 512, termN m c (row t r) d (512 * (t.val % 11) + f) := by
  rw [Finset.sum_range]
  refine Finset.sum_congr rfl fun f _ => ?_
  unfold termN
  rw [dif_pos (by omega)]
  have hh : hid t f = ⟨512 * (t.val % 11) + f.val, by omega⟩ := Fin.ext (by unfold hid; simp only; omega)
  simp only [pay1_apply, blk0, blk1, blk2, blk3, blk4, hh]
  rfl

/-- The contribution of the last 384 hidden columns. -/
theorem tail_block (t : Fin cfg0.N) (r : Fin 512) (d : Fin 2048) :
    ∑ f : Fin 384, act (∑ k, k0_pay1 (iblk m c 0 t) (iblk m c 1 t) (ix2 r k) * iblk m c 5 t (ix2 k f))
      (∑ k, k0_pay1 (iblk m c 0 t) (iblk m c 1 t) (ix2 r k) * iblk m c 6 t (ix2 k f)) * iblk m c 7 t (ix2 f d)
      = ∑ f ∈ Finset.range 384, termN m c (row t r) d (5120 + f) := by
  rw [Finset.sum_range]
  refine Finset.sum_congr rfl fun f _ => ?_
  unfold termN
  rw [dif_pos (by omega)]
  simp only [pay1_apply, blk0, blk1, blk5, blk6, blk7]
  rfl

/-- The accumulator after a point holds the sum over the hidden columns met so far. -/
theorem accum : ∀ (n : ℕ) (h : n < cfg0.N) (_ : n % 11 ≤ 9) (r : Fin 512) (d : Fin 2048),
    (outsAt0 m c n h).2.2 (ix2 r d) = ∑ f ∈ Finset.range (512 * (n % 11) + 512), termN m c (row ⟨n, h⟩ r) d f := by
  have first : ∀ (n : ℕ) (h : n < cfg0.N) (h0 : n % 11 = 0) (r : Fin 512) (d : Fin 2048),
      (outsAt0 m c n h).2.2 (ix2 r d) = ∑ f ∈ Finset.range (512 * (n % 11) + 512), termN m c (row ⟨n, h⟩ r) d f := by
    intro n h h0 r d
    have e : (outsAt0 m c n h).2.2 = k0_pay3 (k0_pay1 (iblk m c 0 ⟨n, h⟩) (iblk m c 1 ⟨n, h⟩)) (X0_2 m c ⟨n, h⟩)
        (X0_3 m c ⟨n, h⟩) (k0_pay2 (F := Ideal)) (X0_4 m c ⟨n, h⟩) := by
      rw [outsAt0_A m c ⟨n, h⟩ h0 (by show n % 11 ≤ 9; omega) (by show ¬n % 11 = 10; omega)
        (by show ¬n % 11 = 10; omega)]
      frame_out
    rw [e]
    refine (pay3_apply _ _ _ _ _ r d).trans ?_
    rw [pay2_apply, zero_add, main_block m c ⟨n, h⟩ (by show n % 11 ≤ 9; omega)]
    simp only [h0, Nat.mul_zero, Nat.zero_add]
  intro n
  induction n with
  | zero => exact fun h _ => first 0 h rfl
  | succ n ih =>
    intro h h1 r d
    by_cases h0 : (n + 1) % 11 = 0
    · exact first (n + 1) h h0 r d
    · have hN := lt_of_lt_of_eq h (show cfg0.N = 352 from N_0)
      have hs := scratch m c (n + 1) h
      have e : (outsAt0 m c (n + 1) h).2.2 = k0_pay3 (k0_pay1 (iblk m c 0 ⟨n + 1, h⟩) (iblk m c 1 ⟨n + 1, h⟩))
          (X0_2 m c ⟨n + 1, h⟩) (X0_3 m c ⟨n + 1, h⟩) (outsAt0 m c n (Nat.lt_of_succ_lt h)).2.2 (X0_4 m c ⟨n + 1, h⟩) := by
        rw [← hs]
        rw [outsAt0_B m c ⟨n + 1, h⟩ h0 h1 (by show ¬(n + 1) % 11 = 10; omega) (by show ¬(n + 1) % 11 = 10; omega)]
        unfold sout0_B_0
        frame_out
        exact congrArg₂ (fun z a => k0_pay3 z (X0_2 m c ⟨n + 1, h⟩) (X0_3 m c ⟨n + 1, h⟩) a (X0_4 m c ⟨n + 1, h⟩))
          (Memref.IsWhole.read_unread _ _) (Memref.IsWhole.read_unread _ _)
      rw [e]
      refine (pay3_apply _ _ _ _ _ r d).trans ?_
      rw [main_block m c ⟨n + 1, h⟩ h1, ih (Nat.lt_of_succ_lt h) (by omega),
        row_eq ⟨n, Nat.lt_of_succ_lt h⟩ ⟨n + 1, h⟩ (by show n / 11 = (n + 1) / 11; omega)]
      have hm : (n + 1) % 11 = n % 11 + 1 := by omega
      simp only [hm]
      rw [Finset.sum_range_add _ (512 * (n % 11 + 1)) 512, show 512 * (n % 11) + 512 = 512 * (n % 11 + 1) by ring]

/-- What the last point of a block of rows stores. -/
theorem stored (t : Fin cfg0.N) (h10 : t.val % 11 = 10) (r : Fin 512) (d : Fin 2048) :
    (outsAt0 m c t.val t.isLt).1 (ix2 r d) = FfnRefIdeal.Read.val_main_v33 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (ix2 (row t r) d) := by
  have hN := lt_of_lt_of_eq t.isLt (show cfg0.N = 352 from N_0)
  have hp : t.val - 1 < cfg0.N := lt_of_le_of_lt (Nat.sub_le _ _) t.isLt
  have hs := scratch m c t.val t.isLt
  have e : (outsAt0 m c t.val t.isLt).1 = k0_pay5 (k0_pay4 (k0_pay1 (iblk m c 0 t) (iblk m c 1 t))
      (iblk m c 5 t) (iblk m c 6 t) (outsAt0 m c (t.val - 1) hp).2.2 (iblk m c 7 t)) (iblk m c 0 t) (iblk m c 8 t) := by
    rw [← hs]
    rw [outsAt0_C m c t (by omega) (by omega) h10 h10]
    unfold sout0_C_0
    frame_out
    exact congrArg₂ (fun z a => k0_pay5 (k0_pay4 z (iblk m c 5 t) (iblk m c 6 t) a (iblk m c 7 t)) (iblk m c 0 t) (iblk m c 8 t))
      (Memref.IsWhole.read_unread _ _) (Memref.IsWhole.read_unread _ _)
  rw [e, ref_apply]
  refine (pay5_apply _ _ _ r d).trans ?_
  have ha : ∀ d', k0_pay4 (k0_pay1 (iblk m c 0 t) (iblk m c 1 t))
      (iblk m c 5 t) (iblk m c 6 t) (outsAt0 m c (t.val - 1) hp).2.2 (iblk m c 7 t) (ix2 r d')
      = ∑ f : Fin 5504, term (m ((c : Thread nD τ).loc main_arg0)) (m ((c : Thread nD τ).loc main_arg1))
          (m ((c : Thread nD τ).loc main_arg2)) (m ((c : Thread nD τ).loc main_arg3)) (m ((c : Thread nD τ).loc main_arg4))
          (row t r) d' f := fun d' => by
    refine (pay4_apply _ _ _ _ _ r d').trans ?_
    rw [tail_block, accum m c (t.val - 1) hp (by omega), row_eq ⟨t.val - 1, hp⟩ t (by show (t.val - 1) / 11 = t.val / 11; omega),
      show 512 * ((t.val - 1) % 11) + 512 = 5120 by omega, ← Finset.sum_range_add _ 5120 384, Finset.sum_range]
    refine Finset.sum_congr rfl fun f _ => ?_
    unfold termN
    rw [dif_pos f.isLt]
  simp only [ha, blk0, blk8]

/-- The result array after the region is the plain program's value. -/
theorem final (c : Dev nD) : (dats m 0 c).arrAt 9 cfg0.N
    = FfnRefIdeal.Read.val_main_v33 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 9 _ (by decide +kernel) fun t hf y => ?_
  have h10 : t.val % 11 = 10 := (by decide +kernel : ∀ t : Fin cfg0.N, (cfg0.win 9).flush t = true → t.val % 11 = 10) t hf
  blk_simp
  rw [after0_9]
  change S512x2048.Idx at y
  idx_vars y
  have ey : ((View.whole main_v8).slice (win0_9.rect t)).emb (ix2 y0 y1) = ix2 (row t y0) y1 := by
    unfold row; blk_ext [e9]
  rw [ey]
  exact stored m c t h10 y0 y1

/-- The run of the blocked program, its result read as the plain program's value. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v8) = FfnRefIdeal.Read.val_main_v33 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  exact (θ_run defs _ _).mono (fun r h c => ⟨((h c).1 9).trans (final m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.FfnIdeal.Proj

end
-- ==== Proof.FfnAgree.lean ====
/-
  The claim about the feed-forward block: the two programs agree on every result and keep their arguments.
-/
module

public import proofs.«01_k».proof.Defs
public import proofs.«01_k».proof.Proof.Ffn
public import proofs.«01_k».proof.Proof.Gen.FfnRefIdeal.Run

@[expose] public section

noncomputable section

open Idealize.ShloMosaic Idealize.ShloMosaic.TcCoe Idealize.SL.Sem

namespace Cert.Proof

/-- From memories agreeing on the arguments the blocked feed-forward block and the plain one end with equal results. -/
theorem ffn_agree : algebraic_FfnIdeal_FfnRefIdeal (hFfnIdeal := Cert.FfnIdeal.Gen.facts)
    (hFfnRefIdeal := Cert.FfnRefIdeal.Gen.facts) := by
  intro m g m' g' _ hag
  refine ⟨_, Cert.FfnIdeal.Proj.run m g, ?_⟩
  refine (θ_run (Cert.FfnRefIdeal.defs (F := Ideal)) _ _).mono (fun r h c => ⟨(h c).1.trans ?_, (h c).2⟩)
    (Cert.FfnRefIdeal.Value.run m' g')
  obtain ⟨a0, a1, a2, a3, a4, a5⟩ := hag c
  refine (Cert.FfnRefIdeal.Read.val_main_v33_eq _ _).trans ?_
  rw [a0, a1, a2, a3, a4, a5]

end Cert.Proof

end
-- ==== Proof.Ffs.lean ====
/-
  The feed-forward block on the sample rows: all 1024 rows are one block, which stays through the eleven points. The steps
  are those of the prompt rows' proof: the rows are normalised once, ten points add the contribution of 512 hidden columns
  each to an accumulator, the last adds that of the remaining 384, normalises the sum and adds it to the rows.
-/
module

public import proofs.«01_k».proof.Proof.Ffn
public import proofs.«01_k».proof.Proof.Gen.FfsIdeal.Frame
public import proofs.«01_k».proof.Proof.Gen.FfsRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfsIdeal.Proj

open Cert.FfsIdeal Cert.FfsIdeal.Gen
open Cert.FfnIdeal.Proj (nrm act)

variable (m : (ℓ : Loc nD τ sig) → Buf (Elt Ideal) ℓ) (c : Dev nD)

/-- The normalised block, entry by entry. -/
theorem pay1_apply (x : Vec Ideal S1024x2048 .f32) (g : Vec Ideal S1x2048 .f32) (r : Fin 1024) (k : Fin 2048) :
    k0_pay1 x g (ix2 r k) = nrm (fun x' => x (ix2 r x')) (g (ix2 0 k)) k := by
  pointwise [k0_pay1]
  rfl

/-- The accumulator starts from zero. -/
theorem pay2_apply (r : Fin 1024) (k : Fin 2048) : k0_pay2 (F := Ideal) (ix2 r k) = 0 := by
  pointwise [k0_pay2]

/-- The accumulator with the contribution of 512 hidden columns added, entry by entry. -/
theorem pay3_apply (z : Vec Ideal S1024x2048 .bf16) (wg wu : Vec Ideal S2048x512 .bf16) (acc : Vec Ideal S1024x2048 .f32)
    (wd : Vec Ideal S512x2048 .bf16) (r : Fin 1024) (d : Fin 2048) :
    k0_pay3 z wg wu acc wd (ix2 r d) = acc (ix2 r d)
      + ∑ f : Fin 512, act (∑ k, z (ix2 r k) * wg (ix2 k f)) (∑ k, z (ix2 r k) * wu (ix2 k f)) * wd (ix2 f d) := by
  pointwise [k0_pay3]
  rfl

/-- The accumulator with the contribution of the last 384 hidden columns added, entry by entry. -/
theorem pay4_apply (z : Vec Ideal S1024x2048 .bf16) (wg wu : Vec Ideal S2048x384 .bf16) (acc : Vec Ideal S1024x2048 .f32)
    (wd : Vec Ideal S384x2048 .bf16) (r : Fin 1024) (d : Fin 2048) :
    k0_pay4 z wg wu acc wd (ix2 r d) = acc (ix2 r d)
      + ∑ f : Fin 384, act (∑ k, z (ix2 r k) * wg (ix2 k f)) (∑ k, z (ix2 r k) * wu (ix2 k f)) * wd (ix2 f d) := by
  pointwise [k0_pay4]
  rfl

/-- The stored block, entry by entry: the rows and half of the normalised sum. -/
theorem pay5_apply (acc x : Vec Ideal S1024x2048 .f32) (g : Vec Ideal S1x2048 .f32) (r : Fin 1024) (d : Fin 2048) :
    k0_pay5 acc x g (ix2 r d) = x (ix2 r d)
      + Ideal.ofBits FTy.f32 1056964608#32 * nrm (fun x' => acc (ix2 r x')) (g (ix2 0 d)) d := by
  pointwise [k0_pay5]
  rfl

/-- The plain program's normalised rows, entry by entry. -/
theorem ref_z (x0 : S1024x2048.Idx → EReal) (x1 : S2048.Idx → EReal) (i : Fin 1024) (k : Fin 2048) :
    FfsRefIdeal.Read.val_main_v12 (F := Ideal) x0 x1 (ix2 i k) = nrm (fun x => x0 (ix2 i x)) (x1 (ix1 k)) k := by
  pointwise [FfsRefIdeal.Read.val_main_v12, FfsRefIdeal.Read.val_main_v11, FfsRefIdeal.Read.val_main_v10,
    FfsRefIdeal.Read.val_main_v9, FfsRefIdeal.Read.val_main_v8, FfsRefIdeal.Read.val_main_v7,
    FfsRefIdeal.Read.val_main_v6, FfsRefIdeal.Read.val_main_v5, FfsRefIdeal.Read.val_main_v4,
    FfsRefIdeal.Read.val_main_v3, FfsRefIdeal.Read.val_main_v2, FfsRefIdeal.Read.val_main_v1,
    FfsRefIdeal.Read.val_main_v0, FfsRefIdeal.Read.val_main_cst, FfsRefIdeal.Read.val_main_cst_0,
    FfsRefIdeal.Read.val_main_cst_1]
  rfl

/-- One term of the second product: hidden column `f`'s activation times its weight. -/
def term (x0 : S1024x2048.Idx → EReal) (x1 : S2048.Idx → EReal) (x2 x3 : S2048x5504.Idx → EReal) (x4 : S5504x2048.Idx → EReal)
    (i : Fin 1024) (d : Fin 2048) (f : Fin 5504) : EReal :=
  act (∑ k : Fin 2048, nrm (fun x => x0 (ix2 i x)) (x1 (ix1 k)) k * x2 (ix2 k f))
    (∑ k : Fin 2048, nrm (fun x => x0 (ix2 i x)) (x1 (ix1 k)) k * x3 (ix2 k f)) * x4 (ix2 f d)

/-- The plain program's second product, entry by entry. -/
theorem ref_acc (x0 : S1024x2048.Idx → EReal) (x1 : S2048.Idx → EReal) (x2 x3 : S2048x5504.Idx → EReal)
    (x4 : S5504x2048.Idx → EReal) (i : Fin 1024) (d : Fin 2048) :
    FfsRefIdeal.Read.val_main_v17 (F := Ideal) x0 x1 x2 x3 x4 (ix2 i d) = ∑ f : Fin 5504, term x0 x1 x2 x3 x4 i d f := by
  pointwise [FfsRefIdeal.Read.val_main_v17, FfsRefIdeal.Read.val_main_v16, FfsRefIdeal.Read.val_main_v15,
    FfsRefIdeal.Read.val_main_v14, FfsRefIdeal.Read.val_main_call0_v5, FfsRefIdeal.Read.val_main_call0_v4,
    FfsRefIdeal.Read.val_main_call0_v3, FfsRefIdeal.Read.val_main_call0_v2, FfsRefIdeal.Read.val_main_call0_v1,
    FfsRefIdeal.Read.val_main_call0_v0, FfsRefIdeal.Read.val_main_call0_cst, FfsRefIdeal.Read.val_main_call0_cst_0,
    FfsRefIdeal.Read.val_main_v13]
  simp only [ref_z]
  rfl

/-- The plain program's result, entry by entry. -/
theorem ref_apply (x0 : S1024x2048.Idx → EReal) (x1 : S2048.Idx → EReal) (x2 x3 : S2048x5504.Idx → EReal)
    (x4 : S5504x2048.Idx → EReal) (x5 : S2048.Idx → EReal) (i : Fin 1024) (d : Fin 2048) :
    FfsRefIdeal.Read.val_main_v33 (F := Ideal) x0 x1 x2 x3 x4 x5 (ix2 i d) = x0 (ix2 i d)
      + Ideal.ofBits FTy.f32 1056964608#32
        * nrm (fun d' => ∑ f : Fin 5504, term x0 x1 x2 x3 x4 i d' f) (x5 (ix1 d)) d := by
  pointwise [FfsRefIdeal.Read.val_main_v33, FfsRefIdeal.Read.val_main_v32, FfsRefIdeal.Read.val_main_v31,
    FfsRefIdeal.Read.val_main_v30, FfsRefIdeal.Read.val_main_v29, FfsRefIdeal.Read.val_main_v28,
    FfsRefIdeal.Read.val_main_v27, FfsRefIdeal.Read.val_main_v26, FfsRefIdeal.Read.val_main_v25,
    FfsRefIdeal.Read.val_main_v24, FfsRefIdeal.Read.val_main_v23, FfsRefIdeal.Read.val_main_v22,
    FfsRefIdeal.Read.val_main_v21, FfsRefIdeal.Read.val_main_v20, FfsRefIdeal.Read.val_main_v19,
    FfsRefIdeal.Read.val_main_v18, FfsRefIdeal.Read.val_main_cst_2, FfsRefIdeal.Read.val_main_cst_3,
    FfsRefIdeal.Read.val_main_cst_4, FfsRefIdeal.Read.val_main_cst_5]
  simp only [ref_acc]
  rfl

/-- The region finds the scale of the first norm as a row. -/
theorem V_g : V m c main_v0 = shapeCast S1x2048 (m ((c : Thread nD τ).loc main_arg1) : S2048.Idx → EReal) shapeCasts_S2048_S1x2048 := by
  show StableHlo.after (hostOps0 : List (HloOp τ sig (Elt Ideal))) (fun b => m (c, b)) (Proc.devRef .tc main_v0) = _
  simp only [hostOps0]
  after_results
  rfl

/-- The region finds the scale of the second norm as a row. -/
theorem V_g' : V m c main_v4 = shapeCast S1x2048 (m ((c : Thread nD τ).loc main_arg5) : S2048.Idx → EReal) shapeCasts_S2048_S1x2048 := by
  show StableHlo.after (hostOps0 : List (HloOp τ sig (Elt Ideal))) (fun b => m (c, b)) (Proc.devRef .tc main_v4) = _
  simp only [hostOps0]
  after_results
  rfl

/-- The region finds the gate weight cast. -/
theorem V_wg : V m c main_v1 = truncf (F := Ideal) .bf16 (m ((c : Thread nD τ).loc main_arg2) : S2048x5504.Idx → EReal) bitsLt_bf16_f32 := by
  show StableHlo.after (hostOps0 : List (HloOp τ sig (Elt Ideal))) (fun b => m (c, b)) (Proc.devRef .tc main_v1) = _
  simp only [hostOps0]
  after_results

/-- The region finds the up weight cast. -/
theorem V_wu : V m c main_v2 = truncf (F := Ideal) .bf16 (m ((c : Thread nD τ).loc main_arg3) : S2048x5504.Idx → EReal) bitsLt_bf16_f32 := by
  show StableHlo.after (hostOps0 : List (HloOp τ sig (Elt Ideal))) (fun b => m (c, b)) (Proc.devRef .tc main_v2) = _
  simp only [hostOps0]
  after_results

/-- The region finds the down weight cast. -/
theorem V_wd : V m c main_v3 = truncf (F := Ideal) .bf16 (m ((c : Thread nD τ).loc main_arg4) : S5504x2048.Idx → EReal) bitsLt_bf16_f32 := by
  show StableHlo.after (hostOps0 : List (HloOp τ sig (Elt Ideal))) (fun b => m (c, b)) (Proc.devRef .tc main_v3) = _
  simp only [hostOps0]
  after_results

/-- The region finds the last columns of the gate weight. -/
theorem V_wg2 : V m c main_v5 = extractStridedSlice S2048x384 ![0, 5120] (truncf (F := Ideal) .bf16
    (m ((c : Thread nD τ).loc main_arg2) : S2048x5504.Idx → EReal) bitsLt_bf16_f32) slices_S2048x5504_S2048x384_0_5120 := by
  show StableHlo.after (hostOps0 : List (HloOp τ sig (Elt Ideal))) (fun b => m (c, b)) (Proc.devRef .tc main_v5) = _
  simp only [hostOps0]
  after_results

/-- The region finds the last columns of the up weight. -/
theorem V_wu2 : V m c main_v6 = extractStridedSlice S2048x384 ![0, 5120] (truncf (F := Ideal) .bf16
    (m ((c : Thread nD τ).loc main_arg3) : S2048x5504.Idx → EReal) bitsLt_bf16_f32) slices_S2048x5504_S2048x384_0_5120 := by
  show StableHlo.after (hostOps0 : List (HloOp τ sig (Elt Ideal))) (fun b => m (c, b)) (Proc.devRef .tc main_v6) = _
  simp only [hostOps0]
  after_results

/-- The region finds the last rows of the down weight. -/
theorem V_wd2 : V m c main_v7 = extractStridedSlice S384x2048 ![5120, 0] (truncf (F := Ideal) .bf16
    (m ((c : Thread nD τ).loc main_arg4) : S5504x2048.Idx → EReal) bitsLt_bf16_f32) slices_S5504x2048_S384x2048_5120_0 := by
  show StableHlo.after (hostOps0 : List (HloOp τ sig (Elt Ideal))) (fun b => m (c, b)) (Proc.devRef .tc main_v7) = _
  simp only [hostOps0]
  after_results

/-- The last columns of a weight, entry by entry. -/
theorem tail_w (x : S2048x5504.Idx → EReal) (k : Fin 2048) (f : Fin 384) :
    (extractStridedSlice S2048x384 ![0, 5120] (truncf (F := Ideal) .bf16 x bitsLt_bf16_f32)
      slices_S2048x5504_S2048x384_0_5120 : S2048x384.Idx → EReal) (ix2 k f) = x (ix2 k ⟨5120 + f.val, by omega⟩) := by
  pointwise

/-- The last rows of a weight, entry by entry. -/
theorem tail_d (x : S5504x2048.Idx → EReal) (f : Fin 384) (k : Fin 2048) :
    (extractStridedSlice S384x2048 ![5120, 0] (truncf (F := Ideal) .bf16 x bitsLt_bf16_f32)
      slices_S5504x2048_S384x2048_5120_0 : S384x2048.Idx → EReal) (ix2 f k) = x (ix2 ⟨5120 + f.val, by omega⟩ k) := by
  pointwise

theorem e0 : ∀ t : Fin cfg0.N, win0_0.index t = ![t.val / 11, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, min (t.val % 11) 9] := (by decide +kernel : ∀ t : Fin grid0.N, _)
theorem e3 : ∀ t : Fin cfg0.N, win0_3.index t = ![0, min (t.val % 11) 9] := (by decide +kernel : ∀ t : Fin grid0.N, _)
theorem e4 : ∀ t : Fin cfg0.N, win0_4.index t = ![min (t.val % 11) 9, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![t.val / 11, 0] := (by decide +kernel : ∀ t : Fin grid0.N, _)

/-- The row of the whole arrays that row `r` of point `t`'s block is. -/
def row (t : Fin cfg0.N) (r : Fin 1024) : Fin 1024 := ⟨t.val / 11 * 1024 + r.val, by
  have := lt_of_lt_of_eq t.isLt (show cfg0.N = 11 from N_0); omega⟩

/-- The hidden column that column `f` of point `t`'s block of the weights is. -/
def hid (t : Fin cfg0.N) (f : Fin 512) : Fin 5504 := ⟨min (t.val % 11) 9 * 512 + f.val, by omega⟩

theorem blk0 (t : Fin cfg0.N) (r : Fin 1024) (j : Fin 2048) :
    iblk m c 0 t (ix2 r j) = m ((c : Thread nD τ).loc main_arg0) (ix2 (row t r) j) := by
  show V m c main_arg0 (((cfg0.win 0).blk t).view.emb (ix2 r j)) = _
  rw [V_main_arg0]; unfold row; congr 1; blk_ext [e0]

theorem blk1 (t : Fin cfg0.N) (j : Fin 2048) :
    iblk m c 1 t (ix2 0 j) = m ((c : Thread nD τ).loc main_arg1) (ix1 j) := by
  show V m c main_v0 (((cfg0.win 1).blk t).view.emb (ix2 0 j)) = _
  have e : ((cfg0.win 1).blk t).view.emb (ix2 0 j) = ix2 0 j := by blk_ext [e1]
  rw [V_g]
  refine (congrArg _ e).trans ?_
  pointwise

theorem blk8 (t : Fin cfg0.N) (j : Fin 2048) :
    iblk m c 8 t (ix2 0 j) = m ((c : Thread nD τ).loc main_arg5) (ix1 j) := by
  show V m c main_v4 (((cfg0.win 8).blk t).view.emb (ix2 0 j)) = _
  have e : ((cfg0.win 8).blk t).view.emb (ix2 0 j) = ix2 0 j := by blk_ext [e8]
  rw [V_g']
  refine (congrArg _ e).trans ?_
  pointwise

theorem blk2 (t : Fin cfg0.N) (k : Fin 2048) (f : Fin 512) :
    X0_2 m c t (ix2 k f) = m ((c : Thread nD τ).loc main_arg2) (ix2 k (hid t f)) := by
  unfold X0_2 Pipeline.Window.fill
  rw [dif_pos (moved0_2 t _)]
  refine (congrFun (V_wg m c) (((cfg0.win 2).blk t).view.emb _)).trans ?_
  show (m ((c : Thread nD τ).loc main_arg2)) _ = _
  unfold hid; congr 1; blk_ext [e2]

theorem blk3 (t : Fin cfg0.N) (k : Fin 2048) (f : Fin 512) :
    X0_3 m c t (ix2 k f) = m ((c : Thread nD τ).loc main_arg3) (ix2 k (hid t f)) := by
  unfold X0_3 Pipeline.Window.fill
  rw [dif_pos (moved0_3 t _)]
  refine (congrFun (V_wu m c) (((cfg0.win 3).blk t).view.emb _)).trans ?_
  show (m ((c : Thread nD τ).loc main_arg3)) _ = _
  unfold hid; congr 1; blk_ext [e3]

theorem blk4 (t : Fin cfg0.N) (f : Fin 512) (k : Fin 2048) :
    X0_4 m c t (ix2 f k) = m ((c : Thread nD τ).loc main_arg4) (ix2 (hid t f) k) := by
  unfold X0_4 Pipeline.Window.fill
  rw [dif_pos (moved0_4 t _)]
  refine (congrFun (V_wd m c) (((cfg0.win 4).blk t).view.emb _)).trans ?_
  show (m ((c : Thread nD τ).loc main_arg4)) _ = _
  unfold hid; congr 1; blk_ext [e4]

theorem blk5 (t : Fin cfg0.N) (k : Fin 2048) (f : Fin 384) :
    iblk m c 5 t (ix2 k f) = m ((c : Thread nD τ).loc main_arg2) (ix2 k ⟨5120 + f.val, by omega⟩) := by
  show V m c main_v5 (((cfg0.win 5).blk t).view.emb (ix2 k f)) = _
  have e : ((cfg0.win 5).blk t).view.emb (ix2 k f) = ix2 k f := by blk_ext [e5]
  rw [V_wg2]
  exact (congrArg _ e).trans (tail_w _ _ _)

theorem blk6 (t : Fin cfg0.N) (k : Fin 2048) (f : Fin 384) :
    iblk m c 6 t (ix2 k f) = m ((c : Thread nD τ).loc main_arg3) (ix2 k ⟨5120 + f.val, by omega⟩) := by
  show V m c main_v6 (((cfg0.win 6).blk t).view.emb (ix2 k f)) = _
  have e : ((cfg0.win 6).blk t).view.emb (ix2 k f) = ix2 k f := by blk_ext [e6]
  rw [V_wu2]
  exact (congrArg _ e).trans (tail_w _ _ _)

theorem blk7 (t : Fin cfg0.N) (f : Fin 384) (k : Fin 2048) :
    iblk m c 7 t (ix2 f k) = m ((c : Thread nD τ).loc main_arg4) (ix2 ⟨5120 + f.val, by omega⟩ k) := by
  show V m c main_v7 (((cfg0.win 7).blk t).view.emb (ix2 f k)) = _
  have e : ((cfg0.win 7).blk t).view.emb (ix2 f k) = ix2 f k := by blk_ext [e7]
  rw [V_wd2]
  exact (congrArg _ e).trans (tail_d _ _ _)

/-- A row of the whole arrays does not change between points of one block of rows. -/
theorem row_eq (s t : Fin cfg0.N) (h : s.val / 11 = t.val / 11) (r : Fin 1024) : row s r = row t r :=
  Fin.ext (by unfold row; simp only [h])

/-- The first scratch after point `n` holds the normalised block of that point's rows. -/
theorem scratch : ∀ (n : ℕ) (h : n < cfg0.N), (outsAt0 m c n h).2.1 = k0_pay1 (iblk m c 0 ⟨n, h⟩) (iblk m c 1 ⟨n, h⟩) := by
  intro n
  induction n with
  | zero =>
    intro h
    rw [outsAt0_A m c ⟨0, h⟩ rfl (by norm_num) (by norm_num) (by norm_num)]
    frame_out
  | succ n ih =>
    intro h
    have hN := lt_of_lt_of_eq h (show cfg0.N = 11 from N_0)
    have key : ¬(n + 1) % 11 = 0 → (outsAt0 m c n (Nat.lt_of_succ_lt h)).2.1
        = k0_pay1 (iblk m c 0 ⟨n + 1, h⟩) (iblk m c 1 ⟨n + 1, h⟩) := fun h0 => by
      refine (ih (Nat.lt_of_succ_lt h)).trans ?_
      have hrow : ∀ r, row ⟨n, Nat.lt_of_succ_lt h⟩ r = row ⟨n + 1, h⟩ r := row_eq _ _ (by
        show n / 11 = (n + 1) / 11
        omega)
      funext y
      change S1024x2048.Idx at y
      idx_vars y
      refine (pay1_apply _ _ y0 y1).trans ((pay1_apply _ _ y0 y1).trans ?_).symm
      simp only [blk0, blk1, hrow]
    by_cases h0 : (n + 1) % 11 = 0
    · rw [outsAt0_A m c ⟨n + 1, h⟩ h0 (by show n + 1 < 10; omega) (by show ¬(n + 1) % 11 = 10; omega)
        (by show ¬(n + 1) % 11 = 10; omega)]
      frame_out
    · by_cases h1 : (n + 1) % 11 ≤ 9
      · rw [outsAt0_B m c ⟨n + 1, h⟩ h0 (by show n + 1 < 10; omega) (by show ¬(n + 1) % 11 = 10; omega) (by show ¬(n + 1) % 11 = 10; omega)]
        unfold sout0_B_0
        exact key h0
      · rw [outsAt0_C m c ⟨n + 1, h⟩ h0 (by show ¬n + 1 < 10; omega) (by show (n + 1) % 11 = 10; omega) (by show (n + 1) % 11 = 10; omega)]
        unfold sout0_C_0
        exact key h0

/-- The terms of the second product, by the number of the hidden column. -/
def termN (i : Fin 1024) (d : Fin 2048) (f : ℕ) : EReal :=
  if h : f < 5504 then term (m ((c : Thread nD τ).loc main_arg0)) (m ((c : Thread nD τ).loc main_arg1))
    (m ((c : Thread nD τ).loc main_arg2)) (m ((c : Thread nD τ).loc main_arg3)) (m ((c : Thread nD τ).loc main_arg4)) i d ⟨f, h⟩
  else 0

/-- The contribution of a point's 512 hidden columns. -/
theorem main_block (t : Fin cfg0.N) (h1 : t.val % 11 ≤ 9) (r : Fin 1024) (d : Fin 2048) :
    ∑ f : Fin 512, act (∑ k, k0_pay1 (iblk m c 0 t) (iblk m c 1 t) (ix2 r k) * X0_2 m c t (ix2 k f))
      (∑ k, k0_pay1 (iblk m c 0 t) (iblk m c 1 t) (ix2 r k) * X0_3 m c t (ix2 k f)) * X0_4 m c t (ix2 f d)
      = ∑ f ∈ Finset.range 512, termN m c (row t r) d (512 * (t.val % 11) + f) := by
  rw [Finset.sum_range]
  refine Finset.sum_congr rfl fun f _ => ?_
  unfold termN
  rw [dif_pos (by omega)]
  have hh : hid t f = ⟨512 * (t.val % 11) + f.val, by omega⟩ := Fin.ext (by unfold hid; simp only; omega)
  simp only [pay1_apply, blk0, blk1, blk2, blk3, blk4, hh]
  rfl

/-- The contribution of the last 384 hidden columns. -/
theorem tail_block (t : Fin cfg0.N) (r : Fin 1024) (d : Fin 2048) :
    ∑ f : Fin 384, act (∑ k, k0_pay1 (iblk m c 0 t) (iblk m c 1 t) (ix2 r k) * iblk m c 5 t (ix2 k f))
      (∑ k, k0_pay1 (iblk m c 0 t) (iblk m c 1 t) (ix2 r k) * iblk m c 6 t (ix2 k f)) * iblk m c 7 t (ix2 f d)
      = ∑ f ∈ Finset.range 384, termN m c (row t r) d (5120 + f) := by
  rw [Finset.sum_range]
  refine Finset.sum_congr rfl fun f _ => ?_
  unfold termN
  rw [dif_pos (by omega)]
  simp only [pay1_apply, blk0, blk1, blk5, blk6, blk7]
  rfl

/-- The accumulator after a point holds the sum over the hidden columns met so far. -/
theorem accum : ∀ (n : ℕ) (h : n < cfg0.N) (_ : n % 11 ≤ 9) (r : Fin 1024) (d : Fin 2048),
    (outsAt0 m c n h).2.2 (ix2 r d) = ∑ f ∈ Finset.range (512 * (n % 11) + 512), termN m c (row ⟨n, h⟩ r) d f := by
  have first : ∀ (n : ℕ) (h : n < cfg0.N) (h0 : n % 11 = 0) (r : Fin 1024) (d : Fin 2048),
      (outsAt0 m c n h).2.2 (ix2 r d) = ∑ f ∈ Finset.range (512 * (n % 11) + 512), termN m c (row ⟨n, h⟩ r) d f := by
    intro n h h0 r d
    have e : (outsAt0 m c n h).2.2 = k0_pay3 (k0_pay1 (iblk m c 0 ⟨n, h⟩) (iblk m c 1 ⟨n, h⟩)) (X0_2 m c ⟨n, h⟩)
        (X0_3 m c ⟨n, h⟩) (k0_pay2 (F := Ideal)) (X0_4 m c ⟨n, h⟩) := by
      have hN := lt_of_lt_of_eq h (show cfg0.N = 11 from N_0)
      rw [outsAt0_A m c ⟨n, h⟩ h0 (by show n < 10; omega) (by show ¬n % 11 = 10; omega)
        (by show ¬n % 11 = 10; omega)]
      frame_out
    rw [e]
    refine (pay3_apply _ _ _ _ _ r d).trans ?_
    rw [pay2_apply, zero_add, main_block m c ⟨n, h⟩ (by show n % 11 ≤ 9; omega)]
    simp only [h0, Nat.mul_zero, Nat.zero_add]
  intro n
  induction n with
  | zero => exact fun h _ => first 0 h rfl
  | succ n ih =>
    intro h h1 r d
    by_cases h0 : (n + 1) % 11 = 0
    · exact first (n + 1) h h0 r d
    · have hN := lt_of_lt_of_eq h (show cfg0.N = 11 from N_0)
      have hs := scratch m c (n + 1) h
      have e : (outsAt0 m c (n + 1) h).2.2 = k0_pay3 (k0_pay1 (iblk m c 0 ⟨n + 1, h⟩) (iblk m c 1 ⟨n + 1, h⟩))
          (X0_2 m c ⟨n + 1, h⟩) (X0_3 m c ⟨n + 1, h⟩) (outsAt0 m c n (Nat.lt_of_succ_lt h)).2.2 (X0_4 m c ⟨n + 1, h⟩) := by
        rw [← hs]
        rw [outsAt0_B m c ⟨n + 1, h⟩ h0 (by show n + 1 < 10; omega) (by show ¬(n + 1) % 11 = 10; omega) (by show ¬(n + 1) % 11 = 10; omega)]
        unfold sout0_B_0
        frame_out
        exact congrArg₂ (fun z a => k0_pay3 z (X0_2 m c ⟨n + 1, h⟩) (X0_3 m c ⟨n + 1, h⟩) a (X0_4 m c ⟨n + 1, h⟩))
          (Memref.IsWhole.read_unread _ _) (Memref.IsWhole.read_unread _ _)
      rw [e]
      refine (pay3_apply _ _ _ _ _ r d).trans ?_
      rw [main_block m c ⟨n + 1, h⟩ h1, ih (Nat.lt_of_succ_lt h) (by omega),
        row_eq ⟨n, Nat.lt_of_succ_lt h⟩ ⟨n + 1, h⟩ (by show n / 11 = (n + 1) / 11; omega)]
      have hm : (n + 1) % 11 = n % 11 + 1 := by omega
      simp only [hm]
      rw [Finset.sum_range_add _ (512 * (n % 11 + 1)) 512, show 512 * (n % 11) + 512 = 512 * (n % 11 + 1) by ring]

/-- What the last point of a block of rows stores. -/
theorem stored (t : Fin cfg0.N) (h10 : t.val % 11 = 10) (r : Fin 1024) (d : Fin 2048) :
    (outsAt0 m c t.val t.isLt).1 (ix2 r d) = FfsRefIdeal.Read.val_main_v33 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (ix2 (row t r) d) := by
  have hN := lt_of_lt_of_eq t.isLt (show cfg0.N = 11 from N_0)
  have hp : t.val - 1 < cfg0.N := lt_of_le_of_lt (Nat.sub_le _ _) t.isLt
  have hs := scratch m c t.val t.isLt
  have e : (outsAt0 m c t.val t.isLt).1 = k0_pay5 (k0_pay4 (k0_pay1 (iblk m c 0 t) (iblk m c 1 t))
      (iblk m c 5 t) (iblk m c 6 t) (outsAt0 m c (t.val - 1) hp).2.2 (iblk m c 7 t)) (iblk m c 0 t) (iblk m c 8 t) := by
    rw [← hs]
    rw [outsAt0_C m c t (by omega) (by omega) h10 h10]
    unfold sout0_C_0
    frame_out
    exact congrArg₂ (fun z a => k0_pay5 (k0_pay4 z (iblk m c 5 t) (iblk m c 6 t) a (iblk m c 7 t)) (iblk m c 0 t) (iblk m c 8 t))
      (Memref.IsWhole.read_unread _ _) (Memref.IsWhole.read_unread _ _)
  rw [e, ref_apply]
  refine (pay5_apply _ _ _ r d).trans ?_
  have ha : ∀ d', k0_pay4 (k0_pay1 (iblk m c 0 t) (iblk m c 1 t))
      (iblk m c 5 t) (iblk m c 6 t) (outsAt0 m c (t.val - 1) hp).2.2 (iblk m c 7 t) (ix2 r d')
      = ∑ f : Fin 5504, term (m ((c : Thread nD τ).loc main_arg0)) (m ((c : Thread nD τ).loc main_arg1))
          (m ((c : Thread nD τ).loc main_arg2)) (m ((c : Thread nD τ).loc main_arg3)) (m ((c : Thread nD τ).loc main_arg4))
          (row t r) d' f := fun d' => by
    refine (pay4_apply _ _ _ _ _ r d').trans ?_
    rw [tail_block, accum m c (t.val - 1) hp (by omega), row_eq ⟨t.val - 1, hp⟩ t (by show (t.val - 1) / 11 = t.val / 11; omega),
      show 512 * ((t.val - 1) % 11) + 512 = 5120 by omega, ← Finset.sum_range_add _ 5120 384, Finset.sum_range]
    refine Finset.sum_congr rfl fun f _ => ?_
    unfold termN
    rw [dif_pos f.isLt]
  simp only [ha, blk0, blk8]

/-- The result array after the region is the plain program's value. -/
theorem final (c : Dev nD) : (dats m 0 c).arrAt 9 cfg0.N
    = FfsRefIdeal.Read.val_main_v33 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 9 _ (by decide +kernel) fun t hf y => ?_
  have h10 : t.val % 11 = 10 := (by decide +kernel : ∀ t : Fin cfg0.N, (cfg0.win 9).flush t = true → t.val % 11 = 10) t hf
  blk_simp
  rw [after0_9]
  change S1024x2048.Idx at y
  idx_vars y
  have ey : ((View.whole main_v8).slice (win0_9.rect t)).emb (ix2 y0 y1) = ix2 (row t y0) y1 := by
    unfold row; blk_ext [e9]
  rw [ey]
  exact stored m c t h10 y0 y1

/-- The run of the blocked program, its result read as the plain program's value. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v8) = FfsRefIdeal.Read.val_main_v33 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  exact (θ_run defs _ _).mono (fun r h c => ⟨((h c).1 9).trans (final m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.FfsIdeal.Proj

end
-- ==== Proof.FfsAgree.lean ====
/-
  The claim about the feed-forward block on the sample rows: the two programs agree on every result and keep their arguments.
-/
module

public import proofs.«01_k».proof.Defs
public import proofs.«01_k».proof.Proof.Ffs
public import proofs.«01_k».proof.Proof.Gen.FfsRefIdeal.Run

@[expose] public section

noncomputable section

open Idealize.ShloMosaic Idealize.ShloMosaic.TcCoe Idealize.SL.Sem

namespace Cert.Proof

/-- From memories agreeing on the arguments the blocked feed-forward block of the sample rows and the plain one end with equal results. -/
theorem ffs_agree : algebraic_FfsIdeal_FfsRefIdeal (hFfsIdeal := Cert.FfsIdeal.Gen.facts)
    (hFfsRefIdeal := Cert.FfsRefIdeal.Gen.facts) := by
  intro m g m' g' _ hag
  refine ⟨_, Cert.FfsIdeal.Proj.run m g, ?_⟩
  refine (θ_run (Cert.FfsRefIdeal.defs (F := Ideal)) _ _).mono (fun r h c => ⟨(h c).1.trans ?_, (h c).2⟩)
    (Cert.FfsRefIdeal.Value.run m' g')
  obtain ⟨a0, a1, a2, a3, a4, a5⟩ := hag c
  refine (Cert.FfsRefIdeal.Read.val_main_v33_eq _ _).trans ?_
  rw [a0, a1, a2, a3, a4, a5]

end Cert.Proof

end
-- ==== Proof.Inproj.lean ====
/-
  The input projection: what the blocked kernel leaves in its result array, and that this is what the plain program
  computes. A row of 1024 rows is normalised once, at the first of its four column blocks, and kept in a scratch; each
  point multiplies it by its block of the weight, which is padded with zero columns.
-/
module

public import proofs.«01_k».proof.Proof.Gen.InprojIdeal.Value
public import proofs.«01_k».proof.Proof.Gen.InprojRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojIdeal.Proj

open Cert.InprojIdeal Cert.InprojIdeal.Gen

variable (m : (ℓ : Loc nD τ sig) → Buf (Elt Ideal) ℓ) (c : Dev nD)

/-- The region finds the scale of the norm as a row. -/
theorem V_g : V m c main_v0 = shapeCast S1x2048 (m ((c : Thread nD τ).loc main_arg1) : S2048.Idx → EReal) shapeCasts_S2048_S1x2048 := by
  show StableHlo.after ((hostOps0 : List (HloOp τ sig (Elt Ideal))) ++ hostOps0_1) (fun b => m (c, b)) (Proc.devRef .tc main_v0) = _
  simp only [hostOps0, hostOps0_1, List.cons_append, List.nil_append]
  after_results
  rfl

/-- The region finds the weight padded with columns of the converted zero. -/
theorem V_w : V m c main_v2 = pad S2048x6656 ![0, 0] ![0, 224] ![0, 0]
    (truncf (F := Ideal) .bf16 (m ((c : Thread nD τ).loc main_arg2) : S2048x6432.Idx → EReal) bitsLt_bf16_f32)
    (sitofp .bf16 (constantI S_ 32 0#32)) pads_S2048x6432_S2048x6656_000_02240 h_S_ := by
  show StableHlo.after ((hostOps0 : List (HloOp τ sig (Elt Ideal))) ++ hostOps0_1) (fun b => m (c, b)) (Proc.devRef .tc main_v2) = _
  simp only [hostOps0, hostOps0_1, List.cons_append, List.nil_append]
  after_results
  rfl

/-- One entry of a row normalised by its root mean square and scaled. -/
def nrm (h : Fin 2048 → EReal) (g : EReal) (k : Fin 2048) : EReal :=
  h k * Ideal.rsqrt (Ideal.div (∑ x, h x * h x) (Ideal.ofBits FTy.f32 1157627904#32) + Ideal.ofBits FTy.f32 897988541#32) * g

/-- The normalised block, entry by entry. -/
theorem pay1_apply (v8 : Vec Ideal S1024x2048 .f32) (v19 : Vec Ideal S1x2048 .f32) (r : Fin 1024) (k : Fin 2048) :
    k0_pay1 v8 v19 (ix2 r k) = nrm (fun x => v8 (ix2 r x)) (v19 (ix2 0 k)) k := by
  pointwise [k0_pay1]
  rfl

/-- The stored product, entry by entry. -/
theorem pay2_apply (v3 : Vec Ideal S1024x2048 .bf16) (v4 : Vec Ideal S2048x1664 .bf16) (r : Fin 1024) (j : Fin 1664) :
    k0_pay2 v3 v4 (ix2 r j) = ∑ k, v3 (ix2 r k) * v4 (ix2 k j) := by
  pointwise [k0_pay2]

/-- The converted zero is zero. -/
theorem sitofp_zero (φ : FTy) : (FloatOps.sitofp (F := Ideal) φ (0#32 : BitVec 32) : EReal) = 0 := by
  show ((((0#32 : BitVec 32).toInt : ℝ)) : EReal) = 0
  simp

/-- What the plain program computes, entry by entry: zero in the padding columns. -/
theorem ref_apply (x0 : S16384x2048.Idx → EReal) (x1 : S2048.Idx → EReal) (x2 : S2048x6432.Idx → EReal)
    (i : Fin 16384) (j : Fin 6656) : InprojRefIdeal.Read.val_main_v14 (F := Ideal) x0 x1 x2 (ix2 i j)
      = if h : j.val < 6432 then ∑ k : Fin 2048, nrm (fun x => x0 (ix2 i x)) (x1 (ix1 k)) k * x2 (ix2 k ⟨j, h⟩) else 0 := by
  pointwise [InprojRefIdeal.Read.val_main_v14, InprojRefIdeal.Read.val_main_v13, InprojRefIdeal.Read.val_main_v12,
    InprojRefIdeal.Read.val_main_v11, InprojRefIdeal.Read.val_main_v10, InprojRefIdeal.Read.val_main_v9,
    InprojRefIdeal.Read.val_main_v8, InprojRefIdeal.Read.val_main_v7, InprojRefIdeal.Read.val_main_v6,
    InprojRefIdeal.Read.val_main_v5, InprojRefIdeal.Read.val_main_v4, InprojRefIdeal.Read.val_main_v3,
    InprojRefIdeal.Read.val_main_v2, InprojRefIdeal.Read.val_main_v1, InprojRefIdeal.Read.val_main_v0,
    InprojRefIdeal.Read.val_main_cst, InprojRefIdeal.Read.val_main_cst_0, InprojRefIdeal.Read.val_main_cst_1,
    InprojRefIdeal.Read.val_main_c, InprojRefIdeal.Read.val_main_call0_v0]
  exact congrArg (fun z : EReal => dite _ _ fun _ => z) (sitofp_zero _)

theorem e0 : ∀ t : Fin cfg0.N, win0_0.index t = ![t.val / 4, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, t.val % 4] := (by decide +kernel : ∀ t : Fin grid0.N, _)
theorem e3 : ∀ t : Fin cfg0.N, win0_3.index t = ![t.val / 4, t.val % 4] := (by decide +kernel : ∀ t : Fin grid0.N, _)

/-- The row of the whole arrays that row `r` of point `t`'s block is. -/
def row (t : Fin cfg0.N) (r : Fin 1024) : Fin 16384 := ⟨t.val / 4 * 1024 + r.val, by
  have := lt_of_lt_of_eq t.isLt (show cfg0.N = 64 from N_0); omega⟩

/-- The column of the whole result that column `j` of point `t`'s block is. -/
def col (t : Fin cfg0.N) (j : Fin 1664) : Fin 6656 := ⟨t.val % 4 * 1664 + j.val, by omega⟩

theorem blk0 (t : Fin cfg0.N) (r : Fin 1024) (j : Fin 2048) :
    iblk m c 0 t (ix2 r j) = m ((c : Thread nD τ).loc main_arg0) (ix2 (row t r) j) := by
  show V m c main_arg0 (((cfg0.win 0).blk t).view.emb (ix2 r j)) = _
  rw [V_main_arg0]; unfold row; congr 1; blk_ext [e0]

theorem blk1 (t : Fin cfg0.N) (j : Fin 2048) :
    iblk m c 1 t (ix2 0 j) = m ((c : Thread nD τ).loc main_arg1) (ix1 j) := by
  show V m c main_v0 (((cfg0.win 1).blk t).view.emb (ix2 0 j)) = _
  have e : ((cfg0.win 1).blk t).view.emb (ix2 0 j) = ix2 0 j := by blk_ext [e1]
  rw [V_g]
  refine (congrArg _ e).trans ?_
  pointwise

/-- An entry of the padded weight. -/
def wcell (x : S2048x6432.Idx → EReal) (k : Fin 2048) (j : Fin 6656) : EReal :=
  if h : j.val < 6432 then x (ix2 k ⟨j, h⟩) else 0

/-- The padded weight, entry by entry. -/
theorem padw (x : S2048x6432.Idx → EReal) (k : Fin 2048) (j : Fin 6656) :
    (pad S2048x6656 ![0, 0] ![0, 224] ![0, 0] (truncf (F := Ideal) .bf16 x bitsLt_bf16_f32)
      (sitofp (F := Ideal) .bf16 (constantI S_ 32 0#32)) pads_S2048x6432_S2048x6656_000_02240 h_S_ : S2048x6656.Idx → EReal) (ix2 k j)
      = wcell x k j := by
  unfold wcell
  pointwise
  exact congrArg (fun z : EReal => dite _ _ fun _ => z) (sitofp_zero _)

theorem blk2 (t : Fin cfg0.N) (k : Fin 2048) (j : Fin 1664) :
    iblk m c 2 t (ix2 k j) = wcell (m ((c : Thread nD τ).loc main_arg2)) k (col t j) := by
  show V m c main_v2 (((cfg0.win 2).blk t).view.emb (ix2 k j)) = _
  have e : ((cfg0.win 2).blk t).view.emb (ix2 k j) = ix2 k (col t j) := by unfold col; blk_ext [e2]
  rw [V_w]
  exact (congrArg _ e).trans (padw _ _ _)

/-- The scratch after point `n` holds the normalised block of that point's rows. -/
theorem scratch : ∀ (n : ℕ) (h : n < cfg0.N), (outsAt0 m c n h).2 = k0_pay1 (iblk m c 0 ⟨n, h⟩) (iblk m c 1 ⟨n, h⟩) := by
  intro n
  induction n with
  | zero =>
    intro h
    rw [outsAt0_A m c ⟨0, h⟩ rfl]
    frame_out
  | succ n ih =>
    intro h
    by_cases h0 : (n + 1) % 4 = 0
    · rw [outsAt0_A m c ⟨n + 1, h⟩ h0]
      frame_out
    · rw [outsAt0_B m c ⟨n + 1, h⟩ h0]
      unfold sout0_B_0
      refine (ih (Nat.lt_of_succ_lt h)).trans ?_
      have hN := lt_of_lt_of_eq h (show cfg0.N = 64 from N_0)
      have hrow : ∀ r, row ⟨n, Nat.lt_of_succ_lt h⟩ r = row ⟨n + 1, h⟩ r := fun r => Fin.ext (by
        show n / 4 * 1024 + r.val = (n + 1) / 4 * 1024 + r.val
        omega)
      funext y
      change S1024x2048.Idx at y
      idx_vars y
      refine (pay1_apply _ _ y0 y1).trans ((pay1_apply _ _ y0 y1).trans ?_).symm
      simp only [blk0, blk1, hrow]

/-- What point `t` stores is the product of the normalised block and the weight's block. -/
theorem stored (t : Fin cfg0.N) : (outsAt0 m c t.val t.isLt).1 = k0_pay2 (k0_pay1 (iblk m c 0 t) (iblk m c 1 t)) (iblk m c 2 t) := by
  by_cases h0 : t.val % 4 = 0
  · rw [outsAt0_A m c t h0]
    frame_out
  · have hs := scratch m c t.val t.isLt
    rw [outsAt0_B m c t h0] at hs ⊢
    unfold sout0_B_0 at hs
    frame_out
    refine congrArg (fun z => k0_pay2 z (iblk m c 2 t)) (Eq.trans ?_ hs)
    exact Memref.IsWhole.read_unread _ _

/-- The result array after the region is the plain program's value. -/
theorem final (c : Dev nD) : (dats m 0 c).arrAt 3 cfg0.N
    = InprojRefIdeal.Read.val_main_v14 (F := Ideal) (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3, stored]
  change S1024x1664.Idx at y
  idx_vars y
  have ey : ((View.whole main_v3).slice (win0_3.rect t)).emb (ix2 y0 y1) = ix2 (row t y0) (col t y1) := by
    unfold row col; blk_ext [e3]
  rw [ey, ref_apply]
  refine (pay2_apply _ _ y0 y1).trans ?_
  have hw : ∀ k, k0_pay1 (iblk m c 0 t) (iblk m c 1 t) (ix2 y0 k) * iblk m c 2 t (ix2 k y1)
      = nrm (fun x => m ((c : Thread nD τ).loc main_arg0) (ix2 (row t y0) x)) (m ((c : Thread nD τ).loc main_arg1) (ix1 k)) k
        * wcell (m ((c : Thread nD τ).loc main_arg2)) k (col t y1) := fun k => by
    rw [pay1_apply, blk2]
    simp only [blk0, blk1]
  rw [Finset.sum_congr rfl fun k _ => hw k]
  unfold wcell
  by_cases h : (col t y1).val < 6432
  · simp only [dif_pos h]
  · simp only [dif_neg h]
    exact Finset.sum_eq_zero fun k _ => mul_zero (M₀ := EReal) _

/-- The run of the blocked program, its result read as the plain program's value. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v3) = InprojRefIdeal.Read.val_main_v14 (F := Ideal)
        (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.InprojIdeal.Proj

end
-- ==== Proof.InprojAgree.lean ====
/-
  The claim about the input projection: the two programs agree on every result and keep their arguments.
-/
module

public import proofs.«01_k».proof.Defs
public import proofs.«01_k».proof.Proof.Inproj
public import proofs.«01_k».proof.Proof.Gen.InprojRefIdeal.Run

@[expose] public section

noncomputable section

open Idealize.ShloMosaic Idealize.ShloMosaic.TcCoe Idealize.SL.Sem

namespace Cert.Proof

/-- From memories agreeing on the arguments the blocked input projection and the plain one end with equal results. -/
theorem inproj_agree : algebraic_InprojIdeal_InprojRefIdeal (hInprojIdeal := Cert.InprojIdeal.Gen.facts)
    (hInprojRefIdeal := Cert.InprojRefIdeal.Gen.facts) := by
  intro m g m' g' _ hag
  refine ⟨_, Cert.InprojIdeal.Proj.run m g, ?_⟩
  refine (θ_run (Cert.InprojRefIdeal.defs (F := Ideal)) _ _).mono (fun r h c => ⟨(h c).1.trans ?_, (h c).2⟩)
    (Cert.InprojRefIdeal.Value.run m' g')
  obtain ⟨a0, a1, a2⟩ := hag c
  refine (Cert.InprojRefIdeal.Read.val_main_v14_eq _ _ _).trans ?_
  rw [a0, a1, a2]

end Cert.Proof

end
-- ==== Proof.Outproj.lean ====
/-
  The output projection: what the blocked kernel leaves in its result array, and that this is what the plain
  program computes. One grid point handles 512 rows: the two halves of the mixer's output are multiplied by the two
  halves of the weight and added, the rows are normalised by their root mean square, scaled and added to the
  residual.
-/
module

public import proofs.«01_k».proof.Proof.Gen.OutprojIdeal.Value
public import proofs.«01_k».proof.Proof.Gen.OutprojRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutprojIdeal.Proj

open Cert.OutprojIdeal Cert.OutprojIdeal.Gen

variable (m : (ℓ : Loc nD τ sig) → Buf (Elt Ideal) ℓ) (c : Dev nD)

/-- The region finds the weight as launched: the cast to bf16 is the identity over the reals. -/
theorem V_w : V m c main_v0 = (m ((c : Thread nD τ).loc main_arg3) : S2048x2048.Idx → EReal) := by
  show StableHlo.after hostOps0 (fun b => m (c, b)) (Proc.devRef .tc main_v0) = _
  after_results
  rfl

/-- The region finds the scale of the norm as a row. -/
theorem V_g : V m c main_v1 = shapeCast S1x2048 (m ((c : Thread nD τ).loc main_arg4) : S2048.Idx → EReal) shapeCasts_S2048_S1x2048 := by
  show StableHlo.after hostOps0 (fun b => m (c, b)) (Proc.devRef .tc main_v1) = _
  after_results
  rfl

/-- One entry of the projected, normalised and scaled row added to the residual: `z` is the projected row. -/
def entry (h : EReal) (z : Fin 2048 → EReal) (g : EReal) (j : Fin 2048) : EReal :=
  h + z j * Ideal.rsqrt (Ideal.div (∑ x, z x * z x) (Ideal.ofBits FTy.f32 1157627904#32) + Ideal.ofBits FTy.f32 897988541#32) * g

/-- What one grid point stores, entry by entry. -/
theorem pay_apply (v0 : Vec Ideal S512x1024 .bf16) (v1 : Vec Ideal S1024x2048 .bf16) (v4 : Vec Ideal S512x1024 .bf16)
    (v5 : Vec Ideal S1024x2048 .bf16) (v9 : Vec Ideal S512x2048 .f32) (v20 : Vec Ideal S1x2048 .f32) (r : Fin 512) (j : Fin 2048) :
    k0_pay1 v0 v1 v4 v5 v9 v20 (ix2 r j)
      = entry (v9 (ix2 r j)) (fun x => ∑ k, v0 (ix2 r k) * v1 (ix2 k x) + ∑ k, v4 (ix2 r k) * v5 (ix2 k x)) (v20 (ix2 0 j)) j := by
  pointwise [k0_pay1]
  rfl

/-- What the plain program computes, entry by entry: the sum over the concatenated row splits into its halves. -/
theorem ref_apply (x0 : S16384x2048.Idx → EReal) (x1 x2 : S16384x1024.Idx → EReal) (x3 : S2048x2048.Idx → EReal) (x4 : S2048.Idx → EReal)
    (i : Fin 16384) (j : Fin 2048) : OutprojRefIdeal.Read.val_main_v16 (F := Ideal) x0 x1 x2 x3 x4 (ix2 i j)
      = entry (x0 (ix2 i j)) (fun x => ∑ k : Fin 1024, x1 (ix2 i k) * x3 (ix2 ⟨k, by omega⟩ x)
          + ∑ k : Fin 1024, x2 (ix2 i k) * x3 (ix2 ⟨1024 + k, by omega⟩ x)) (x4 (ix1 j)) j := by
  pointwise [OutprojRefIdeal.Read.val_main_v16, OutprojRefIdeal.Read.val_main_v15, OutprojRefIdeal.Read.val_main_v12,
    OutprojRefIdeal.Read.val_main_v14, OutprojRefIdeal.Read.val_main_v13, OutprojRefIdeal.Read.val_main_v11,
    OutprojRefIdeal.Read.val_main_v10, OutprojRefIdeal.Read.val_main_v9, OutprojRefIdeal.Read.val_main_v7,
    OutprojRefIdeal.Read.val_main_v8, OutprojRefIdeal.Read.val_main_v6, OutprojRefIdeal.Read.val_main_v5,
    OutprojRefIdeal.Read.val_main_v4, OutprojRefIdeal.Read.val_main_v3, OutprojRefIdeal.Read.val_main_v2,
    OutprojRefIdeal.Read.val_main_v1, OutprojRefIdeal.Read.val_main_v0, OutprojRefIdeal.Read.val_main_cst,
    OutprojRefIdeal.Read.val_main_cst_0, OutprojRefIdeal.Read.val_main_cst_1]
  rfl

theorem e0 : ∀ t : Fin cfg0.N, win0_0.index t = ![(grid0.coords t 0).val, 0] := (by decide +kernel : ∀ t : Fin grid0.N, _)
theorem e1 : ∀ t : Fin cfg0.N, win0_1.index t = ![(grid0.coords t 0).val, 0] := (by decide +kernel : ∀ t : Fin grid0.N, _)
theorem e2 : ∀ t : Fin cfg0.N, win0_2.index t = ![(grid0.coords t 0).val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![(grid0.coords t 0).val, 0] := (by decide +kernel : ∀ t : Fin grid0.N, _)

theorem row_lt (t : Fin cfg0.N) (r : Fin 512) : (grid0.coords t 0).val * 512 + r.val < 16384 := by
  have ht : (grid0.coords t 0).val < 32 := (grid0.coords t 0).isLt
  omega

/-- The row of the whole arrays that row `r` of point `t`'s block is. -/
def row (t : Fin cfg0.N) (r : Fin 512) : Fin 16384 := ⟨(grid0.coords t 0).val * 512 + r.val, row_lt t r⟩

theorem blk0 (t : Fin cfg0.N) (r : Fin 512) (j : Fin 2048) :
    iblk m c 0 t (ix2 r j) = m ((c : Thread nD τ).loc main_arg0) (ix2 (row t r) j) := by
  show V m c main_arg0 (((cfg0.win 0).blk t).view.emb (ix2 r j)) = _
  rw [V_main_arg0]; unfold row; congr 1; blk_ext [e0]

theorem blk1 (t : Fin cfg0.N) (r : Fin 512) (j : Fin 1024) :
    iblk m c 1 t (ix2 r j) = m ((c : Thread nD τ).loc main_arg1) (ix2 (row t r) j) := by
  show V m c main_arg1 (((cfg0.win 1).blk t).view.emb (ix2 r j)) = _
  rw [V_main_arg1]; unfold row; congr 1; blk_ext [e1]

theorem blk2 (t : Fin cfg0.N) (r : Fin 512) (j : Fin 1024) :
    iblk m c 2 t (ix2 r j) = m ((c : Thread nD τ).loc main_arg2) (ix2 (row t r) j) := by
  show V m c main_arg2 (((cfg0.win 2).blk t).view.emb (ix2 r j)) = _
  rw [V_main_arg2]; unfold row; congr 1; blk_ext [e2]

theorem blk3_top (t : Fin cfg0.N) (k : Fin 1024) (j : Fin 2048) :
    View.ld (iblk m c 3 t) r0_1 (ix2 k j) = m ((c : Thread nD τ).loc main_arg3) (ix2 ⟨k, by omega⟩ j) := by
  show V m c main_v0 (((cfg0.win 3).blk t).view.emb (r0_1.emb (ix2 k j))) = _
  rw [V_w]; congr 1; blk_ext [e3, r0_1]

theorem blk3_bot (t : Fin cfg0.N) (k : Fin 1024) (j : Fin 2048) :
    View.ld (iblk m c 3 t) r0_2 (ix2 k j) = m ((c : Thread nD τ).loc main_arg3) (ix2 ⟨1024 + k, by omega⟩ j) := by
  show V m c main_v0 (((cfg0.win 3).blk t).view.emb (r0_2.emb (ix2 k j))) = _
  rw [V_w]; congr 1; blk_ext [e3, r0_2]

theorem blk4 (t : Fin cfg0.N) (j : Fin 2048) :
    iblk m c 4 t (ix2 0 j) = m ((c : Thread nD τ).loc main_arg4) (ix1 j) := by
  show V m c main_v1 (((cfg0.win 4).blk t).view.emb (ix2 0 j)) = _
  have e : ((cfg0.win 4).blk t).view.emb (ix2 0 j) = ix2 0 j := by blk_ext [e4]
  rw [V_g]
  refine (congrArg _ e).trans ?_
  pointwise

/-- The result array after the region is the plain program's value. -/
theorem final (c : Dev nD) : (dats m 0 c).arrAt 5 cfg0.N
    = OutprojRefIdeal.Read.val_main_v16 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]; frame_out
  change S512x2048.Idx at y
  idx_vars y
  have ey : ((View.whole main_v2).slice (win0_5.rect t)).emb (ix2 y0 y1) = ix2 (row t y0) y1 := by
    unfold row; blk_ext [e5]
  rw [ey, ref_apply]
  refine (pay_apply _ _ _ _ _ _ y0 y1).trans ?_
  simp only [blk0, blk1, blk2, blk3_top, blk3_bot, blk4]

/-- The run of the blocked program, its result read as the plain program's value. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v2) = OutprojRefIdeal.Read.val_main_v16 (F := Ideal)
        (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.OutprojIdeal.Proj

end
-- ==== Proof.OutprojAgree.lean ====
/-
  The claim about the output projection: the two programs agree on every result and keep their arguments.
-/
module

public import proofs.«01_k».proof.Defs
public import proofs.«01_k».proof.Proof.Outproj
public import proofs.«01_k».proof.Proof.Gen.OutprojRefIdeal.Run

@[expose] public section

noncomputable section

open Idealize.ShloMosaic Idealize.ShloMosaic.TcCoe Idealize.SL.Sem

namespace Cert.Proof

/-- From memories agreeing on the arguments the blocked output projection and the plain one end with equal results. -/
theorem outproj_agree : algebraic_OutprojIdeal_OutprojRefIdeal (hOutprojIdeal := Cert.OutprojIdeal.Gen.facts)
    (hOutprojRefIdeal := Cert.OutprojRefIdeal.Gen.facts) := by
  intro m g m' g' _ hag
  refine ⟨_, Cert.OutprojIdeal.Proj.run m g, ?_⟩
  refine (θ_run (Cert.OutprojRefIdeal.defs (F := Ideal)) _ _).mono (fun r h c => ⟨(h c).1.trans ?_, (h c).2⟩)
    (Cert.OutprojRefIdeal.Value.run m' g')
  obtain ⟨a0, a1, a2, a3, a4⟩ := hag c
  refine (Cert.OutprojRefIdeal.Read.val_main_v16_eq _ _ _ _ _).trans ?_
  rw [a0, a1, a2, a3, a4]

end Cert.Proof

end
-- ==== Proof.lean ====
/-
  The proof of the claims of this directory: the frames of the mixer, the feed-forward block and the two projections,
  and the equality over the reals of each blocked program with its plain one.
-/
module

public import proofs.«01_k».proof.Defs
public import proofs.«01_k».proof.Proof.Mix.FrameK
public import proofs.«01_k».proof.Proof.Mix.MixAgree
public import proofs.«01_k».proof.Proof.Mix.FrameI
public import proofs.«01_k».proof.Proof.Gen.ReferenceIdeal.Run
public import proofs.«01_k».proof.Proof.Gen.Ffn.Frame
public import proofs.«01_k».proof.Proof.Gen.Inproj.Frame
public import proofs.«01_k».proof.Proof.Gen.Outproj.Frame
public import proofs.«01_k».proof.Proof.Gen.InprojIdeal.Frame
public import proofs.«01_k».proof.Proof.Gen.OutprojIdeal.Frame
public import proofs.«01_k».proof.Proof.FfnAgree
public import proofs.«01_k».proof.Proof.FfsAgree
public import proofs.«01_k».proof.Proof.Gen.Ffs.Frame
public import proofs.«01_k».proof.Proof.InprojAgree
public import proofs.«01_k».proof.Proof.OutprojAgree
public import Idealize.ShloMosaic.Adequacy
public import Idealize.ShloMosaic.Init

@[expose] public section

noncomputable section

namespace Cert.Proof

open Idealize.ShloMosaic Idealize.SL.Sem

/-- The plain mixer ends with its arguments unchanged and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2,
    Idealize.ShloMosaic.sem_eq_zero_of_no_sems (by decide) r.2⟩) (Cert.ReferenceIdeal.Value.run (F := Ideal) m ρ)

/-- The plain feed-forward block ends with its arguments unchanged and declares no semaphore. -/
theorem frame_ffn_reference : Cert.quiescent_FfnRefIdeal (hFfnRefIdeal := Cert.FfnRefIdeal.Gen.facts) := fun m ρ _ =>
  (θ_run Cert.FfnRefIdeal.defs _ _).mono (fun r h => ⟨fun c => (h c).2,
    Idealize.ShloMosaic.sem_eq_zero_of_no_sems (by decide) r.2⟩) (Cert.FfnRefIdeal.Value.run (F := Ideal) m ρ)

/-- The plain feed-forward block of the sample rows ends with its arguments unchanged and declares no semaphore. -/
theorem frame_ffs_reference : Cert.quiescent_FfsRefIdeal (hFfsRefIdeal := Cert.FfsRefIdeal.Gen.facts) := fun m ρ _ =>
  (θ_run Cert.FfsRefIdeal.defs _ _).mono (fun r h => ⟨fun c => (h c).2,
    Idealize.ShloMosaic.sem_eq_zero_of_no_sems (by decide) r.2⟩) (Cert.FfsRefIdeal.Value.run (F := Ideal) m ρ)

/-- The plain input projection ends with its arguments unchanged and declares no semaphore. -/
theorem frame_inproj_reference : Cert.quiescent_InprojRefIdeal (hInprojRefIdeal := Cert.InprojRefIdeal.Gen.facts) := fun m ρ _ =>
  (θ_run Cert.InprojRefIdeal.defs _ _).mono (fun r h => ⟨fun c => (h c).2,
    Idealize.ShloMosaic.sem_eq_zero_of_no_sems (by decide) r.2⟩) (Cert.InprojRefIdeal.Value.run (F := Ideal) m ρ)

/-- The plain output projection ends with its arguments unchanged and declares no semaphore. -/
theorem frame_outproj_reference : Cert.quiescent_OutprojRefIdeal (hOutprojRefIdeal := Cert.OutprojRefIdeal.Gen.facts) := fun m ρ _ =>
  (θ_run Cert.OutprojRefIdeal.defs _ _).mono (fun r h => ⟨fun c => (h c).2,
    Idealize.ShloMosaic.sem_eq_zero_of_no_sems (by decide) r.2⟩) (Cert.OutprojRefIdeal.Value.run (F := Ideal) m ρ)

/-- All the claims. -/
theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.Outproj.Gen.facts, Cert.OutprojIdeal.Gen.facts, Cert.OutprojRefIdeal.Gen.facts,
  Cert.Ffs.Gen.facts, Cert.FfsIdeal.Gen.facts, Cert.FfsRefIdeal.Gen.facts, Cert.Pre_finite_args.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.Ffn.Gen.frame m ρ, fun m ρ _ => Cert.FfnIdeal.Gen.frame m ρ, frame_ffn_reference,
  fun m ρ _ => Cert.Inproj.Gen.frame m ρ, fun m ρ _ => Cert.InprojIdeal.Gen.frame m ρ, frame_inproj_reference,
  fun m ρ _ => Cert.Outproj.Gen.frame m ρ, fun m ρ _ => Cert.OutprojIdeal.Gen.frame m ρ, frame_outproj_reference,
  fun m ρ _ => Cert.Ffs.Gen.frame m ρ, fun m ρ _ => Cert.FfsIdeal.Gen.frame m ρ, frame_ffs_reference,
  trivial, mix_agree, trivial, ffn_agree, trivial, inproj_agree, trivial, outproj_agree, trivial, ffs_agree⟩

end Cert.Proof

end
